-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3))
      ∧ r.2.sem = fun _ => 0)

def preserves_Kernel_KernelIdeal : Prop :=
  IdealRules.named_const.Statement Cert.KernelIdeal.κ "qs" .f32 0x3E38AA3B#32 (((1 / 8) * (Real.log 2)⁻¹ : ℝ) : EReal)
  ∧ IdealRules.named_const.Statement Cert.KernelIdeal.κ "neg" .f32 0xF149F2CA#32 ⊥

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v28) = v0 c
          ∧ r.2.mem ((c.tc : Thread Cert.MixReferenceIdeal.nD Cert.MixReferenceIdeal.τ).loc Cert.MixReferenceIdeal.main_v43) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v53_0)) (v1 : (c : Dev Cert.InProjIdeal.nD) → Buf (Elt Ideal) ((c.tc : Thread Cert.InProjIdeal.nD Cert.InProjIdeal.τ).loc Cert.InProjIdeal.main_v53_1)) (v2 : (c : Dev Cert.InProjIdeal.nD) → Buf (Elt Ideal) ((c.tc : Thread Cert.InProjIdeal.nD Cert.InProjIdeal.τ).loc Cert.InProjIdeal.main_v53_2)) (v3 : (c : Dev Cert.InProjIdeal.nD) → Buf (Elt Ideal) ((c.tc : Thread Cert.InProjIdeal.nD Cert.InProjIdeal.τ).loc Cert.InProjIdeal.main_v53_3)) (v4 : (c : Dev Cert.InProjIdeal.nD) → Buf (Elt Ideal) ((c.tc : Thread Cert.InProjIdeal.nD Cert.InProjIdeal.τ).loc Cert.InProjIdeal.main_v53_4)) (v5 : (c : Dev Cert.InProjIdeal.nD) → Buf (Elt Ideal) ((c.tc : Thread Cert.InProjIdeal.nD Cert.InProjIdeal.τ).loc Cert.InProjIdeal.main_v53_5)) (v6 : (c : Dev Cert.InProjIdeal.nD) → Buf (Elt Ideal) ((c.tc : Thread Cert.InProjIdeal.nD Cert.InProjIdeal.τ).loc Cert.InProjIdeal.main_v53_6)) (v7 : (c : Dev Cert.InProjIdeal.nD) → Buf (Elt Ideal) ((c.tc : Thread Cert.InProjIdeal.nD Cert.InProjIdeal.τ).loc Cert.InProjIdeal.main_v53_7)) (v8 : (c : Dev Cert.InProjIdeal.nD) → Buf (Elt Ideal) ((c.tc : Thread Cert.InProjIdeal.nD Cert.InProjIdeal.τ).loc Cert.InProjIdeal.main_v53_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v53_0) = v0 c
          ∧ r.2.mem ((c.tc : Thread Cert.InProjIdeal.nD Cert.InProjIdeal.τ).loc Cert.InProjIdeal.main_v53_1) = v1 c
          ∧ r.2.mem ((c.tc : Thread Cert.InProjIdeal.nD Cert.InProjIdeal.τ).loc Cert.InProjIdeal.main_v53_2) = v2 c
          ∧ r.2.mem ((c.tc : Thread Cert.InProjIdeal.nD Cert.InProjIdeal.τ).loc Cert.InProjIdeal.main_v53_3) = v3 c
          ∧ r.2.mem ((c.tc : Thread Cert.InProjIdeal.nD Cert.InProjIdeal.τ).loc Cert.InProjIdeal.main_v53_4) = v4 c
          ∧ r.2.mem ((c.tc : Thread Cert.InProjIdeal.nD Cert.InProjIdeal.τ).loc Cert.InProjIdeal.main_v53_5) = v5 c
          ∧ r.2.mem ((c.tc : Thread Cert.InProjIdeal.nD Cert.InProjIdeal.τ).loc Cert.InProjIdeal.main_v53_6) = v6 c
          ∧ r.2.mem ((c.tc : Thread Cert.InProjIdeal.nD Cert.InProjIdeal.τ).loc Cert.InProjIdeal.main_v53_7) = v7 c
          ∧ r.2.mem ((c.tc : Thread Cert.InProjIdeal.nD Cert.InProjIdeal.τ).loc Cert.InProjIdeal.main_v53_8) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v108) = v0 c
          ∧ r.2.mem ((c.tc : Thread Cert.InProjReferenceIdeal.nD Cert.InProjReferenceIdeal.τ).loc Cert.InProjReferenceIdeal.main_v145) = v1 c
          ∧ r.2.mem ((c.tc : Thread Cert.InProjReferenceIdeal.nD Cert.InProjReferenceIdeal.τ).loc Cert.InProjReferenceIdeal.main_v147) = v2 c
          ∧ r.2.mem ((c.tc : Thread Cert.InProjReferenceIdeal.nD Cert.InProjReferenceIdeal.τ).loc Cert.InProjReferenceIdeal.main_v149) = v3 c
          ∧ r.2.mem ((c.tc : Thread Cert.InProjReferenceIdeal.nD Cert.InProjReferenceIdeal.τ).loc Cert.InProjReferenceIdeal.main_v151) = v4 c
          ∧ r.2.mem ((c.tc : Thread Cert.InProjReferenceIdeal.nD Cert.InProjReferenceIdeal.τ).loc Cert.InProjReferenceIdeal.main_v152) = v5 c
          ∧ r.2.mem ((c.tc : Thread Cert.InProjReferenceIdeal.nD Cert.InProjReferenceIdeal.τ).loc Cert.InProjReferenceIdeal.main_v153) = v6 c
          ∧ r.2.mem ((c.tc : Thread Cert.InProjReferenceIdeal.nD Cert.InProjReferenceIdeal.τ).loc Cert.InProjReferenceIdeal.main_v101) = v7 c
          ∧ r.2.mem ((c.tc : Thread Cert.InProjReferenceIdeal.nD Cert.InProjReferenceIdeal.τ).loc Cert.InProjReferenceIdeal.main_v20) = v8 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2_0)) (v1 : (c : Dev Cert.MemKvIdeal.nD) → Buf (Elt Ideal) ((c.tc : Thread Cert.MemKvIdeal.nD Cert.MemKvIdeal.τ).loc Cert.MemKvIdeal.main_v2_1)) (v2 : (c : Dev Cert.MemKvIdeal.nD) → Buf (Elt Ideal) ((c.tc : Thread Cert.MemKvIdeal.nD Cert.MemKvIdeal.τ).loc Cert.MemKvIdeal.main_v2_2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2_0) = v0 c
          ∧ r.2.mem ((c.tc : Thread Cert.MemKvIdeal.nD Cert.MemKvIdeal.τ).loc Cert.MemKvIdeal.main_v2_1) = v1 c
          ∧ r.2.mem ((c.tc : Thread Cert.MemKvIdeal.nD Cert.MemKvIdeal.τ).loc Cert.MemKvIdeal.main_v2_2) = v2 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v13) = v0 c
          ∧ r.2.mem ((c.tc : Thread Cert.MemKvReferenceIdeal.nD Cert.MemKvReferenceIdeal.τ).loc Cert.MemKvReferenceIdeal.main_v20) = v1 c
          ∧ r.2.mem ((c.tc : Thread Cert.MemKvReferenceIdeal.nD Cert.MemKvReferenceIdeal.τ).loc Cert.MemKvReferenceIdeal.main_v22) = v2 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)) →
    ∃ (v0 : (c : Dev Cert.CompressIdeal.nD) → Buf (Elt Ideal) ((c.tc : Thread Cert.CompressIdeal.nD Cert.CompressIdeal.τ).loc Cert.CompressIdeal.main_v29)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v29) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v37) = v0 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3))

def Claim : Prop :=
  ∃ (hKernel : Cert.Kernel.Facts) (hKernelIdeal : Cert.KernelIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hInProj : Cert.InProj.Facts) (hInProjIdeal : Cert.InProjIdeal.Facts) (hInProjReferenceIdeal : Cert.InProjReferenceIdeal.Facts) (hMemKv : Cert.MemKv.Facts) (hMemKvIdeal : Cert.MemKvIdeal.Facts) (hMemKvReferenceIdeal : Cert.MemKvReferenceIdeal.Facts) (hCompress : Cert.Compress.Facts) (hCompressIdeal : Cert.CompressIdeal.Facts) (hCompressReferenceIdeal : Cert.CompressReferenceIdeal.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_Compress (hCompress := hCompress)
    ∧ quiescent_CompressIdeal (hCompressIdeal := hCompressIdeal)
    ∧ quiescent_CompressReferenceIdeal (hCompressReferenceIdeal := hCompressReferenceIdeal)
    ∧ preserves_Kernel_KernelIdeal
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
    ∧ preserves_InProj_InProjIdeal
    ∧ algebraic_InProjIdeal_InProjReferenceIdeal (hInProjIdeal := hInProjIdeal) (hInProjReferenceIdeal := hInProjReferenceIdeal)
    ∧ preserves_MemKv_MemKvIdeal
    ∧ algebraic_MemKvIdeal_MemKvReferenceIdeal (hMemKvIdeal := hMemKvIdeal) (hMemKvReferenceIdeal := hMemKvReferenceIdeal)
    ∧ preserves_Compress_CompressIdeal
    ∧ algebraic_CompressIdeal_CompressReferenceIdeal (hCompressIdeal := hCompressIdeal) (hCompressReferenceIdeal := hCompressReferenceIdeal)
-- ==== Kernel.lean ====
abbrev S16384x512 : Shape := ⟨2, ![16384, 512]⟩
abbrev S16384x128 : Shape := ⟨2, ![16384, 128]⟩
abbrev S2x512x256 : Shape := ⟨3, ![2, 512, 256]⟩
abbrev S16384x256 : Shape := ⟨2, ![16384, 256]⟩
abbrev S16384x2x4x1x64 : Shape := ⟨5, ![16384, 2, 4, 1, 64]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S1x2x1x2x1 : Shape := ⟨5, ![1, 2, 1, 2, 1]⟩
abbrev S_ : Shape := ⟨0, ![]⟩
abbrev S16384x2x4x2x64 : Shape := ⟨5, ![16384, 2, 4, 2, 64]⟩
abbrev S16384x1024 : Shape := ⟨2, ![16384, 1024]⟩
abbrev S512 : Shape := ⟨1, ![512]⟩
abbrev S1x512 : Shape := ⟨2, ![1, 512]⟩
abbrev S128 : Shape := ⟨1, ![128]⟩
abbrev S128x1 : Shape := ⟨2, ![128, 1]⟩
abbrev S128x512 : Shape := ⟨2, ![128, 512]⟩
abbrev S128x1024 : Shape := ⟨2, ![128, 1024]⟩
abbrev S128x128 : Shape := ⟨2, ![128, 128]⟩
abbrev S1x512x256 : Shape := ⟨3, ![1, 512, 256]⟩
abbrev S8192x256 : Shape := ⟨2, ![8192, 256]⟩
abbrev S144x8192 : Shape := ⟨2, ![144, 8192]⟩
abbrev S272x512 : Shape := ⟨2, ![272, 512]⟩
abbrev S1x512x128 : Shape := ⟨3, ![1, 512, 128]⟩
abbrev S512x128 : Shape := ⟨2, ![512, 128]⟩
abbrev S16x512 : Shape := ⟨2, ![16, 512]⟩
abbrev S128x256 : Shape := ⟨2, ![128, 256]⟩
abbrev S16x128 : Shape := ⟨2, ![16, 128]⟩
abbrev S144x128 : Shape := ⟨2, ![144, 128]⟩
abbrev S1x1024 : Shape := ⟨2, ![1, 1024]⟩
abbrev S1024x128 : Shape := ⟨2, ![1024, 128]⟩
abbrev S512x1 : Shape := ⟨2, ![512, 1]⟩
abbrev S512x1024 : Shape := ⟨2, ![512, 1024]⟩
abbrev S1024 : Shape := ⟨1, ![1024]⟩
abbrev S272x1024 : Shape := ⟨2, ![272, 1024]⟩
abbrev S640x128 : Shape := ⟨2, ![640, 128]⟩
abbrev S640x1024 : Shape := ⟨2, ![640, 1024]⟩
abbrev S640x1 : Shape := ⟨2, ![640, 1]⟩
abbrev S144x640 : Shape := ⟨2, ![144, 640]⟩
abbrev S144x1024 : Shape := ⟨2, ![144, 1024]⟩
abbrev S1x256 : Shape := ⟨2, ![1, 256]⟩
abbrev S256 : Shape := ⟨1, ![256]⟩
abbrev S1024x256 : Shape := ⟨2, ![1024, 256]⟩
abbrev S2048x256 : Shape := ⟨2, ![2048, 256]⟩
abbrev S2048x1024 : Shape := ⟨2, ![2048, 1024]⟩
abbrev S144x2048 : Shape := ⟨2, ![144, 2048]⟩
abbrev S1024x1024 : Shape := ⟨2, ![1024, 1024]⟩
abbrev S512x256 : Shape := ⟨2, ![512, 256]⟩
abbrev S144x512 : Shape := ⟨2, ![144, 512]⟩
abbrev S1x128 : Shape := ⟨2, ![1, 128]⟩
abbrev S64x128 : Shape := ⟨2, ![64, 128]⟩

abbrev nBuf : Space → Nat
  | .hbm => 84
  | .vmem => 17
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x128, .f32⟩
  | .hbm, ⟨3, _⟩ => ⟨S2x512x256, .bf16⟩
  | .hbm, ⟨4, _⟩ => ⟨S16384x256, .bf16⟩
  | .hbm, ⟨5, _⟩ => ⟨S16384x256, .bf16⟩
  | .hbm, ⟨6, _⟩ => ⟨S16384x2x4x1x64, .f32⟩
  | .hbm, ⟨7, _⟩ => ⟨S2, .i32⟩
  | .hbm, ⟨8, _⟩ => ⟨S2x1, .i32⟩
  | .hbm, ⟨9, _⟩ => ⟨S2, .i32⟩
  | .hbm, ⟨10, _⟩ => ⟨S1x2, .i32⟩
  | .hbm, ⟨11, _⟩ => ⟨S2x2, .i32⟩
  | .hbm, ⟨12, _⟩ => ⟨S2x2, .i32⟩
  | .hbm, ⟨13, _⟩ => ⟨S2x2, .i1⟩
  | .hbm, ⟨14, _⟩ => ⟨S1x2x1x2x1, .i1⟩
  | .hbm, ⟨15, _⟩ => ⟨S_, .f32⟩
  | .hbm, ⟨16, _⟩ => ⟨S_, .f32⟩
  | .hbm, ⟨17, _⟩ => ⟨S16384x2x4x2x64, .i1⟩
  | .hbm, ⟨18, _⟩ => ⟨S16384x2x4x2x64, .f32⟩
  | .hbm, ⟨19, _⟩ => ⟨S16384x2x4x2x64, .f32⟩
  | .hbm, ⟨20, _⟩ => ⟨S16384x2x4x2x64, .f32⟩
  | .hbm, ⟨21, _⟩ => ⟨S16384x1024, .f32⟩
  | .hbm, ⟨22, _⟩ => ⟨S16384x2x4x1x64, .f32⟩
  | .hbm, ⟨23, _⟩ => ⟨S2, .i32⟩
  | .hbm, ⟨24, _⟩ => ⟨S2x1, .i32⟩
  | .hbm, ⟨25, _⟩ => ⟨S2, .i32⟩
  | .hbm, ⟨26, _⟩ => ⟨S1x2, .i32⟩
  | .hbm, ⟨27, _⟩ => ⟨S2x2, .i32⟩
  | .hbm, ⟨28, _⟩ => ⟨S2x2, .i32⟩
  | .hbm, ⟨29, _⟩ => ⟨S2x2, .i1⟩
  | .hbm, ⟨30, _⟩ => ⟨S1x2x1x2x1, .i1⟩
  | .hbm, ⟨31, _⟩ => ⟨S_, .f32⟩
  | .hbm, ⟨32, _⟩ => ⟨S_, .f32⟩
  | .hbm, ⟨33, _⟩ => ⟨S16384x2x4x2x64, .i1⟩
  | .hbm, ⟨34, _⟩ => ⟨S16384x2x4x2x64, .f32⟩
  | .hbm, ⟨35, _⟩ => ⟨S16384x2x4x2x64, .f32⟩
  | .hbm, ⟨36, _⟩ => ⟨S16384x2x4x2x64, .f32⟩
  | .hbm, ⟨37, _⟩ => ⟨S16384x1024, .f32⟩
  | .hbm, ⟨38, _⟩ => ⟨S512, .i32⟩
  | .hbm, ⟨39, _⟩ => ⟨S1x512, .i32⟩
  | .hbm, ⟨40, _⟩ => ⟨S128, .i32⟩
  | .hbm, ⟨41, _⟩ => ⟨S128x1, .i32⟩
  | .hbm, ⟨42, _⟩ => ⟨S_, .i32⟩
  | .hbm, ⟨43, _⟩ => ⟨S1x512, .i32⟩
  | .hbm, ⟨44, _⟩ => ⟨S1x512, .i32⟩
  | .hbm, ⟨45, _⟩ => ⟨S_, .i32⟩
  | .hbm, ⟨46, _⟩ => ⟨S1x512, .i32⟩
  | .hbm, ⟨47, _⟩ => ⟨S1x512, .i32⟩
  | .hbm, ⟨48, _⟩ => ⟨S_, .i32⟩
  | .hbm, ⟨49, _⟩ => ⟨S1x512, .i32⟩
  | .hbm, ⟨50, _⟩ => ⟨S1x512, .i32⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S_, .i32⟩
  | .hbm, ⟨55, _⟩ => ⟨S128x1, .i32⟩
  | .hbm, ⟨56, _⟩ => ⟨S128x1, .i32⟩
  | .hbm, ⟨57, _⟩ => ⟨S128x512, .i32⟩
  | .hbm, ⟨58, _⟩ => ⟨S128x512, .i32⟩
  | .hbm, ⟨59, _⟩ => ⟨S128x512, .i32⟩
  | .hbm, ⟨60, _⟩ => ⟨S_, .i32⟩
  | .hbm, ⟨61, _⟩ => ⟨S128x1, .i32⟩
  | .hbm, ⟨62, _⟩ => ⟨S128x1, .i32⟩
  | .hbm, ⟨63, _⟩ => ⟨S128x512, .i32⟩
  | .hbm, ⟨64, _⟩ => ⟨S128x512, .i32⟩
  | .hbm, ⟨65, _⟩ => ⟨S128x512, .i32⟩
  | .hbm, ⟨66, _⟩ => ⟨S128x512, .i32⟩
  | .hbm, ⟨67, _⟩ => ⟨S_, .i32⟩
  | .hbm, ⟨68, _⟩ => ⟨S128x512, .i32⟩
  | .hbm, ⟨69, _⟩ => ⟨S128x512, .i32⟩
  | .hbm, ⟨70, _⟩ => ⟨S_, .i32⟩
  | .hbm, ⟨71, _⟩ => ⟨S1x512, .i32⟩
  | .hbm, ⟨72, _⟩ => ⟨S1x512, .i1⟩
  | .hbm, ⟨73, _⟩ => ⟨S128x512, .f32⟩
  | .hbm, ⟨74, _⟩ => ⟨S_, .f32⟩
  | .hbm, ⟨75, _⟩ => ⟨S128x512, .f32⟩
  | .hbm, ⟨76, _⟩ => ⟨S128x512, .f32⟩
  | .hbm, ⟨77, _⟩ => ⟨S_, .f32⟩
  | .hbm, ⟨78, _⟩ => ⟨S_, .f32⟩
  | .hbm, ⟨79, _⟩ => ⟨S128x512, .i1⟩
  | .hbm, ⟨80, _⟩ => ⟨S128x512, .f32⟩
  | .hbm, ⟨81, _⟩ => ⟨S128x512, .f32⟩
  | .hbm, ⟨82, _⟩ => ⟨S128x512, .bf16⟩
  | .hbm, ⟨83, _⟩ => ⟨S16384x512, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S1x512x256, .bf16⟩
  | .local _ .vmem, ⟨7, _⟩ => ⟨S1x512x256, .bf16⟩
  | .local _ .vmem, ⟨8, _⟩ => ⟨S8192x256, .bf16⟩
  | .local _ .vmem, ⟨9, _⟩ => ⟨S8192x256, .bf16⟩
  | .local _ .vmem, ⟨10, _⟩ => ⟨S128x512, .bf16⟩
  | .local _ .vmem, ⟨11, _⟩ => ⟨S128x512, .f32⟩
  | .local _ .vmem, ⟨12, _⟩ => ⟨S128x512, .f32⟩
  | .local _ .vmem, ⟨13, _⟩ => ⟨S8192x256, .bf16⟩
  | .local _ .vmem, ⟨14, _⟩ => ⟨S144x8192, .bf16⟩
  | .local _ .vmem, ⟨15, _⟩ => ⟨S144x8192, .bf16⟩
  | .local _ .vmem, ⟨16, _⟩ => ⟨S272x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c : Ref sig .tc := ⟨.hbm, 42, rfl⟩
abbrev main_v26 : Ref sig .tc := ⟨.hbm, 43, rfl⟩
abbrev main_v27 : Ref sig .tc := ⟨.hbm, 44, rfl⟩
abbrev main_c_1 : Ref sig .tc := ⟨.hbm, 45, rfl⟩
abbrev main_v28 : Ref sig .tc := ⟨.hbm, 46, rfl⟩
abbrev main_v29 : Ref sig .tc := ⟨.hbm, 47, rfl⟩
abbrev main_c_2 : Ref sig .tc := ⟨.hbm, 48, rfl⟩
abbrev main_v30 : Ref sig .tc := ⟨.hbm, 49, rfl⟩
abbrev main_v31 : Ref sig .tc := ⟨.hbm, 50, rfl⟩
abbrev main_c_3 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_v45 : Ref sig .tc := ⟨.hbm, 68, rfl⟩
abbrev main_v46 : Ref sig .tc := ⟨.hbm, 69, rfl⟩
abbrev main_c_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v16 : Index := Scalar.indexCast v1
  let c0 : Index := 0#32
  ![v16.toNat, 0]
def k0_off2 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v20 : Index := Scalar.indexCast v1
  let c0_2 : Index := 0#32
  ![v20.toNat, 0]
def k0_off3 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v24 : Index := Scalar.indexCast v1
  let c128 : Index := 128#32
  ![v24.toNat, 128]
def k0_off4 (i : grid0.Coords) : Fin 2 → Nat :=
  let c0_6 : Index := 0#32
  let arg1 : BitVec 32 := BitVec.ofNat 32 (i 1).val
  let c128_i32 : BitVec 32 := 128#32
  let v0 : BitVec 32 := Scalar.muli arg1 c128_i32
  let v1 : BitVec 32 := v0
  let v37 : Index := Scalar.indexCast v1
  ![0, v37.toNat]
def k0_mult2 (i : grid0.Coords) : BitVec 32 :=
  let arg1 : BitVec 32 := BitVec.ofNat 32 (i 1).val
  let c128_i32 : BitVec 32 := 128#32
  let v0 : BitVec 32 := Scalar.muli arg1 c128_i32
  let v1 : BitVec 32 := v0
  let c512_i32 : BitVec 32 := 512#32
  let v143 : BitVec 32 := Scalar.subi v1 c512_i32
  let c0_i32_52 : BitVec 32 := 0#32
  let v144 : BitVec 32 := Scalar.maxsi v143 c0_i32_52
  v144
def k0_off5 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let c512_i32 : BitVec 32 := 512#32
  let v143 : BitVec 32 := Scalar.subi v1 c512_i32
  let c0_i32_52 : BitVec 32 := 0#32
  let v144 : BitVec 32 := Scalar.maxsi v143 c0_i32_52
  let v145 : BitVec 32 := v144
  let v146 : Index := Scalar.indexCast v145
  let c0_53 : Index := 0#32
  ![v146.toNat, 0]
def k0_off6 (i : grid0.Coords) : Fin 2 → Nat :=
  let c0_58 : Index := 0#32
  let arg1 : BitVec 32 := BitVec.ofNat 32 (i 1).val
  let c128_i32 : BitVec 32 := 128#32
  let v0 : BitVec 32 := Scalar.muli arg1 c128_i32
  let v1 : BitVec 32 := v0
  let c512_i32 : BitVec 32 := 512#32
  let v143 : BitVec 32 := Scalar.subi v1 c512_i32
  let c0_i32_52 : BitVec 32 := 0#32
  let v144 : BitVec 32 := Scalar.maxsi v143 c0_i32_52
  let v145 : BitVec 32 := v144
  let v174 : Index := Scalar.indexCast v145
  ![0, v174.toNat]
@[reducible] def k0_t1_loop (i : grid0.Coords) : Scf.Loop 32 :=
  let c0_i32_166 : BitVec 32 := 0#32
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_160 : BitVec 32 := 0#32
  let v487 : BitVec 1 := Scalar.cmpi .sgt v483 c0_i32_160
  let v488 : BitVec 32 := Scalar.extui v487
  let c0_i32_161 : BitVec 32 := 0#32
  let v489 : BitVec 1 := Scalar.cmpi .slt v483 c0_i32_161
  let v490 : BitVec 32 := Scalar.extui v489
  let v491 : BitVec 32 := Scalar.subi v488 v490
  let c2_i32 : BitVec 32 := 2#32
  let c0_i32_162 : BitVec 32 := 0#32
  let v492 : BitVec 1 := Scalar.cmpi .sgt c2_i32 c0_i32_162
  let v493 : BitVec 32 := Scalar.extui v492
  let c0_i32_163 : BitVec 32 := 0#32
  let v494 : BitVec 1 := Scalar.cmpi .slt c2_i32 c0_i32_163
  let v495 : BitVec 32 := Scalar.extui v494
  let v496 : BitVec 32 := Scalar.subi v493 v495
  let v497 : BitVec 1 := Scalar.cmpi .ne v491 v496
  let v498 : BitVec 32 := Scalar.remsi v483 c2_i32
  let c0_i32_164 : BitVec 32 := 0#32
  let v499 : BitVec 1 := Scalar.cmpi .ne v498 c0_i32_164
  let v500 : BitVec 1 := Scalar.andi v497 v499
  let v486 : BitVec 32 := Scalar.divsi v483 c2_i32
  let c1_i32_165 : BitVec 32 := 1#32
  let v501 : BitVec 32 := Scalar.subi v486 c1_i32_165
  let v502 : BitVec 32 := Scalar.select v500 v501 v486
  let v503 : BitVec 32 := Scalar.subi v502 c0_i32_166
  let c1_i32_167 : BitVec 32 := 1#32
  let v505 : BitVec 32 := Scalar.divsi v503 c1_i32_167
  let v506 : BitVec 32 := Scalar.muli v505 c1_i32_167
  let v507 : BitVec 32 := Scalar.addi c0_i32_166 v506
  let c1_i32_168 : BitVec 32 := 1#32
  ⟨c0_i32_166, v507, c1_i32_168⟩
def k0_mult3 (i : grid0.Coords) (k0_t1 : Fin (k0_t1_loop i).trips) : BitVec 32 :=
  let c2_i32_230 : BitVec 32 := 2#32
  let c0_i32_166 : BitVec 32 := 0#32
  let c1_i32_168 : BitVec 32 := 1#32
  let arg14 : BitVec 32 := Scf.iv c0_i32_166 c1_i32_168 k0_t1
  let v772 : BitVec 32 := Scalar.muli c2_i32_230 arg14
  let c2048_i32_231 : BitVec 32 := 2048#32
  let v773 : BitVec 32 := Scalar.muli v772 c2048_i32_231
  v773
def k0_off7 (i : grid0.Coords) (k0_t1 : Fin (k0_t1_loop i).trips) : Fin 2 → Nat :=
  let c2_i32_230 : BitVec 32 := 2#32
  let c0_i32_166 : BitVec 32 := 0#32
  let c1_i32_168 : BitVec 32 := 1#32
  let arg14 : BitVec 32 := Scf.iv c0_i32_166 c1_i32_168 k0_t1
  let v772 : BitVec 32 := Scalar.muli c2_i32_230 arg14
  let c2048_i32_231 : BitVec 32 := 2048#32
  let v773 : BitVec 32 := Scalar.muli v772 c2048_i32_231
  let v774 : BitVec 32 := v773
  let v775 : Index := Scalar.indexCast v774
  let c0_232 : Index := 0#32
  ![v775.toNat, 0]
def k0_off8 (i : grid0.Coords) (k0_t1 : Fin (k0_t1_loop i).trips) : Fin 2 → Nat :=
  let c0_235 : Index := 0#32
  let c2_i32_230 : BitVec 32 := 2#32
  let c0_i32_166 : BitVec 32 := 0#32
  let c1_i32_168 : BitVec 32 := 1#32
  let arg14 : BitVec 32 := Scf.iv c0_i32_166 c1_i32_168 k0_t1
  let v772 : BitVec 32 := Scalar.muli c2_i32_230 arg14
  let c2048_i32_231 : BitVec 32 := 2048#32
  let v773 : BitVec 32 := Scalar.muli v772 c2048_i32_231
  let v774 : BitVec 32 := v773
  let v789 : Index := Scalar.indexCast v774
  ![0, v789.toNat]
def k0_mult4 (i : grid0.Coords) (k0_t1 : Fin (k0_t1_loop i).trips) : BitVec 32 :=
  let c2_i32_228 : BitVec 32 := 2#32
  let c0_i32_166 : BitVec 32 := 0#32
  let c1_i32_168 : BitVec 32 := 1#32
  let arg14 : BitVec 32 := Scf.iv c0_i32_166 c1_i32_168 k0_t1
  let v770 : BitVec 32 := Scalar.muli c2_i32_228 arg14
  let c1_i32_229 : BitVec 32 := 1#32
  let v771 : BitVec 32 := Scalar.addi v770 c1_i32_229
  let c2048_i32_237 : BitVec 32 := 2048#32
  let v793 : BitVec 32 := Scalar.muli v771 c2048_i32_237
  v793
def k0_off9 (i : grid0.Coords) (k0_t1 : Fin (k0_t1_loop i).trips) : Fin 2 → Nat :=
  let c2_i32_228 : BitVec 32 := 2#32
  let c0_i32_166 : BitVec 32 := 0#32
  let c1_i32_168 : BitVec 32 := 1#32
  let arg14 : BitVec 32 := Scf.iv c0_i32_166 c1_i32_168 k0_t1
  let v770 : BitVec 32 := Scalar.muli c2_i32_228 arg14
  let c1_i32_229 : BitVec 32 := 1#32
  let v771 : BitVec 32 := Scalar.addi v770 c1_i32_229
  let c2048_i32_237 : BitVec 32 := 2048#32
  let v793 : BitVec 32 := Scalar.muli v771 c2048_i32_237
  let v794 : BitVec 32 := v793
  let v795 : Index := Scalar.indexCast v794
  let c0_238 : Index := 0#32
  ![v795.toNat, 0]
def k0_off10 (i : grid0.Coords) (k0_t1 : Fin (k0_t1_loop i).trips) : Fin 2 → Nat :=
  let c0_241 : Index := 0#32
  let c2_i32_228 : BitVec 32 := 2#32
  let c0_i32_166 : BitVec 32 := 0#32
  let c1_i32_168 : BitVec 32 := 1#32
  let arg14 : BitVec 32 := Scf.iv c0_i32_166 c1_i32_168 k0_t1
  let v770 : BitVec 32 := Scalar.muli c2_i32_228 arg14
  let c1_i32_229 : BitVec 32 := 1#32
  let v771 : BitVec 32 := Scalar.addi v770 c1_i32_229
  let c2048_i32_237 : BitVec 32 := 2048#32
  let v793 : BitVec 32 := Scalar.muli v771 c2048_i32_237
  let v794 : BitVec 32 := v793
  let v809 : Index := Scalar.indexCast v794
  ![0, v809.toNat]
@[reducible] def k0_t2_loop (i : grid0.Coords) : Scf.Loop 32 :=
  let c0_i32_166 : BitVec 32 := 0#32
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_160 : BitVec 32 := 0#32
  let v487 : BitVec 1 := Scalar.cmpi .sgt v483 c0_i32_160
  let v488 : BitVec 32 := Scalar.extui v487
  let c0_i32_161 : BitVec 32 := 0#32
  let v489 : BitVec 1 := Scalar.cmpi .slt v483 c0_i32_161
  let v490 : BitVec 32 := Scalar.extui v489
  let v491 : BitVec 32 := Scalar.subi v488 v490
  let c2_i32 : BitVec 32 := 2#32
  let c0_i32_162 : BitVec 32 := 0#32
  let v492 : BitVec 1 := Scalar.cmpi .sgt c2_i32 c0_i32_162
  let v493 : BitVec 32 := Scalar.extui v492
  let c0_i32_163 : BitVec 32 := 0#32
  let v494 : BitVec 1 := Scalar.cmpi .slt c2_i32 c0_i32_163
  let v495 : BitVec 32 := Scalar.extui v494
  let v496 : BitVec 32 := Scalar.subi v493 v495
  let v497 : BitVec 1 := Scalar.cmpi .ne v491 v496
  let v498 : BitVec 32 := Scalar.remsi v483 c2_i32
  let c0_i32_164 : BitVec 32 := 0#32
  let v499 : BitVec 1 := Scalar.cmpi .ne v498 c0_i32_164
  let v500 : BitVec 1 := Scalar.andi v497 v499
  let v486 : BitVec 32 := Scalar.divsi v483 c2_i32
  let c1_i32_165 : BitVec 32 := 1#32
  let v501 : BitVec 32 := Scalar.subi v486 c1_i32_165
  let v502 : BitVec 32 := Scalar.select v500 v501 v486
  let v503 : BitVec 32 := Scalar.subi v502 c0_i32_166
  let c1_i32_167 : BitVec 32 := 1#32
  let v505 : BitVec 32 := Scalar.divsi v503 c1_i32_167
  let v506 : BitVec 32 := Scalar.muli v505 c1_i32_167
  let v507 : BitVec 32 := Scalar.addi c0_i32_166 v506
  let v504 : BitVec 32 := Scalar.addi c0_i32_166 v503
  let c1_i32_169 : BitVec 32 := 1#32
  ⟨v507, v504, c1_i32_169⟩
def k0_mult5 (i : grid0.Coords) (k0_t2 : Fin (k0_t2_loop i).trips) : BitVec 32 :=
  let c2_i32_230 : BitVec 32 := 2#32
  let c0_i32_166 : BitVec 32 := 0#32
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_160 : BitVec 32 := 0#32
  let v487 : BitVec 1 := Scalar.cmpi .sgt v483 c0_i32_160
  let v488 : BitVec 32 := Scalar.extui v487
  let c0_i32_161 : BitVec 32 := 0#32
  let v489 : BitVec 1 := Scalar.cmpi .slt v483 c0_i32_161
  let v490 : BitVec 32 := Scalar.extui v489
  let v491 : BitVec 32 := Scalar.subi v488 v490
  let c2_i32 : BitVec 32 := 2#32
  let c0_i32_162 : BitVec 32 := 0#32
  let v492 : BitVec 1 := Scalar.cmpi .sgt c2_i32 c0_i32_162
  let v493 : BitVec 32 := Scalar.extui v492
  let c0_i32_163 : BitVec 32 := 0#32
  let v494 : BitVec 1 := Scalar.cmpi .slt c2_i32 c0_i32_163
  let v495 : BitVec 32 := Scalar.extui v494
  let v496 : BitVec 32 := Scalar.subi v493 v495
  let v497 : BitVec 1 := Scalar.cmpi .ne v491 v496
  let v498 : BitVec 32 := Scalar.remsi v483 c2_i32
  let c0_i32_164 : BitVec 32 := 0#32
  let v499 : BitVec 1 := Scalar.cmpi .ne v498 c0_i32_164
  let v500 : BitVec 1 := Scalar.andi v497 v499
  let v486 : BitVec 32 := Scalar.divsi v483 c2_i32
  let c1_i32_165 : BitVec 32 := 1#32
  let v501 : BitVec 32 := Scalar.subi v486 c1_i32_165
  let v502 : BitVec 32 := Scalar.select v500 v501 v486
  let v503 : BitVec 32 := Scalar.subi v502 c0_i32_166
  let c1_i32_167 : BitVec 32 := 1#32
  let v505 : BitVec 32 := Scalar.divsi v503 c1_i32_167
  let v506 : BitVec 32 := Scalar.muli v505 c1_i32_167
  let v507 : BitVec 32 := Scalar.addi c0_i32_166 v506
  let c1_i32_169 : BitVec 32 := 1#32
  let arg14 : BitVec 32 := Scf.iv v507 c1_i32_169 k0_t2
  let v772 : BitVec 32 := Scalar.muli c2_i32_230 arg14
  let c2048_i32_231 : BitVec 32 := 2048#32
  let v773 : BitVec 32 := Scalar.muli v772 c2048_i32_231
  v773
def k0_off11 (i : grid0.Coords) (k0_t2 : Fin (k0_t2_loop i).trips) : Fin 2 → Nat :=
  let c2_i32_230 : BitVec 32 := 2#32
  let c0_i32_166 : BitVec 32 := 0#32
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_160 : BitVec 32 := 0#32
  let v487 : BitVec 1 := Scalar.cmpi .sgt v483 c0_i32_160
  let v488 : BitVec 32 := Scalar.extui v487
  let c0_i32_161 : BitVec 32 := 0#32
  let v489 : BitVec 1 := Scalar.cmpi .slt v483 c0_i32_161
  let v490 : BitVec 32 := Scalar.extui v489
  let v491 : BitVec 32 := Scalar.subi v488 v490
  let c2_i32 : BitVec 32 := 2#32
  let c0_i32_162 : BitVec 32 := 0#32
  let v492 : BitVec 1 := Scalar.cmpi .sgt c2_i32 c0_i32_162
  let v493 : BitVec 32 := Scalar.extui v492
  let c0_i32_163 : BitVec 32 := 0#32
  let v494 : BitVec 1 := Scalar.cmpi .slt c2_i32 c0_i32_163
  let v495 : BitVec 32 := Scalar.extui v494
  let v496 : BitVec 32 := Scalar.subi v493 v495
  let v497 : BitVec 1 := Scalar.cmpi .ne v491 v496
  let v498 : BitVec 32 := Scalar.remsi v483 c2_i32
  let c0_i32_164 : BitVec 32 := 0#32
  let v499 : BitVec 1 := Scalar.cmpi .ne v498 c0_i32_164
  let v500 : BitVec 1 := Scalar.andi v497 v499
  let v486 : BitVec 32 := Scalar.divsi v483 c2_i32
  let c1_i32_165 : BitVec 32 := 1#32
  let v501 : BitVec 32 := Scalar.subi v486 c1_i32_165
  let v502 : BitVec 32 := Scalar.select v500 v501 v486
  let v503 : BitVec 32 := Scalar.subi v502 c0_i32_166
  let c1_i32_167 : BitVec 32 := 1#32
  let v505 : BitVec 32 := Scalar.divsi v503 c1_i32_167
  let v506 : BitVec 32 := Scalar.muli v505 c1_i32_167
  let v507 : BitVec 32 := Scalar.addi c0_i32_166 v506
  let c1_i32_169 : BitVec 32 := 1#32
  let arg14 : BitVec 32 := Scf.iv v507 c1_i32_169 k0_t2
  let v772 : BitVec 32 := Scalar.muli c2_i32_230 arg14
  let c2048_i32_231 : BitVec 32 := 2048#32
  let v773 : BitVec 32 := Scalar.muli v772 c2048_i32_231
  let v774 : BitVec 32 := v773
  let v775 : Index := Scalar.indexCast v774
  let c0_232 : Index := 0#32
  ![v775.toNat, 0]
def k0_off12 (i : grid0.Coords) (k0_t2 : Fin (k0_t2_loop i).trips) : Fin 2 → Nat :=
  let c0_235 : Index := 0#32
  let c2_i32_230 : BitVec 32 := 2#32
  let c0_i32_166 : BitVec 32 := 0#32
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_160 : BitVec 32 := 0#32
  let v487 : BitVec 1 := Scalar.cmpi .sgt v483 c0_i32_160
  let v488 : BitVec 32 := Scalar.extui v487
  let c0_i32_161 : BitVec 32 := 0#32
  let v489 : BitVec 1 := Scalar.cmpi .slt v483 c0_i32_161
  let v490 : BitVec 32 := Scalar.extui v489
  let v491 : BitVec 32 := Scalar.subi v488 v490
  let c2_i32 : BitVec 32 := 2#32
  let c0_i32_162 : BitVec 32 := 0#32
  let v492 : BitVec 1 := Scalar.cmpi .sgt c2_i32 c0_i32_162
  let v493 : BitVec 32 := Scalar.extui v492
  let c0_i32_163 : BitVec 32 := 0#32
  let v494 : BitVec 1 := Scalar.cmpi .slt c2_i32 c0_i32_163
  let v495 : BitVec 32 := Scalar.extui v494
  let v496 : BitVec 32 := Scalar.subi v493 v495
  let v497 : BitVec 1 := Scalar.cmpi .ne v491 v496
  let v498 : BitVec 32 := Scalar.remsi v483 c2_i32
  let c0_i32_164 : BitVec 32 := 0#32
  let v499 : BitVec 1 := Scalar.cmpi .ne v498 c0_i32_164
  let v500 : BitVec 1 := Scalar.andi v497 v499
  let v486 : BitVec 32 := Scalar.divsi v483 c2_i32
  let c1_i32_165 : BitVec 32 := 1#32
  let v501 : BitVec 32 := Scalar.subi v486 c1_i32_165
  let v502 : BitVec 32 := Scalar.select v500 v501 v486
  let v503 : BitVec 32 := Scalar.subi v502 c0_i32_166
  let c1_i32_167 : BitVec 32 := 1#32
  let v505 : BitVec 32 := Scalar.divsi v503 c1_i32_167
  let v506 : BitVec 32 := Scalar.muli v505 c1_i32_167
  let v507 : BitVec 32 := Scalar.addi c0_i32_166 v506
  let c1_i32_169 : BitVec 32 := 1#32
  let arg14 : BitVec 32 := Scf.iv v507 c1_i32_169 k0_t2
  let v772 : BitVec 32 := Scalar.muli c2_i32_230 arg14
  let c2048_i32_231 : BitVec 32 := 2048#32
  let v773 : BitVec 32 := Scalar.muli v772 c2048_i32_231
  let v774 : BitVec 32 := v773
  let v789 : Index := Scalar.indexCast v774
  ![0, v789.toNat]
def k0_mult6 (i : grid0.Coords) (k0_t2 : Fin (k0_t2_loop i).trips) : BitVec 32 :=
  let c2_i32_228 : BitVec 32 := 2#32
  let c0_i32_166 : BitVec 32 := 0#32
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_160 : BitVec 32 := 0#32
  let v487 : BitVec 1 := Scalar.cmpi .sgt v483 c0_i32_160
  let v488 : BitVec 32 := Scalar.extui v487
  let c0_i32_161 : BitVec 32 := 0#32
  let v489 : BitVec 1 := Scalar.cmpi .slt v483 c0_i32_161
  let v490 : BitVec 32 := Scalar.extui v489
  let v491 : BitVec 32 := Scalar.subi v488 v490
  let c2_i32 : BitVec 32 := 2#32
  let c0_i32_162 : BitVec 32 := 0#32
  let v492 : BitVec 1 := Scalar.cmpi .sgt c2_i32 c0_i32_162
  let v493 : BitVec 32 := Scalar.extui v492
  let c0_i32_163 : BitVec 32 := 0#32
  let v494 : BitVec 1 := Scalar.cmpi .slt c2_i32 c0_i32_163
  let v495 : BitVec 32 := Scalar.extui v494
  let v496 : BitVec 32 := Scalar.subi v493 v495
  let v497 : BitVec 1 := Scalar.cmpi .ne v491 v496
  let v498 : BitVec 32 := Scalar.remsi v483 c2_i32
  let c0_i32_164 : BitVec 32 := 0#32
  let v499 : BitVec 1 := Scalar.cmpi .ne v498 c0_i32_164
  let v500 : BitVec 1 := Scalar.andi v497 v499
  let v486 : BitVec 32 := Scalar.divsi v483 c2_i32
  let c1_i32_165 : BitVec 32 := 1#32
  let v501 : BitVec 32 := Scalar.subi v486 c1_i32_165
  let v502 : BitVec 32 := Scalar.select v500 v501 v486
  let v503 : BitVec 32 := Scalar.subi v502 c0_i32_166
  let c1_i32_167 : BitVec 32 := 1#32
  let v505 : BitVec 32 := Scalar.divsi v503 c1_i32_167
  let v506 : BitVec 32 := Scalar.muli v505 c1_i32_167
  let v507 : BitVec 32 := Scalar.addi c0_i32_166 v506
  let c1_i32_169 : BitVec 32 := 1#32
  let arg14 : BitVec 32 := Scf.iv v507 c1_i32_169 k0_t2
  let v770 : BitVec 32 := Scalar.muli c2_i32_228 arg14
  let c1_i32_229 : BitVec 32 := 1#32
  let v771 : BitVec 32 := Scalar.addi v770 c1_i32_229
  let c2048_i32_237 : BitVec 32 := 2048#32
  let v793 : BitVec 32 := Scalar.muli v771 c2048_i32_237
  v793
def k0_off13 (i : grid0.Coords) (k0_t2 : Fin (k0_t2_loop i).trips) : Fin 2 → Nat :=
  let c2_i32_228 : BitVec 32 := 2#32
  let c0_i32_166 : BitVec 32 := 0#32
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_160 : BitVec 32 := 0#32
  let v487 : BitVec 1 := Scalar.cmpi .sgt v483 c0_i32_160
  let v488 : BitVec 32 := Scalar.extui v487
  let c0_i32_161 : BitVec 32 := 0#32
  let v489 : BitVec 1 := Scalar.cmpi .slt v483 c0_i32_161
  let v490 : BitVec 32 := Scalar.extui v489
  let v491 : BitVec 32 := Scalar.subi v488 v490
  let c2_i32 : BitVec 32 := 2#32
  let c0_i32_162 : BitVec 32 := 0#32
  let v492 : BitVec 1 := Scalar.cmpi .sgt c2_i32 c0_i32_162
  let v493 : BitVec 32 := Scalar.extui v492
  let c0_i32_163 : BitVec 32 := 0#32
  let v494 : BitVec 1 := Scalar.cmpi .slt c2_i32 c0_i32_163
  let v495 : BitVec 32 := Scalar.extui v494
  let v496 : BitVec 32 := Scalar.subi v493 v495
  let v497 : BitVec 1 := Scalar.cmpi .ne v491 v496
  let v498 : BitVec 32 := Scalar.remsi v483 c2_i32
  let c0_i32_164 : BitVec 32 := 0#32
  let v499 : BitVec 1 := Scalar.cmpi .ne v498 c0_i32_164
  let v500 : BitVec 1 := Scalar.andi v497 v499
  let v486 : BitVec 32 := Scalar.divsi v483 c2_i32
  let c1_i32_165 : BitVec 32 := 1#32
  let v501 : BitVec 32 := Scalar.subi v486 c1_i32_165
  let v502 : BitVec 32 := Scalar.select v500 v501 v486
  let v503 : BitVec 32 := Scalar.subi v502 c0_i32_166
  let c1_i32_167 : BitVec 32 := 1#32
  let v505 : BitVec 32 := Scalar.divsi v503 c1_i32_167
  let v506 : BitVec 32 := Scalar.muli v505 c1_i32_167
  let v507 : BitVec 32 := Scalar.addi c0_i32_166 v506
  let c1_i32_169 : BitVec 32 := 1#32
  let arg14 : BitVec 32 := Scf.iv v507 c1_i32_169 k0_t2
  let v770 : BitVec 32 := Scalar.muli c2_i32_228 arg14
  let c1_i32_229 : BitVec 32 := 1#32
  let v771 : BitVec 32 := Scalar.addi v770 c1_i32_229
  let c2048_i32_237 : BitVec 32 := 2048#32
  let v793 : BitVec 32 := Scalar.muli v771 c2048_i32_237
  let v794 : BitVec 32 := v793
  let v795 : Index := Scalar.indexCast v794
  let c0_238 : Index := 0#32
  ![v795.toNat, 0]
def k0_off14 (i : grid0.Coords) (k0_t2 : Fin (k0_t2_loop i).trips) : Fin 2 → Nat :=
  let c0_241 : Index := 0#32
  let c2_i32_228 : BitVec 32 := 2#32
  let c0_i32_166 : BitVec 32 := 0#32
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_160 : BitVec 32 := 0#32
  let v487 : BitVec 1 := Scalar.cmpi .sgt v483 c0_i32_160
  let v488 : BitVec 32 := Scalar.extui v487
  let c0_i32_161 : BitVec 32 := 0#32
  let v489 : BitVec 1 := Scalar.cmpi .slt v483 c0_i32_161
  let v490 : BitVec 32 := Scalar.extui v489
  let v491 : BitVec 32 := Scalar.subi v488 v490
  let c2_i32 : BitVec 32 := 2#32
  let c0_i32_162 : BitVec 32 := 0#32
  let v492 : BitVec 1 := Scalar.cmpi .sgt c2_i32 c0_i32_162
  let v493 : BitVec 32 := Scalar.extui v492
  let c0_i32_163 : BitVec 32 := 0#32
  let v494 : BitVec 1 := Scalar.cmpi .slt c2_i32 c0_i32_163
  let v495 : BitVec 32 := Scalar.extui v494
  let v496 : BitVec 32 := Scalar.subi v493 v495
  let v497 : BitVec 1 := Scalar.cmpi .ne v491 v496
  let v498 : BitVec 32 := Scalar.remsi v483 c2_i32
  let c0_i32_164 : BitVec 32 := 0#32
  let v499 : BitVec 1 := Scalar.cmpi .ne v498 c0_i32_164
  let v500 : BitVec 1 := Scalar.andi v497 v499
  let v486 : BitVec 32 := Scalar.divsi v483 c2_i32
  let c1_i32_165 : BitVec 32 := 1#32
  let v501 : BitVec 32 := Scalar.subi v486 c1_i32_165
  let v502 : BitVec 32 := Scalar.select v500 v501 v486
  let v503 : BitVec 32 := Scalar.subi v502 c0_i32_166
  let c1_i32_167 : BitVec 32 := 1#32
  let v505 : BitVec 32 := Scalar.divsi v503 c1_i32_167
  let v506 : BitVec 32 := Scalar.muli v505 c1_i32_167
  let v507 : BitVec 32 := Scalar.addi c0_i32_166 v506
  let c1_i32_169 : BitVec 32 := 1#32
  let arg14 : BitVec 32 := Scf.iv v507 c1_i32_169 k0_t2
  let v770 : BitVec 32 := Scalar.muli c2_i32_228 arg14
  let c1_i32_229 : BitVec 32 := 1#32
  let v771 : BitVec 32 := Scalar.addi v770 c1_i32_229
  let c2048_i32_237 : BitVec 32 := 2048#32
  let v793 : BitVec 32 := Scalar.muli v771 c2048_i32_237
  let v794 : BitVec 32 := v793
  let v809 : Index := Scalar.indexCast v794
  ![0, v809.toNat]
@[reducible] def k0_t3_loop (i : grid0.Coords) : Scf.Loop 32 :=
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_171 : BitVec 32 := 0#32
  let v511 : BitVec 1 := Scalar.cmpi .sgt v483 c0_i32_171
  let v512 : BitVec 32 := Scalar.extui v511
  let c0_i32_172 : BitVec 32 := 0#32
  let v513 : BitVec 1 := Scalar.cmpi .slt v483 c0_i32_172
  let v514 : BitVec 32 := Scalar.extui v513
  let v515 : BitVec 32 := Scalar.subi v512 v514
  let c2_i32_170 : BitVec 32 := 2#32
  let c0_i32_173 : BitVec 32 := 0#32
  let v516 : BitVec 1 := Scalar.cmpi .sgt c2_i32_170 c0_i32_173
  let v517 : BitVec 32 := Scalar.extui v516
  let c0_i32_174 : BitVec 32 := 0#32
  let v518 : BitVec 1 := Scalar.cmpi .slt c2_i32_170 c0_i32_174
  let v519 : BitVec 32 := Scalar.extui v518
  let v520 : BitVec 32 := Scalar.subi v517 v519
  let v521 : BitVec 1 := Scalar.cmpi .ne v515 v520
  let v522 : BitVec 32 := Scalar.remsi v483 c2_i32_170
  let c0_i32_175 : BitVec 32 := 0#32
  let v523 : BitVec 1 := Scalar.cmpi .ne v522 c0_i32_175
  let v524 : BitVec 1 := Scalar.andi v521 v523
  let v510 : BitVec 32 := Scalar.divsi v483 c2_i32_170
  let c1_i32_176 : BitVec 32 := 1#32
  let v525 : BitVec 32 := Scalar.subi v510 c1_i32_176
  let v526 : BitVec 32 := Scalar.select v524 v525 v510
  let c2_i32_177 : BitVec 32 := 2#32
  let v527 : BitVec 32 := Scalar.muli v526 c2_i32_177
  let v528 : BitVec 32 := Scalar.subi v483 v527
  let c1_i32_178 : BitVec 32 := 1#32
  let v530 : BitVec 32 := Scalar.divsi v528 c1_i32_178
  let v531 : BitVec 32 := Scalar.muli v530 c1_i32_178
  let v532 : BitVec 32 := Scalar.addi v527 v531
  let c1_i32_179 : BitVec 32 := 1#32
  ⟨v527, v532, c1_i32_179⟩
def k0_mult7 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_171 : BitVec 32 := 0#32
  let v511 : BitVec 1 := Scalar.cmpi .sgt v483 c0_i32_171
  let v512 : BitVec 32 := Scalar.extui v511
  let c0_i32_172 : BitVec 32 := 0#32
  let v513 : BitVec 1 := Scalar.cmpi .slt v483 c0_i32_172
  let v514 : BitVec 32 := Scalar.extui v513
  let v515 : BitVec 32 := Scalar.subi v512 v514
  let c2_i32_170 : BitVec 32 := 2#32
  let c0_i32_173 : BitVec 32 := 0#32
  let v516 : BitVec 1 := Scalar.cmpi .sgt c2_i32_170 c0_i32_173
  let v517 : BitVec 32 := Scalar.extui v516
  let c0_i32_174 : BitVec 32 := 0#32
  let v518 : BitVec 1 := Scalar.cmpi .slt c2_i32_170 c0_i32_174
  let v519 : BitVec 32 := Scalar.extui v518
  let v520 : BitVec 32 := Scalar.subi v517 v519
  let v521 : BitVec 1 := Scalar.cmpi .ne v515 v520
  let v522 : BitVec 32 := Scalar.remsi v483 c2_i32_170
  let c0_i32_175 : BitVec 32 := 0#32
  let v523 : BitVec 1 := Scalar.cmpi .ne v522 c0_i32_175
  let v524 : BitVec 1 := Scalar.andi v521 v523
  let v510 : BitVec 32 := Scalar.divsi v483 c2_i32_170
  let c1_i32_176 : BitVec 32 := 1#32
  let v525 : BitVec 32 := Scalar.subi v510 c1_i32_176
  let v526 : BitVec 32 := Scalar.select v524 v525 v510
  let c2_i32_177 : BitVec 32 := 2#32
  let v527 : BitVec 32 := Scalar.muli v526 c2_i32_177
  let c1_i32_179 : BitVec 32 := 1#32
  let arg14 : BitVec 32 := Scf.iv v527 c1_i32_179 k0_t3
  let c2048_i32_228 : BitVec 32 := 2048#32
  let v770 : BitVec 32 := Scalar.muli arg14 c2048_i32_228
  v770
def k0_off15 (i : grid0.Coords) (k0_t3 : Fin (k0_t3_loop i).trips) : Fin 2 → Nat :=
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_171 : BitVec 32 := 0#32
  let v511 : BitVec 1 := Scalar.cmpi .sgt v483 c0_i32_171
  let v512 : BitVec 32 := Scalar.extui v511
  let c0_i32_172 : BitVec 32 := 0#32
  let v513 : BitVec 1 := Scalar.cmpi .slt v483 c0_i32_172
  let v514 : BitVec 32 := Scalar.extui v513
  let v515 : BitVec 32 := Scalar.subi v512 v514
  let c2_i32_170 : BitVec 32 := 2#32
  let c0_i32_173 : BitVec 32 := 0#32
  let v516 : BitVec 1 := Scalar.cmpi .sgt c2_i32_170 c0_i32_173
  let v517 : BitVec 32 := Scalar.extui v516
  let c0_i32_174 : BitVec 32 := 0#32
  let v518 : BitVec 1 := Scalar.cmpi .slt c2_i32_170 c0_i32_174
  let v519 : BitVec 32 := Scalar.extui v518
  let v520 : BitVec 32 := Scalar.subi v517 v519
  let v521 : BitVec 1 := Scalar.cmpi .ne v515 v520
  let v522 : BitVec 32 := Scalar.remsi v483 c2_i32_170
  let c0_i32_175 : BitVec 32 := 0#32
  let v523 : BitVec 1 := Scalar.cmpi .ne v522 c0_i32_175
  let v524 : BitVec 1 := Scalar.andi v521 v523
  let v510 : BitVec 32 := Scalar.divsi v483 c2_i32_170
  let c1_i32_176 : BitVec 32 := 1#32
  let v525 : BitVec 32 := Scalar.subi v510 c1_i32_176
  let v526 : BitVec 32 := Scalar.select v524 v525 v510
  let c2_i32_177 : BitVec 32 := 2#32
  let v527 : BitVec 32 := Scalar.muli v526 c2_i32_177
  let c1_i32_179 : BitVec 32 := 1#32
  let arg14 : BitVec 32 := Scf.iv v527 c1_i32_179 k0_t3
  let c2048_i32_228 : BitVec 32 := 2048#32
  let v770 : BitVec 32 := Scalar.muli arg14 c2048_i32_228
  let v771 : BitVec 32 := v770
  let v772 : Index := Scalar.indexCast v771
  let c0_229 : Index := 0#32
  ![v772.toNat, 0]
def k0_off16 (i : grid0.Coords) (k0_t3 : Fin (k0_t3_loop i).trips) : Fin 2 → Nat :=
  let c0_232 : Index := 0#32
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_171 : BitVec 32 := 0#32
  let v511 : BitVec 1 := Scalar.cmpi .sgt v483 c0_i32_171
  let v512 : BitVec 32 := Scalar.extui v511
  let c0_i32_172 : BitVec 32 := 0#32
  let v513 : BitVec 1 := Scalar.cmpi .slt v483 c0_i32_172
  let v514 : BitVec 32 := Scalar.extui v513
  let v515 : BitVec 32 := Scalar.subi v512 v514
  let c2_i32_170 : BitVec 32 := 2#32
  let c0_i32_173 : BitVec 32 := 0#32
  let v516 : BitVec 1 := Scalar.cmpi .sgt c2_i32_170 c0_i32_173
  let v517 : BitVec 32 := Scalar.extui v516
  let c0_i32_174 : BitVec 32 := 0#32
  let v518 : BitVec 1 := Scalar.cmpi .slt c2_i32_170 c0_i32_174
  let v519 : BitVec 32 := Scalar.extui v518
  let v520 : BitVec 32 := Scalar.subi v517 v519
  let v521 : BitVec 1 := Scalar.cmpi .ne v515 v520
  let v522 : BitVec 32 := Scalar.remsi v483 c2_i32_170
  let c0_i32_175 : BitVec 32 := 0#32
  let v523 : BitVec 1 := Scalar.cmpi .ne v522 c0_i32_175
  let v524 : BitVec 1 := Scalar.andi v521 v523
  let v510 : BitVec 32 := Scalar.divsi v483 c2_i32_170
  let c1_i32_176 : BitVec 32 := 1#32
  let v525 : BitVec 32 := Scalar.subi v510 c1_i32_176
  let v526 : BitVec 32 := Scalar.select v524 v525 v510
  let c2_i32_177 : BitVec 32 := 2#32
  let v527 : BitVec 32 := Scalar.muli v526 c2_i32_177
  let c1_i32_179 : BitVec 32 := 1#32
  let arg14 : BitVec 32 := Scf.iv v527 c1_i32_179 k0_t3
  let c2048_i32_228 : BitVec 32 := 2048#32
  let v770 : BitVec 32 := Scalar.muli arg14 c2048_i32_228
  let v771 : BitVec 32 := v770
  let v786 : Index := Scalar.indexCast v771
  ![0, v786.toNat]
@[reducible] def k0_t4_loop (i : grid0.Coords) : Scf.Loop 32 :=
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_171 : BitVec 32 := 0#32
  let v511 : BitVec 1 := Scalar.cmpi .sgt v483 c0_i32_171
  let v512 : BitVec 32 := Scalar.extui v511
  let c0_i32_172 : BitVec 32 := 0#32
  let v513 : BitVec 1 := Scalar.cmpi .slt v483 c0_i32_172
  let v514 : BitVec 32 := Scalar.extui v513
  let v515 : BitVec 32 := Scalar.subi v512 v514
  let c2_i32_170 : BitVec 32 := 2#32
  let c0_i32_173 : BitVec 32 := 0#32
  let v516 : BitVec 1 := Scalar.cmpi .sgt c2_i32_170 c0_i32_173
  let v517 : BitVec 32 := Scalar.extui v516
  let c0_i32_174 : BitVec 32 := 0#32
  let v518 : BitVec 1 := Scalar.cmpi .slt c2_i32_170 c0_i32_174
  let v519 : BitVec 32 := Scalar.extui v518
  let v520 : BitVec 32 := Scalar.subi v517 v519
  let v521 : BitVec 1 := Scalar.cmpi .ne v515 v520
  let v522 : BitVec 32 := Scalar.remsi v483 c2_i32_170
  let c0_i32_175 : BitVec 32 := 0#32
  let v523 : BitVec 1 := Scalar.cmpi .ne v522 c0_i32_175
  let v524 : BitVec 1 := Scalar.andi v521 v523
  let v510 : BitVec 32 := Scalar.divsi v483 c2_i32_170
  let c1_i32_176 : BitVec 32 := 1#32
  let v525 : BitVec 32 := Scalar.subi v510 c1_i32_176
  let v526 : BitVec 32 := Scalar.select v524 v525 v510
  let c2_i32_177 : BitVec 32 := 2#32
  let v527 : BitVec 32 := Scalar.muli v526 c2_i32_177
  let v528 : BitVec 32 := Scalar.subi v483 v527
  let c1_i32_178 : BitVec 32 := 1#32
  let v530 : BitVec 32 := Scalar.divsi v528 c1_i32_178
  let v531 : BitVec 32 := Scalar.muli v530 c1_i32_178
  let v532 : BitVec 32 := Scalar.addi v527 v531
  let v529 : BitVec 32 := Scalar.addi v527 v528
  let c1_i32_180 : BitVec 32 := 1#32
  ⟨v532, v529, c1_i32_180⟩
def k0_mult8 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_171 : BitVec 32 := 0#32
  let v511 : BitVec 1 := Scalar.cmpi .sgt v483 c0_i32_171
  let v512 : BitVec 32 := Scalar.extui v511
  let c0_i32_172 : BitVec 32 := 0#32
  let v513 : BitVec 1 := Scalar.cmpi .slt v483 c0_i32_172
  let v514 : BitVec 32 := Scalar.extui v513
  let v515 : BitVec 32 := Scalar.subi v512 v514
  let c2_i32_170 : BitVec 32 := 2#32
  let c0_i32_173 : BitVec 32 := 0#32
  let v516 : BitVec 1 := Scalar.cmpi .sgt c2_i32_170 c0_i32_173
  let v517 : BitVec 32 := Scalar.extui v516
  let c0_i32_174 : BitVec 32 := 0#32
  let v518 : BitVec 1 := Scalar.cmpi .slt c2_i32_170 c0_i32_174
  let v519 : BitVec 32 := Scalar.extui v518
  let v520 : BitVec 32 := Scalar.subi v517 v519
  let v521 : BitVec 1 := Scalar.cmpi .ne v515 v520
  let v522 : BitVec 32 := Scalar.remsi v483 c2_i32_170
  let c0_i32_175 : BitVec 32 := 0#32
  let v523 : BitVec 1 := Scalar.cmpi .ne v522 c0_i32_175
  let v524 : BitVec 1 := Scalar.andi v521 v523
  let v510 : BitVec 32 := Scalar.divsi v483 c2_i32_170
  let c1_i32_176 : BitVec 32 := 1#32
  let v525 : BitVec 32 := Scalar.subi v510 c1_i32_176
  let v526 : BitVec 32 := Scalar.select v524 v525 v510
  let c2_i32_177 : BitVec 32 := 2#32
  let v527 : BitVec 32 := Scalar.muli v526 c2_i32_177
  let v528 : BitVec 32 := Scalar.subi v483 v527
  let c1_i32_178 : BitVec 32 := 1#32
  let v530 : BitVec 32 := Scalar.divsi v528 c1_i32_178
  let v531 : BitVec 32 := Scalar.muli v530 c1_i32_178
  let v532 : BitVec 32 := Scalar.addi v527 v531
  let c1_i32_180 : BitVec 32 := 1#32
  let arg14 : BitVec 32 := Scf.iv v532 c1_i32_180 k0_t4
  let c2048_i32_228 : BitVec 32 := 2048#32
  let v770 : BitVec 32 := Scalar.muli arg14 c2048_i32_228
  v770
def k0_off17 (i : grid0.Coords) (k0_t4 : Fin (k0_t4_loop i).trips) : Fin 2 → Nat :=
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_171 : BitVec 32 := 0#32
  let v511 : BitVec 1 := Scalar.cmpi .sgt v483 c0_i32_171
  let v512 : BitVec 32 := Scalar.extui v511
  let c0_i32_172 : BitVec 32 := 0#32
  let v513 : BitVec 1 := Scalar.cmpi .slt v483 c0_i32_172
  let v514 : BitVec 32 := Scalar.extui v513
  let v515 : BitVec 32 := Scalar.subi v512 v514
  let c2_i32_170 : BitVec 32 := 2#32
  let c0_i32_173 : BitVec 32 := 0#32
  let v516 : BitVec 1 := Scalar.cmpi .sgt c2_i32_170 c0_i32_173
  let v517 : BitVec 32 := Scalar.extui v516
  let c0_i32_174 : BitVec 32 := 0#32
  let v518 : BitVec 1 := Scalar.cmpi .slt c2_i32_170 c0_i32_174
  let v519 : BitVec 32 := Scalar.extui v518
  let v520 : BitVec 32 := Scalar.subi v517 v519
  let v521 : BitVec 1 := Scalar.cmpi .ne v515 v520
  let v522 : BitVec 32 := Scalar.remsi v483 c2_i32_170
  let c0_i32_175 : BitVec 32 := 0#32
  let v523 : BitVec 1 := Scalar.cmpi .ne v522 c0_i32_175
  let v524 : BitVec 1 := Scalar.andi v521 v523
  let v510 : BitVec 32 := Scalar.divsi v483 c2_i32_170
  let c1_i32_176 : BitVec 32 := 1#32
  let v525 : BitVec 32 := Scalar.subi v510 c1_i32_176
  let v526 : BitVec 32 := Scalar.select v524 v525 v510
  let c2_i32_177 : BitVec 32 := 2#32
  let v527 : BitVec 32 := Scalar.muli v526 c2_i32_177
  let v528 : BitVec 32 := Scalar.subi v483 v527
  let c1_i32_178 : BitVec 32 := 1#32
  let v530 : BitVec 32 := Scalar.divsi v528 c1_i32_178
  let v531 : BitVec 32 := Scalar.muli v530 c1_i32_178
  let v532 : BitVec 32 := Scalar.addi v527 v531
  let c1_i32_180 : BitVec 32 := 1#32
  let arg14 : BitVec 32 := Scf.iv v532 c1_i32_180 k0_t4
  let c2048_i32_228 : BitVec 32 := 2048#32
  let v770 : BitVec 32 := Scalar.muli arg14 c2048_i32_228
  let v771 : BitVec 32 := v770
  let v772 : Index := Scalar.indexCast v771
  let c0_229 : Index := 0#32
  ![v772.toNat, 0]
def k0_off18 (i : grid0.Coords) (k0_t4 : Fin (k0_t4_loop i).trips) : Fin 2 → Nat :=
  let c0_232 : Index := 0#32
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c0_i32_171 : BitVec 32 := 0#32
  let v511 : BitVec 1 := Scalar.cmpi .sgt v483 c0_i32_171
  let v512 : BitVec 32 := Scalar.extui v511
  let c0_i32_172 : BitVec 32 := 0#32
  let v513 : BitVec 1 := Scalar.cmpi .slt v483 c0_i32_172
  let v514 : BitVec 32 := Scalar.extui v513
  let v515 : BitVec 32 := Scalar.subi v512 v514
  let c2_i32_170 : BitVec 32 := 2#32
  let c0_i32_173 : BitVec 32 := 0#32
  let v516 : BitVec 1 := Scalar.cmpi .sgt c2_i32_170 c0_i32_173
  let v517 : BitVec 32 := Scalar.extui v516
  let c0_i32_174 : BitVec 32 := 0#32
  let v518 : BitVec 1 := Scalar.cmpi .slt c2_i32_170 c0_i32_174
  let v519 : BitVec 32 := Scalar.extui v518
  let v520 : BitVec 32 := Scalar.subi v517 v519
  let v521 : BitVec 1 := Scalar.cmpi .ne v515 v520
  let v522 : BitVec 32 := Scalar.remsi v483 c2_i32_170
  let c0_i32_175 : BitVec 32 := 0#32
  let v523 : BitVec 1 := Scalar.cmpi .ne v522 c0_i32_175
  let v524 : BitVec 1 := Scalar.andi v521 v523
  let v510 : BitVec 32 := Scalar.divsi v483 c2_i32_170
  let c1_i32_176 : BitVec 32 := 1#32
  let v525 : BitVec 32 := Scalar.subi v510 c1_i32_176
  let v526 : BitVec 32 := Scalar.select v524 v525 v510
  let c2_i32_177 : BitVec 32 := 2#32
  let v527 : BitVec 32 := Scalar.muli v526 c2_i32_177
  let v528 : BitVec 32 := Scalar.subi v483 v527
  let c1_i32_178 : BitVec 32 := 1#32
  let v530 : BitVec 32 := Scalar.divsi v528 c1_i32_178
  let v531 : BitVec 32 := Scalar.muli v530 c1_i32_178
  let v532 : BitVec 32 := Scalar.addi v527 v531
  let c1_i32_180 : BitVec 32 := 1#32
  let arg14 : BitVec 32 := Scf.iv v532 c1_i32_180 k0_t4
  let c2048_i32_228 : BitVec 32 := 2048#32
  let v770 : BitVec 32 := Scalar.muli arg14 c2048_i32_228
  let v771 : BitVec 32 := v770
  let v786 : Index := Scalar.indexCast v771
  ![0, v786.toNat]
@[reducible] def k0_t5_loop (i : grid0.Coords) : Scf.Loop 32 :=
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c2_i32_181 : BitVec 32 := 2#32
  let v535 : BitVec 32 := Scalar.muli v483 c2_i32_181
  let c0_i32_182 : BitVec 32 := 0#32
  let v537 : BitVec 1 := Scalar.cmpi .sgt v1 c0_i32_182
  let v538 : BitVec 32 := Scalar.extui v537
  let c0_i32_183 : BitVec 32 := 0#32
  let v539 : BitVec 1 := Scalar.cmpi .slt v1 c0_i32_183
  let v540 : BitVec 32 := Scalar.extui v539
  let v541 : BitVec 32 := Scalar.subi v538 v540
  let c1024_i32 : BitVec 32 := 1024#32
  let c0_i32_184 : BitVec 32 := 0#32
  let v542 : BitVec 1 := Scalar.cmpi .sgt c1024_i32 c0_i32_184
  let v543 : BitVec 32 := Scalar.extui v542
  let c0_i32_185 : BitVec 32 := 0#32
  let v544 : BitVec 1 := Scalar.cmpi .slt c1024_i32 c0_i32_185
  let v545 : BitVec 32 := Scalar.extui v544
  let v546 : BitVec 32 := Scalar.subi v543 v545
  let v547 : BitVec 1 := Scalar.cmpi .ne v541 v546
  let v548 : BitVec 32 := Scalar.remsi v1 c1024_i32
  let c0_i32_186 : BitVec 32 := 0#32
  let v549 : BitVec 1 := Scalar.cmpi .ne v548 c0_i32_186
  let v550 : BitVec 1 := Scalar.andi v547 v549
  let v536 : BitVec 32 := Scalar.divsi v1 c1024_i32
  let c1_i32_187 : BitVec 32 := 1#32
  let v551 : BitVec 32 := Scalar.subi v536 c1_i32_187
  let v552 : BitVec 32 := Scalar.select v550 v551 v536
  let v553 : BitVec 32 := Scalar.subi v552 v535
  let c1_i32_188 : BitVec 32 := 1#32
  let v555 : BitVec 32 := Scalar.divsi v553 c1_i32_188
  let v556 : BitVec 32 := Scalar.muli v555 c1_i32_188
  let v557 : BitVec 32 := Scalar.addi v535 v556
  let c1_i32_189 : BitVec 32 := 1#32
  ⟨v535, v557, c1_i32_189⟩
def k0_mult9 (i : grid0.Coords) (k0_t5 : Fin (k0_t5_loop i).trips) : BitVec 32 :=
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c2_i32_181 : BitVec 32 := 2#32
  let v535 : BitVec 32 := Scalar.muli v483 c2_i32_181
  let c1_i32_189 : BitVec 32 := 1#32
  let arg14 : BitVec 32 := Scf.iv v535 c1_i32_189 k0_t5
  let c1024_i32_228 : BitVec 32 := 1024#32
  let v770 : BitVec 32 := Scalar.muli arg14 c1024_i32_228
  v770
def k0_off19 (i : grid0.Coords) (k0_t5 : Fin (k0_t5_loop i).trips) : Fin 2 → Nat :=
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c2_i32_181 : BitVec 32 := 2#32
  let v535 : BitVec 32 := Scalar.muli v483 c2_i32_181
  let c1_i32_189 : BitVec 32 := 1#32
  let arg14 : BitVec 32 := Scf.iv v535 c1_i32_189 k0_t5
  let c1024_i32_228 : BitVec 32 := 1024#32
  let v770 : BitVec 32 := Scalar.muli arg14 c1024_i32_228
  let v771 : BitVec 32 := v770
  let v772 : Index := Scalar.indexCast v771
  let c0_229 : Index := 0#32
  ![v772.toNat, 0]
def k0_off20 (i : grid0.Coords) (k0_t5 : Fin (k0_t5_loop i).trips) : Fin 2 → Nat :=
  let c0_232 : Index := 0#32
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c2_i32_181 : BitVec 32 := 2#32
  let v535 : BitVec 32 := Scalar.muli v483 c2_i32_181
  let c1_i32_189 : BitVec 32 := 1#32
  let arg14 : BitVec 32 := Scf.iv v535 c1_i32_189 k0_t5
  let c1024_i32_228 : BitVec 32 := 1024#32
  let v770 : BitVec 32 := Scalar.muli arg14 c1024_i32_228
  let v771 : BitVec 32 := v770
  let v786 : Index := Scalar.indexCast v771
  ![0, v786.toNat]
@[reducible] def k0_t6_loop (i : grid0.Coords) : Scf.Loop 32 :=
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c2_i32_181 : BitVec 32 := 2#32
  let v535 : BitVec 32 := Scalar.muli v483 c2_i32_181
  let c0_i32_182 : BitVec 32 := 0#32
  let v537 : BitVec 1 := Scalar.cmpi .sgt v1 c0_i32_182
  let v538 : BitVec 32 := Scalar.extui v537
  let c0_i32_183 : BitVec 32 := 0#32
  let v539 : BitVec 1 := Scalar.cmpi .slt v1 c0_i32_183
  let v540 : BitVec 32 := Scalar.extui v539
  let v541 : BitVec 32 := Scalar.subi v538 v540
  let c1024_i32 : BitVec 32 := 1024#32
  let c0_i32_184 : BitVec 32 := 0#32
  let v542 : BitVec 1 := Scalar.cmpi .sgt c1024_i32 c0_i32_184
  let v543 : BitVec 32 := Scalar.extui v542
  let c0_i32_185 : BitVec 32 := 0#32
  let v544 : BitVec 1 := Scalar.cmpi .slt c1024_i32 c0_i32_185
  let v545 : BitVec 32 := Scalar.extui v544
  let v546 : BitVec 32 := Scalar.subi v543 v545
  let v547 : BitVec 1 := Scalar.cmpi .ne v541 v546
  let v548 : BitVec 32 := Scalar.remsi v1 c1024_i32
  let c0_i32_186 : BitVec 32 := 0#32
  let v549 : BitVec 1 := Scalar.cmpi .ne v548 c0_i32_186
  let v550 : BitVec 1 := Scalar.andi v547 v549
  let v536 : BitVec 32 := Scalar.divsi v1 c1024_i32
  let c1_i32_187 : BitVec 32 := 1#32
  let v551 : BitVec 32 := Scalar.subi v536 c1_i32_187
  let v552 : BitVec 32 := Scalar.select v550 v551 v536
  let v553 : BitVec 32 := Scalar.subi v552 v535
  let c1_i32_188 : BitVec 32 := 1#32
  let v555 : BitVec 32 := Scalar.divsi v553 c1_i32_188
  let v556 : BitVec 32 := Scalar.muli v555 c1_i32_188
  let v557 : BitVec 32 := Scalar.addi v535 v556
  let v554 : BitVec 32 := Scalar.addi v535 v553
  let c1_i32_190 : BitVec 32 := 1#32
  ⟨v557, v554, c1_i32_190⟩
def k0_mult10 (i : grid0.Coords) (k0_t6 : Fin (k0_t6_loop i).trips) : BitVec 32 :=
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c2_i32_181 : BitVec 32 := 2#32
  let v535 : BitVec 32 := Scalar.muli v483 c2_i32_181
  let c0_i32_182 : BitVec 32 := 0#32
  let v537 : BitVec 1 := Scalar.cmpi .sgt v1 c0_i32_182
  let v538 : BitVec 32 := Scalar.extui v537
  let c0_i32_183 : BitVec 32 := 0#32
  let v539 : BitVec 1 := Scalar.cmpi .slt v1 c0_i32_183
  let v540 : BitVec 32 := Scalar.extui v539
  let v541 : BitVec 32 := Scalar.subi v538 v540
  let c1024_i32 : BitVec 32 := 1024#32
  let c0_i32_184 : BitVec 32 := 0#32
  let v542 : BitVec 1 := Scalar.cmpi .sgt c1024_i32 c0_i32_184
  let v543 : BitVec 32 := Scalar.extui v542
  let c0_i32_185 : BitVec 32 := 0#32
  let v544 : BitVec 1 := Scalar.cmpi .slt c1024_i32 c0_i32_185
  let v545 : BitVec 32 := Scalar.extui v544
  let v546 : BitVec 32 := Scalar.subi v543 v545
  let v547 : BitVec 1 := Scalar.cmpi .ne v541 v546
  let v548 : BitVec 32 := Scalar.remsi v1 c1024_i32
  let c0_i32_186 : BitVec 32 := 0#32
  let v549 : BitVec 1 := Scalar.cmpi .ne v548 c0_i32_186
  let v550 : BitVec 1 := Scalar.andi v547 v549
  let v536 : BitVec 32 := Scalar.divsi v1 c1024_i32
  let c1_i32_187 : BitVec 32 := 1#32
  let v551 : BitVec 32 := Scalar.subi v536 c1_i32_187
  let v552 : BitVec 32 := Scalar.select v550 v551 v536
  let v553 : BitVec 32 := Scalar.subi v552 v535
  let c1_i32_188 : BitVec 32 := 1#32
  let v555 : BitVec 32 := Scalar.divsi v553 c1_i32_188
  let v556 : BitVec 32 := Scalar.muli v555 c1_i32_188
  let v557 : BitVec 32 := Scalar.addi v535 v556
  let c1_i32_190 : BitVec 32 := 1#32
  let arg14 : BitVec 32 := Scf.iv v557 c1_i32_190 k0_t6
  let c1024_i32_228 : BitVec 32 := 1024#32
  let v770 : BitVec 32 := Scalar.muli arg14 c1024_i32_228
  v770
def k0_off21 (i : grid0.Coords) (k0_t6 : Fin (k0_t6_loop i).trips) : Fin 2 → Nat :=
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c2_i32_181 : BitVec 32 := 2#32
  let v535 : BitVec 32 := Scalar.muli v483 c2_i32_181
  let c0_i32_182 : BitVec 32 := 0#32
  let v537 : BitVec 1 := Scalar.cmpi .sgt v1 c0_i32_182
  let v538 : BitVec 32 := Scalar.extui v537
  let c0_i32_183 : BitVec 32 := 0#32
  let v539 : BitVec 1 := Scalar.cmpi .slt v1 c0_i32_183
  let v540 : BitVec 32 := Scalar.extui v539
  let v541 : BitVec 32 := Scalar.subi v538 v540
  let c1024_i32 : BitVec 32 := 1024#32
  let c0_i32_184 : BitVec 32 := 0#32
  let v542 : BitVec 1 := Scalar.cmpi .sgt c1024_i32 c0_i32_184
  let v543 : BitVec 32 := Scalar.extui v542
  let c0_i32_185 : BitVec 32 := 0#32
  let v544 : BitVec 1 := Scalar.cmpi .slt c1024_i32 c0_i32_185
  let v545 : BitVec 32 := Scalar.extui v544
  let v546 : BitVec 32 := Scalar.subi v543 v545
  let v547 : BitVec 1 := Scalar.cmpi .ne v541 v546
  let v548 : BitVec 32 := Scalar.remsi v1 c1024_i32
  let c0_i32_186 : BitVec 32 := 0#32
  let v549 : BitVec 1 := Scalar.cmpi .ne v548 c0_i32_186
  let v550 : BitVec 1 := Scalar.andi v547 v549
  let v536 : BitVec 32 := Scalar.divsi v1 c1024_i32
  let c1_i32_187 : BitVec 32 := 1#32
  let v551 : BitVec 32 := Scalar.subi v536 c1_i32_187
  let v552 : BitVec 32 := Scalar.select v550 v551 v536
  let v553 : BitVec 32 := Scalar.subi v552 v535
  let c1_i32_188 : BitVec 32 := 1#32
  let v555 : BitVec 32 := Scalar.divsi v553 c1_i32_188
  let v556 : BitVec 32 := Scalar.muli v555 c1_i32_188
  let v557 : BitVec 32 := Scalar.addi v535 v556
  let c1_i32_190 : BitVec 32 := 1#32
  let arg14 : BitVec 32 := Scf.iv v557 c1_i32_190 k0_t6
  let c1024_i32_228 : BitVec 32 := 1024#32
  let v770 : BitVec 32 := Scalar.muli arg14 c1024_i32_228
  let v771 : BitVec 32 := v770
  let v772 : Index := Scalar.indexCast v771
  let c0_229 : Index := 0#32
  ![v772.toNat, 0]
def k0_off22 (i : grid0.Coords) (k0_t6 : Fin (k0_t6_loop i).trips) : Fin 2 → Nat :=
  let c0_232 : Index := 0#32
  let arg1 : BitVec 32 := BitVec.ofNat 32 (i 1).val
  let c128_i32 : BitVec 32 := 128#32
  let v0 : BitVec 32 := Scalar.muli arg1 c128_i32
  let v1 : BitVec 32 := v0
  let c0_i32_152 : BitVec 32 := 0#32
  let v468 : BitVec 1 := Scalar.cmpi .sgt v1 c0_i32_152
  let v469 : BitVec 32 := Scalar.extui v468
  let c0_i32_153 : BitVec 32 := 0#32
  let v470 : BitVec 1 := Scalar.cmpi .slt v1 c0_i32_153
  let v471 : BitVec 32 := Scalar.extui v470
  let v472 : BitVec 32 := Scalar.subi v469 v471
  let c2048_i32 : BitVec 32 := 2048#32
  let c0_i32_154 : BitVec 32 := 0#32
  let v473 : BitVec 1 := Scalar.cmpi .sgt c2048_i32 c0_i32_154
  let v474 : BitVec 32 := Scalar.extui v473
  let c0_i32_155 : BitVec 32 := 0#32
  let v475 : BitVec 1 := Scalar.cmpi .slt c2048_i32 c0_i32_155
  let v476 : BitVec 32 := Scalar.extui v475
  let v477 : BitVec 32 := Scalar.subi v474 v476
  let v478 : BitVec 1 := Scalar.cmpi .ne v472 v477
  let v479 : BitVec 32 := Scalar.remsi v1 c2048_i32
  let c0_i32_156 : BitVec 32 := 0#32
  let v480 : BitVec 1 := Scalar.cmpi .ne v479 c0_i32_156
  let v481 : BitVec 1 := Scalar.andi v478 v480
  let v467 : BitVec 32 := Scalar.divsi v1 c2048_i32
  let c1_i32_157 : BitVec 32 := 1#32
  let v482 : BitVec 32 := Scalar.subi v467 c1_i32_157
  let v483 : BitVec 32 := Scalar.select v481 v482 v467
  let c2_i32_181 : BitVec 32 := 2#32
  let v535 : BitVec 32 := Scalar.muli v483 c2_i32_181
  let c0_i32_182 : BitVec 32 := 0#32
  let v537 : BitVec 1 := Scalar.cmpi .sgt v1 c0_i32_182
  let v538 : BitVec 32 := Scalar.extui v537
  let c0_i32_183 : BitVec 32 := 0#32
  let v539 : BitVec 1 := Scalar.cmpi .slt v1 c0_i32_183
  let v540 : BitVec 32 := Scalar.extui v539
  let v541 : BitVec 32 := Scalar.subi v538 v540
  let c1024_i32 : BitVec 32 := 1024#32
  let c0_i32_184 : BitVec 32 := 0#32
  let v542 : BitVec 1 := Scalar.cmpi .sgt c1024_i32 c0_i32_184
  let v543 : BitVec 32 := Scalar.extui v542
  let c0_i32_185 : BitVec 32 := 0#32
  let v544 : BitVec 1 := Scalar.cmpi .slt c1024_i32 c0_i32_185
  let v545 : BitVec 32 := Scalar.extui v544
  let v546 : BitVec 32 := Scalar.subi v543 v545
  let v547 : BitVec 1 := Scalar.cmpi .ne v541 v546
  let v548 : BitVec 32 := Scalar.remsi v1 c1024_i32
  let c0_i32_186 : BitVec 32 := 0#32
  let v549 : BitVec 1 := Scalar.cmpi .ne v548 c0_i32_186
  let v550 : BitVec 1 := Scalar.andi v547 v549
  let v536 : BitVec 32 := Scalar.divsi v1 c1024_i32
  let c1_i32_187 : BitVec 32 := 1#32
  let v551 : BitVec 32 := Scalar.subi v536 c1_i32_187
  let v552 : BitVec 32 := Scalar.select v550 v551 v536
  let v553 : BitVec 32 := Scalar.subi v552 v535
  let c1_i32_188 : BitVec 32 := 1#32
  let v555 : BitVec 32 := Scalar.divsi v553 c1_i32_188
  let v556 : BitVec 32 := Scalar.muli v555 c1_i32_188
  let v557 : BitVec 32 := Scalar.addi v535 v556
  let c1_i32_190 : BitVec 32 := 1#32
  let arg14 : BitVec 32 := Scf.iv v557 c1_i32_190 k0_t6
  let c1024_i32_228 : BitVec 32 := 1024#32
  let v770 : BitVec 32 := Scalar.muli arg14 c1024_i32_228
  let v771 : BitVec 32 := v770
  let v786 : Index := Scalar.indexCast v771
  ![0, v786.toNat]
@[reducible] def k0_t7_loop (i : grid0.Coords) : Scf.Loop 32 :=
  let arg1 : BitVec 32 := BitVec.ofNat 32 (i 1).val
  let c128_i32 : BitVec 32 := 128#32
  let v0 : BitVec 32 := Scalar.muli arg1 c128_i32
  let v1 : BitVec 32 := v0
  let c0_i32_192 : BitVec 32 := 0#32
  let v561 : BitVec 1 := Scalar.cmpi .sgt v1 c0_i32_192
  let v562 : BitVec 32 := Scalar.extui v561
  let c0_i32_193 : BitVec 32 := 0#32
  let v563 : BitVec 1 := Scalar.cmpi .slt v1 c0_i32_193
  let v564 : BitVec 32 := Scalar.extui v563
  let v565 : BitVec 32 := Scalar.subi v562 v564
  let c1024_i32_191 : BitVec 32 := 1024#32
  let c0_i32_194 : BitVec 32 := 0#32
  let v566 : BitVec 1 := Scalar.cmpi .sgt c1024_i32_191 c0_i32_194
  let v567 : BitVec 32 := Scalar.extui v566
  let c0_i32_195 : BitVec 32 := 0#32
  let v568 : BitVec 1 := Scalar.cmpi .slt c1024_i32_191 c0_i32_195
  let v569 : BitVec 32 := Scalar.extui v568
  let v570 : BitVec 32 := Scalar.subi v567 v569
  let v571 : BitVec 1 := Scalar.cmpi .ne v565 v570
  let v572 : BitVec 32 := Scalar.remsi v1 c1024_i32_191
  let c0_i32_196 : BitVec 32 := 0#32
  let v573 : BitVec 1 := Scalar.cmpi .ne v572 c0_i32_196
  let v574 : BitVec 1 := Scalar.andi v571 v573
  let v560 : BitVec 32 := Scalar.divsi v1 c1024_i32_191
  let c1_i32_197 : BitVec 32 := 1#32
  let v575 : BitVec 32 := Scalar.subi v560 c1_i32_197
  let v576 : BitVec 32 := Scalar.select v574 v575 v560
  let c2_i32_198 : BitVec 32 := 2#32
  let v577 : BitVec 32 := Scalar.muli v576 c2_i32_198
  let c0_i32_200 : BitVec 32 := 0#32
  let v579 : BitVec 1 := Scalar.cmpi .sgt v1 c0_i32_200
  let v580 : BitVec 32 := Scalar.extui v579
  let c0_i32_201 : BitVec 32 := 0#32
  let v581 : BitVec 1 := Scalar.cmpi .slt v1 c0_i32_201
  let v582 : BitVec 32 := Scalar.extui v581
  let v583 : BitVec 32 := Scalar.subi v580 v582
  let c512_i32_199 : BitVec 32 := 512#32
  let c0_i32_202 : BitVec 32 := 0#32
  let v584 : BitVec 1 := Scalar.cmpi .sgt c512_i32_199 c0_i32_202
  let v585 : BitVec 32 := Scalar.extui v584
  let c0_i32_203 : BitVec 32 := 0#32
  let v586 : BitVec 1 := Scalar.cmpi .slt c512_i32_199 c0_i32_203
  let v587 : BitVec 32 := Scalar.extui v586
  let v588 : BitVec 32 := Scalar.subi v585 v587
  let v589 : BitVec 1 := Scalar.cmpi .ne v583 v588
  let v590 : BitVec 32 := Scalar.remsi v1 c512_i32_199
  let c0_i32_204 : BitVec 32 := 0#32
  let v591 : BitVec 1 := Scalar.cmpi .ne v590 c0_i32_204
  let v592 : BitVec 1 := Scalar.andi v589 v591
  let v578 : BitVec 32 := Scalar.divsi v1 c512_i32_199
  let c1_i32_205 : BitVec 32 := 1#32
  let v593 : BitVec 32 := Scalar.subi v578 c1_i32_205
  let v594 : BitVec 32 := Scalar.select v592 v593 v578
  let v595 : BitVec 32 := Scalar.subi v594 v577
  let c1_i32_206 : BitVec 32 := 1#32
  let v597 : BitVec 32 := Scalar.divsi v595 c1_i32_206
  let v598 : BitVec 32 := Scalar.muli v597 c1_i32_206
  let v599 : BitVec 32 := Scalar.addi v577 v598
  let c1_i32_207 : BitVec 32 := 1#32
  ⟨v577, v599, c1_i32_207⟩
def k0_mult11 (i : grid0.Coords) (k0_t7 : Fin (k0_t7_loop i).trips) : BitVec 32 :=
  let arg1 : BitVec 32 := BitVec.ofNat 32 (i 1).val
  let c128_i32 : BitVec 32 := 128#32
  let v0 : BitVec 32 := Scalar.muli arg1 c128_i32
  let v1 : BitVec 32 := v0
  let c0_i32_192 : BitVec 32 := 0#32
  let v561 : BitVec 1 := Scalar.cmpi .sgt v1 c0_i32_192
  let v562 : BitVec 32 := Scalar.extui v561
  let c0_i32_193 : BitVec 32 := 0#32
  let v563 : BitVec 1 := Scalar.cmpi .slt v1 c0_i32_193
  let v564 : BitVec 32 := Scalar.extui v563
  let v565 : BitVec 32 := Scalar.subi v562 v564
  let c1024_i32_191 : BitVec 32 := 1024#32
  let c0_i32_194 : BitVec 32 := 0#32
  let v566 : BitVec 1 := Scalar.cmpi .sgt c1024_i32_191 c0_i32_194
  let v567 : BitVec 32 := Scalar.extui v566
  let c0_i32_195 : BitVec 32 := 0#32
  let v568 : BitVec 1 := Scalar.cmpi .slt c1024_i32_191 c0_i32_195
  let v569 : BitVec 32 := Scalar.extui v568
  let v570 : BitVec 32 := Scalar.subi v567 v569
  let v571 : BitVec 1 := Scalar.cmpi .ne v565 v570
  let v572 : BitVec 32 := Scalar.remsi v1 c1024_i32_191
  let c0_i32_196 : BitVec 32 := 0#32
  let v573 : BitVec 1 := Scalar.cmpi .ne v572 c0_i32_196
  let v574 : BitVec 1 := Scalar.andi v571 v573
  let v560 : BitVec 32 := Scalar.divsi v1 c1024_i32_191
  let c1_i32_197 : BitVec 32 := 1#32
  let v575 : BitVec 32 := Scalar.subi v560 c1_i32_197
  let v576 : BitVec 32 := Scalar.select v574 v575 v560
  let c2_i32_198 : BitVec 32 := 2#32
  let v577 : BitVec 32 := Scalar.muli v576 c2_i32_198
  let c1_i32_207 : BitVec 32 := 1#32
  let arg14 : BitVec 32 := Scf.iv v577 c1_i32_207 k0_t7
  let c512_i32_228 : BitVec 32 := 512#32
  let v770 : BitVec 32 := Scalar.muli arg14 c512_i32_228
  v770
def k0_off23 (i : grid0.Coords) (k0_t7 : Fin (k0_t7_loop i).trips) : Fin 2 → Nat :=
  let arg1 : BitVec 32 := BitVec.ofNat 32 (i 1).val
  let c128_i32 : BitVec 32 := 128#32
  let v0 : BitVec 32 := Scalar.muli arg1 c128_i32
  let v1 : BitVec 32 := v0
  let c0_i32_192 : BitVec 32 := 0#32
  let v561 : BitVec 1 := Scalar.cmpi .sgt v1 c0_i32_192
  let v562 : BitVec 32 := Scalar.extui v561
  let c0_i32_193 : BitVec 32 := 0#32
  let v563 : BitVec 1 := Scalar.cmpi .slt v1 c0_i32_193
  let v564 : BitVec 32 := Scalar.extui v563
  let v565 : BitVec 32 := Scalar.subi v562 v564
  let c1024_i32_191 : BitVec 32 := 1024#32
  let c0_i32_194 : BitVec 32 := 0#32
  let v566 : BitVec 1 := Scalar.cmpi .sgt c1024_i32_191 c0_i32_194
  let v567 : BitVec 32 := Scalar.extui v566
  let c0_i32_195 : BitVec 32 := 0#32
  let v568 : BitVec 1 := Scalar.cmpi .slt c1024_i32_191 c0_i32_195
  let v569 : BitVec 32 := Scalar.extui v568
  let v570 : BitVec 32 := Scalar.subi v567 v569
  let v571 : BitVec 1 := Scalar.cmpi .ne v565 v570
  let v572 : BitVec 32 := Scalar.remsi v1 c1024_i32_191
  let c0_i32_196 : BitVec 32 := 0#32
  let v573 : BitVec 1 := Scalar.cmpi .ne v572 c0_i32_196
  let v574 : BitVec 1 := Scalar.andi v571 v573
  let v560 : BitVec 32 := Scalar.divsi v1 c1024_i32_191
  let c1_i32_197 : BitVec 32 := 1#32
  let v575 : BitVec 32 := Scalar.subi v560 c1_i32_197
  let v576 : BitVec 32 := Scalar.select v574 v575 v560
  let c2_i32_198 : BitVec 32 := 2#32
  let v577 : BitVec 32 := Scalar.muli v576 c2_i32_198
  let c1_i32_207 : BitVec 32 := 1#32
  let arg14 : BitVec 32 := Scf.iv v577 c1_i32_207 k0_t7
  let c512_i32_228 : BitVec 32 := 512#32
  let v770 : BitVec 32 := Scalar.muli arg14 c512_i32_228
  let v771 : BitVec 32 := v770
  let v772 : Index := Scalar.indexCast v771
  let c0_229 : Index := 0#32
  ![v772.toNat, 0]
def k0_off24 (i : grid0.Coords) (k0_t7 : Fin (k0_t7_loop i).trips) : Fin 2 → Nat :=
  let c0_232 : Index := 0#32
  let arg1 : BitVec 32 := BitVec.ofNat 32 (i 1).val
  let c128_i32 : BitVec 32 := 128#32
  let v0 : BitVec 32 := Scalar.muli arg1 c128_i32
  let v1 : BitVec 32 := v0
  let c0_i32_192 : BitVec 32 := 0#32
  let v561 : BitVec 1 := Scalar.cmpi .sgt v1 c0_i32_192
  let v562 : BitVec 32 := Scalar.extui v561
  let c0_i32_193 : BitVec 32 := 0#32
  let v563 : BitVec 1 := Scalar.cmpi .slt v1 c0_i32_193
  let v564 : BitVec 32 := Scalar.extui v563
  let v565 : BitVec 32 := Scalar.subi v562 v564
  let c1024_i32_191 : BitVec 32 := 1024#32
  let c0_i32_194 : BitVec 32 := 0#32
  let v566 : BitVec 1 := Scalar.cmpi .sgt c1024_i32_191 c0_i32_194
  let v567 : BitVec 32 := Scalar.extui v566
  let c0_i32_195 : BitVec 32 := 0#32
  let v568 : BitVec 1 := Scalar.cmpi .slt c1024_i32_191 c0_i32_195
  let v569 : BitVec 32 := Scalar.extui v568
  let v570 : BitVec 32 := Scalar.subi v567 v569
  let v571 : BitVec 1 := Scalar.cmpi .ne v565 v570
  let v572 : BitVec 32 := Scalar.remsi v1 c1024_i32_191
  let c0_i32_196 : BitVec 32 := 0#32
  let v573 : BitVec 1 := Scalar.cmpi .ne v572 c0_i32_196
  let v574 : BitVec 1 := Scalar.andi v571 v573
  let v560 : BitVec 32 := Scalar.divsi v1 c1024_i32_191
  let c1_i32_197 : BitVec 32 := 1#32
  let v575 : BitVec 32 := Scalar.subi v560 c1_i32_197
  let v576 : BitVec 32 := Scalar.select v574 v575 v560
  let c2_i32_198 : BitVec 32 := 2#32
  let v577 : BitVec 32 := Scalar.muli v576 c2_i32_198
  let c1_i32_207 : BitVec 32 := 1#32
  let arg14 : BitVec 32 := Scf.iv v577 c1_i32_207 k0_t7
  let c512_i32_228 : BitVec 32 := 512#32
  let v770 : BitVec 32 := Scalar.muli arg14 c512_i32_228
  let v771 : BitVec 32 := v770
  let v786 : Index := Scalar.indexCast v771
  ![0, v786.toNat]
@[reducible] def k0_t8_loop (i : grid0.Coords) : Scf.Loop 32 :=
  let arg1 : BitVec 32 := BitVec.ofNat 32 (i 1).val
  let c128_i32 : BitVec 32 := 128#32
  let v0 : BitVec 32 := Scalar.muli arg1 c128_i32
  let v1 : BitVec 32 := v0
  let c0_i32_192 : BitVec 32 := 0#32
  let v561 : BitVec 1 := Scalar.cmpi .sgt v1 c0_i32_192
  let v562 : BitVec 32 := Scalar.extui v561
  let c0_i32_193 : BitVec 32 := 0#32
  let v563 : BitVec 1 := Scalar.cmpi .slt v1 c0_i32_193
  let v564 : BitVec 32 := Scalar.extui v563
  let v565 : BitVec 32 := Scalar.subi v562 v564
  let c1024_i32_191 : BitVec 32 := 1024#32
  let c0_i32_194 : BitVec 32 := 0#32
  let v566 : BitVec 1 := Scalar.cmpi .sgt c1024_i32_191 c0_i32_194
  let v567 : BitVec 32 := Scalar.extui v566
  let c0_i32_195 : BitVec 32 := 0#32
  let v568 : BitVec 1 := Scalar.cmpi .slt c1024_i32_191 c0_i32_195
  let v569 : BitVec 32 := Scalar.extui v568
  let v570 : BitVec 32 := Scalar.subi v567 v569
  let v571 : BitVec 1 := Scalar.cmpi .ne v565 v570
  let v572 : BitVec 32 := Scalar.remsi v1 c1024_i32_191
  let c0_i32_196 : BitVec 32 := 0#32
  let v573 : BitVec 1 := Scalar.cmpi .ne v572 c0_i32_196
  let v574 : BitVec 1 := Scalar.andi v571 v573
  let v560 : BitVec 32 := Scalar.divsi v1 c1024_i32_191
  let c1_i32_197 : BitVec 32 := 1#32
  let v575 : BitVec 32 := Scalar.subi v560 c1_i32_197
  let v576 : BitVec 32 := Scalar.select v574 v575 v560
  let c2_i32_198 : BitVec 32 := 2#32
  let v577 : BitVec 32 := Scalar.muli v576 c2_i32_198
  let c0_i32_200 : BitVec 32 := 0#32
  let v579 : BitVec 1 := Scalar.cmpi .sgt v1 c0_i32_200
  let v580 : BitVec 32 := Scalar.extui v579
  let c0_i32_201 : BitVec 32 := 0#32
  let v581 : BitVec 1 := Scalar.cmpi .slt v1 c0_i32_201
  let v582 : BitVec 32 := Scalar.extui v581
  let v583 : BitVec 32 := Scalar.subi v580 v582
  let c512_i32_199 : BitVec 32 := 512#32
  let c0_i32_202 : BitVec 32 := 0#32
  let v584 : BitVec 1 := Scalar.cmpi .sgt c512_i32_199 c0_i32_202
  let v585 : BitVec 32 := Scalar.extui v584
  let c0_i32_203 : BitVec 32 := 0#32
  let v586 : BitVec 1 := Scalar.cmpi .slt c512_i32_199 c0_i32_203
  let v587 : BitVec 32 := Scalar.extui v586
  let v588 : BitVec 32 := Scalar.subi v585 v587
  let v589 : BitVec 1 := Scalar.cmpi .ne v583 v588
  let v590 : BitVec 32 := Scalar.remsi v1 c512_i32_199
  let c0_i32_204 : BitVec 32 := 0#32
  let v591 : BitVec 1 := Scalar.cmpi .ne v590 c0_i32_204
  let v592 : BitVec 1 := Scalar.andi v589 v591
  let v578 : BitVec 32 := Scalar.divsi v1 c512_i32_199
  let c1_i32_205 : BitVec 32 := 1#32
  let v593 : BitVec 32 := Scalar.subi v578 c1_i32_205
  let v594 : BitVec 32 := Scalar.select v592 v593 v578
  let v595 : BitVec 32 := Scalar.subi v594 v577
  let c1_i32_206 : BitVec 32 := 1#32
  let v597 : BitVec 32 := Scalar.divsi v595 c1_i32_206
  let v598 : BitVec 32 := Scalar.muli v597 c1_i32_206
  let v599 : BitVec 32 := Scalar.addi v577 v598
  let v596 : BitVec 32 := Scalar.addi v577 v595
  let c1_i32_208 : BitVec 32 := 1#32
  ⟨v599, v596, c1_i32_208⟩
def k0_mult12 (i : grid0.Coords) (k0_t8 : Fin (k0_t8_loop i).trips) : BitVec 32 :=
  let arg1 : BitVec 32 := BitVec.ofNat 32 (i 1).val
  let c128_i32 : BitVec 32 := 128#32
  let v0 : BitVec 32 := Scalar.muli arg1 c128_i32
  let v1 : BitVec 32 := v0
  let c0_i32_192 : BitVec 32 := 0#32
  let v561 : BitVec 1 := Scalar.cmpi .sgt v1 c0_i32_192
  let v562 : BitVec 32 := Scalar.extui v561
  let c0_i32_193 : BitVec 32 := 0#32
  let v563 : BitVec 1 := Scalar.cmpi .slt v1 c0_i32_193
  let v564 : BitVec 32 := Scalar.extui v563
  let v565 : BitVec 32 := Scalar.subi v562 v564
  let c1024_i32_191 : BitVec 32 := 1024#32
  let c0_i32_194 : BitVec 32 := 0#32
  let v566 : BitVec 1 := Scalar.cmpi .sgt c1024_i32_191 c0_i32_194
  let v567 : BitVec 32 := Scalar.extui v566
  let c0_i32_195 : BitVec 32 := 0#32
  let v568 : BitVec 1 := Scalar.cmpi .slt c1024_i32_191 c0_i32_195
  let v569 : BitVec 32 := Scalar.extui v568
  let v570 : BitVec 32 := Scalar.subi v567 v569
  let v571 : BitVec 1 := Scalar.cmpi .ne v565 v570
  let v572 : BitVec 32 := Scalar.remsi v1 c1024_i32_191
  let c0_i32_196 : BitVec 32 := 0#32
  let v573 : BitVec 1 := Scalar.cmpi .ne v572 c0_i32_196
  let v574 : BitVec 1 := Scalar.andi v571 v573
  let v560 : BitVec 32 := Scalar.divsi v1 c1024_i32_191
  let c1_i32_197 : BitVec 32 := 1#32
  let v575 : BitVec 32 := Scalar.subi v560 c1_i32_197
  let v576 : BitVec 32 := Scalar.select v574 v575 v560
  let c2_i32_198 : BitVec 32 := 2#32
  let v577 : BitVec 32 := Scalar.muli v576 c2_i32_198
  let c0_i32_200 : BitVec 32 := 0#32
  let v579 : BitVec 1 := Scalar.cmpi .sgt v1 c0_i32_200
  let v580 : BitVec 32 := Scalar.extui v579
  let c0_i32_201 : BitVec 32 := 0#32
  let v581 : BitVec 1 := Scalar.cmpi .slt v1 c0_i32_201
  let v582 : BitVec 32 := Scalar.extui v581
  let v583 : BitVec 32 := Scalar.subi v580 v582
  let c512_i32_199 : BitVec 32 := 512#32
  let c0_i32_202 : BitVec 32 := 0#32
  let v584 : BitVec 1 := Scalar.cmpi .sgt c512_i32_199 c0_i32_202
  let v585 : BitVec 32 := Scalar.extui v584
  let c0_i32_203 : BitVec 32 := 0#32
  let v586 : BitVec 1 := Scalar.cmpi .slt c512_i32_199 c0_i32_203
  let v587 : BitVec 32 := Scalar.extui v586
  let v588 : BitVec 32 := Scalar.subi v585 v587
  let v589 : BitVec 1 := Scalar.cmpi .ne v583 v588
  let v590 : BitVec 32 := Scalar.remsi v1 c512_i32_199
  let c0_i32_204 : BitVec 32 := 0#32
  let v591 : BitVec 1 := Scalar.cmpi .ne v590 c0_i32_204
  let v592 : BitVec 1 := Scalar.andi v589 v591
  let v578 : BitVec 32 := Scalar.divsi v1 c512_i32_199
  let c1_i32_205 : BitVec 32 := 1#32
  let v593 : BitVec 32 := Scalar.subi v578 c1_i32_205
  let v594 : BitVec 32 := Scalar.select v592 v593 v578
  let v595 : BitVec 32 := Scalar.subi v594 v577
  let c1_i32_206 : BitVec 32 := 1#32
  let v597 : BitVec 32 := Scalar.divsi v595 c1_i32_206
  let v598 : BitVec 32 := Scalar.muli v597 c1_i32_206
  let v599 : BitVec 32 := Scalar.addi v577 v598
  let c1_i32_208 : BitVec 32 := 1#32
  let arg14 : BitVec 32 := Scf.iv v599 c1_i32_208 k0_t8
  let c512_i32_228 : BitVec 32 := 512#32
  let v770 : BitVec 32 := Scalar.muli arg14 c512_i32_228
  v770
def k0_off25 (i : grid0.Coords) (k0_t8 : Fin (k0_t8_loop i).trips) : Fin 2 → Nat :=
  let arg1 : BitVec 32 := BitVec.ofNat 32 (i 1).val
  let c128_i32 : BitVec 32 := 128#32
  let v0 : BitVec 32 := Scalar.muli arg1 c128_i32
  let v1 : BitVec 32 := v0
  let c0_i32_192 : BitVec 32 := 0#32
  let v561 : BitVec 1 := Scalar.cmpi .sgt v1 c0_i32_192
  let v562 : BitVec 32 := Scalar.extui v561
  let c0_i32_193 : BitVec 32 := 0#32
  let v563 : BitVec 1 := Scalar.cmpi .slt v1 c0_i32_193
  let v564 : BitVec 32 := Scalar.extui v563
  let v565 : BitVec 32 := Scalar.subi v562 v564
  let c1024_i32_191 : BitVec 32 := 1024#32
  let c0_i32_194 : BitVec 32 := 0#32
  let v566 : BitVec 1 := Scalar.cmpi .sgt c1024_i32_191 c0_i32_194
  let v567 : BitVec 32 := Scalar.extui v566
  let c0_i32_195 : BitVec 32 := 0#32
  let v568 : BitVec 1 := Scalar.cmpi .slt c1024_i32_191 c0_i32_195
  let v569 : BitVec 32 := Scalar.extui v568
  let v570 : BitVec 32 := Scalar.subi v567 v569
  let v571 : BitVec 1 := Scalar.cmpi .ne v565 v570
  let v572 : BitVec 32 := Scalar.remsi v1 c1024_i32_191
  let c0_i32_196 : BitVec 32 := 0#32
  let v573 : BitVec 1 := Scalar.cmpi .ne v572 c0_i32_196
  let v574 : BitVec 1 := Scalar.andi v571 v573
  let v560 : BitVec 32 := Scalar.divsi v1 c1024_i32_191
  let c1_i32_197 : BitVec 32 := 1#32
  let v575 : BitVec 32 := Scalar.subi v560 c1_i32_197
  let v576 : BitVec 32 := Scalar.select v574 v575 v560
  let c2_i32_198 : BitVec 32 := 2#32
  let v577 : BitVec 32 := Scalar.muli v576 c2_i32_198
  let c0_i32_200 : BitVec 32 := 0#32
  let v579 : BitVec 1 := Scalar.cmpi .sgt v1 c0_i32_200
  let v580 : BitVec 32 := Scalar.extui v579
  let c0_i32_201 : BitVec 32 := 0#32
  let v581 : BitVec 1 := Scalar.cmpi .slt v1 c0_i32_201
  let v582 : BitVec 32 := Scalar.extui v581
  let v583 : BitVec 32 := Scalar.subi v580 v582
  let c512_i32_199 : BitVec 32 := 512#32
  let c0_i32_202 : BitVec 32 := 0#32
  let v584 : BitVec 1 := Scalar.cmpi .sgt c512_i32_199 c0_i32_202
  let v585 : BitVec 32 := Scalar.extui v584
  let c0_i32_203 : BitVec 32 := 0#32
  let v586 : BitVec 1 := Scalar.cmpi .slt c512_i32_199 c0_i32_203
  let v587 : BitVec 32 := Scalar.extui v586
  let v588 : BitVec 32 := Scalar.subi v585 v587
  let v589 : BitVec 1 := Scalar.cmpi .ne v583 v588
  let v590 : BitVec 32 := Scalar.remsi v1 c512_i32_199
  let c0_i32_204 : BitVec 32 := 0#32
  let v591 : BitVec 1 := Scalar.cmpi .ne v590 c0_i32_204
  let v592 : BitVec 1 := Scalar.andi v589 v591
  let v578 : BitVec 32 := Scalar.divsi v1 c512_i32_199
  let c1_i32_205 : BitVec 32 := 1#32
  let v593 : BitVec 32 := Scalar.subi v578 c1_i32_205
  let v594 : BitVec 32 := Scalar.select v592 v593 v578
  let v595 : BitVec 32 := Scalar.subi v594 v577
  let c1_i32_206 : BitVec 32 := 1#32
  let v597 : BitVec 32 := Scalar.divsi v595 c1_i32_206
  let v598 : BitVec 32 := Scalar.muli v597 c1_i32_206
  let v599 : BitVec 32 := Scalar.addi v577 v598
  let c1_i32_208 : BitVec 32 := 1#32
  let arg14 : BitVec 32 := Scf.iv v599 c1_i32_208 k0_t8
  let c512_i32_228 : BitVec 32 := 512#32
  let v770 : BitVec 32 := Scalar.muli arg14 c512_i32_228
  let v771 : BitVec 32 := v770
  let v772 : Index := Scalar.indexCast v771
  let c0_229 : Index := 0#32
  ![v772.toNat, 0]
def k0_off26 (i : grid0.Coords) (k0_t8 : Fin (k0_t8_loop i).trips) : Fin 2 → Nat :=
  let c0_232 : Index := 0#32
  let arg1 : BitVec 32 := BitVec.ofNat 32 (i 1).val
  let c128_i32 : BitVec 32 := 128#32
  let v0 : BitVec 32 := Scalar.muli arg1 c128_i32
  let v1 : BitVec 32 := v0
  let c0_i32_192 : BitVec 32 := 0#32
  let v561 : BitVec 1 := Scalar.cmpi .sgt v1 c0_i32_192
  let v562 : BitVec 32 := Scalar.extui v561
  let c0_i32_193 : BitVec 32 := 0#32
  let v563 : BitVec 1 := Scalar.cmpi .slt v1 c0_i32_193
  let v564 : BitVec 32 := Scalar.extui v563
  let v565 : BitVec 32 := Scalar.subi v562 v564
  let c1024_i32_191 : BitVec 32 := 1024#32
  let c0_i32_194 : BitVec 32 := 0#32
  let v566 : BitVec 1 := Scalar.cmpi .sgt c1024_i32_191 c0_i32_194
  let v567 : BitVec 32 := Scalar.extui v566
  let c0_i32_195 : BitVec 32 := 0#32
  let v568 : BitVec 1 := Scalar.cmpi .slt c1024_i32_191 c0_i32_195
  let v569 : BitVec 32 := Scalar.extui v568
  let v570 : BitVec 32 := Scalar.subi v567 v569
  let v571 : BitVec 1 := Scalar.cmpi .ne v565 v570
  let v572 : BitVec 32 := Scalar.remsi v1 c1024_i32_191
  let c0_i32_196 : BitVec 32 := 0#32
  let v573 : BitVec 1 := Scalar.cmpi .ne v572 c0_i32_196
  let v574 : BitVec 1 := Scalar.andi v571 v573
  let v560 : BitVec 32 := Scalar.divsi v1 c1024_i32_191
  let c1_i32_197 : BitVec 32 := 1#32
  let v575 : BitVec 32 := Scalar.subi v560 c1_i32_197
  let v576 : BitVec 32 := Scalar.select v574 v575 v560
  let c2_i32_198 : BitVec 32 := 2#32
  let v577 : BitVec 32 := Scalar.muli v576 c2_i32_198
  let c0_i32_200 : BitVec 32 := 0#32
  let v579 : BitVec 1 := Scalar.cmpi .sgt v1 c0_i32_200
  let v580 : BitVec 32 := Scalar.extui v579
  let c0_i32_201 : BitVec 32 := 0#32
  let v581 : BitVec 1 := Scalar.cmpi .slt v1 c0_i32_201
  let v582 : BitVec 32 := Scalar.extui v581
  let v583 : BitVec 32 := Scalar.subi v580 v582
  let c512_i32_199 : BitVec 32 := 512#32
  let c0_i32_202 : BitVec 32 := 0#32
  let v584 : BitVec 1 := Scalar.cmpi .sgt c512_i32_199 c0_i32_202
  let v585 : BitVec 32 := Scalar.extui v584
  let c0_i32_203 : BitVec 32 := 0#32
  let v586 : BitVec 1 := Scalar.cmpi .slt c512_i32_199 c0_i32_203
  let v587 : BitVec 32 := Scalar.extui v586
  let v588 : BitVec 32 := Scalar.subi v585 v587
  let v589 : BitVec 1 := Scalar.cmpi .ne v583 v588
  let v590 : BitVec 32 := Scalar.remsi v1 c512_i32_199
  let c0_i32_204 : BitVec 32 := 0#32
  let v591 : BitVec 1 := Scalar.cmpi .ne v590 c0_i32_204
  let v592 : BitVec 1 := Scalar.andi v589 v591
  let v578 : BitVec 32 := Scalar.divsi v1 c512_i32_199
  let c1_i32_205 : BitVec 32 := 1#32
  let v593 : BitVec 32 := Scalar.subi v578 c1_i32_205
  let v594 : BitVec 32 := Scalar.select v592 v593 v578
  let v595 : BitVec 32 := Scalar.subi v594 v577
  let c1_i32_206 : BitVec 32 := 1#32
  let v597 : BitVec 32 := Scalar.divsi v595 c1_i32_206
  let v598 : BitVec 32 := Scalar.muli v597 c1_i32_206
  let v599 : BitVec 32 := Scalar.addi v577 v598
  let c1_i32_208 : BitVec 32 := 1#32
  let arg14 : BitVec 32 := Scf.iv v599 c1_i32_208 k0_t8
  let c512_i32_228 : BitVec 32 := 512#32
  let v770 : BitVec 32 := Scalar.muli arg14 c512_i32_228
  let v771 : BitVec 32 := v770
  let v786 : Index := Scalar.indexCast v771
  ![0, v786.toNat]
def k0_mult13 (i : grid0.Coords) : BitVec 32 :=
  let arg1 : BitVec 32 := BitVec.ofNat 32 (i 1).val
  let c128_i32 : BitVec 32 := 128#32
  let v0 : BitVec 32 := Scalar.muli arg1 c128_i32
  let v1 : BitVec 32 := v0
  let c0_i32_210 : BitVec 32 := 0#32
  let v603 : BitVec 1 := Scalar.cmpi .sgt v1 c0_i32_210
  let v604 : BitVec 32 := Scalar.extui v603
  let c0_i32_211 : BitVec 32 := 0#32
  let v605 : BitVec 1 := Scalar.cmpi .slt v1 c0_i32_211
  let v606 : BitVec 32 := Scalar.extui v605
  let v607 : BitVec 32 := Scalar.subi v604 v606
  let c512_i32_209 : BitVec 32 := 512#32
  let c0_i32_212 : BitVec 32 := 0#32
  let v608 : BitVec 1 := Scalar.cmpi .sgt c512_i32_209 c0_i32_212
  let v609 : BitVec 32 := Scalar.extui v608
  let c0_i32_213 : BitVec 32 := 0#32
  let v610 : BitVec 1 := Scalar.cmpi .slt c512_i32_209 c0_i32_213
  let v611 : BitVec 32 := Scalar.extui v610
  let v612 : BitVec 32 := Scalar.subi v609 v611
  let v613 : BitVec 1 := Scalar.cmpi .ne v607 v612
  let v614 : BitVec 32 := Scalar.remsi v1 c512_i32_209
  let c0_i32_214 : BitVec 32 := 0#32
  let v615 : BitVec 1 := Scalar.cmpi .ne v614 c0_i32_214
  let v616 : BitVec 1 := Scalar.andi v613 v615
  let v602 : BitVec 32 := Scalar.divsi v1 c512_i32_209
  let c1_i32_215 : BitVec 32 := 1#32
  let v617 : BitVec 32 := Scalar.subi v602 c1_i32_215
  let v618 : BitVec 32 := Scalar.select v616 v617 v602
  let c512_i32_216 : BitVec 32 := 512#32
  let v619 : BitVec 32 := Scalar.muli v618 c512_i32_216
  v619
def k0_off27 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let c0_i32_210 : BitVec 32 := 0#32
  let v603 : BitVec 1 := Scalar.cmpi .sgt v1 c0_i32_210
  let v604 : BitVec 32 := Scalar.extui v603
  let c0_i32_211 : BitVec 32 := 0#32
  let v605 : BitVec 1 := Scalar.cmpi .slt v1 c0_i32_211
  let v606 : BitVec 32 := Scalar.extui v605
  let v607 : BitVec 32 := Scalar.subi v604 v606
  let c512_i32_209 : BitVec 32 := 512#32
  let c0_i32_212 : BitVec 32 := 0#32
  let v608 : BitVec 1 := Scalar.cmpi .sgt c512_i32_209 c0_i32_212
  let v609 : BitVec 32 := Scalar.extui v608
  let c0_i32_213 : BitVec 32 := 0#32
  let v610 : BitVec 1 := Scalar.cmpi .slt c512_i32_209 c0_i32_213
  let v611 : BitVec 32 := Scalar.extui v610
  let v612 : BitVec 32 := Scalar.subi v609 v611
  let v613 : BitVec 1 := Scalar.cmpi .ne v607 v612
  let v614 : BitVec 32 := Scalar.remsi v1 c512_i32_209
  let c0_i32_214 : BitVec 32 := 0#32
  let v615 : BitVec 1 := Scalar.cmpi .ne v614 c0_i32_214
  let v616 : BitVec 1 := Scalar.andi v613 v615
  let v602 : BitVec 32 := Scalar.divsi v1 c512_i32_209
  let c1_i32_215 : BitVec 32 := 1#32
  let v617 : BitVec 32 := Scalar.subi v602 c1_i32_215
  let v618 : BitVec 32 := Scalar.select v616 v617 v602
  let c512_i32_216 : BitVec 32 := 512#32
  let v619 : BitVec 32 := Scalar.muli v618 c512_i32_216
  let v620 : BitVec 32 := v619
  let v621 : Index := Scalar.indexCast v620
  let c0_217 : Index := 0#32
  ![v621.toNat, 0]
def k0_off28 (i : grid0.Coords) : Fin 2 → Nat :=
  let c0_221 : Index := 0#32
  let arg1 : BitVec 32 := BitVec.ofNat 32 (i 1).val
  let c128_i32 : BitVec 32 := 128#32
  let v0 : BitVec 32 := Scalar.muli arg1 c128_i32
  let v1 : BitVec 32 := v0
  let c0_i32_210 : BitVec 32 := 0#32
  let v603 : BitVec 1 := Scalar.cmpi .sgt v1 c0_i32_210
  let v604 : BitVec 32 := Scalar.extui v603
  let c0_i32_211 : BitVec 32 := 0#32
  let v605 : BitVec 1 := Scalar.cmpi .slt v1 c0_i32_211
  let v606 : BitVec 32 := Scalar.extui v605
  let v607 : BitVec 32 := Scalar.subi v604 v606
  let c512_i32_209 : BitVec 32 := 512#32
  let c0_i32_212 : BitVec 32 := 0#32
  let v608 : BitVec 1 := Scalar.cmpi .sgt c512_i32_209 c0_i32_212
  let v609 : BitVec 32 := Scalar.extui v608
  let c0_i32_213 : BitVec 32 := 0#32
  let v610 : BitVec 1 := Scalar.cmpi .slt c512_i32_209 c0_i32_213
  let v611 : BitVec 32 := Scalar.extui v610
  let v612 : BitVec 32 := Scalar.subi v609 v611
  let v613 : BitVec 1 := Scalar.cmpi .ne v607 v612
  let v614 : BitVec 32 := Scalar.remsi v1 c512_i32_209
  let c0_i32_214 : BitVec 32 := 0#32
  let v615 : BitVec 1 := Scalar.cmpi .ne v614 c0_i32_214
  let v616 : BitVec 1 := Scalar.andi v613 v615
  let v602 : BitVec 32 := Scalar.divsi v1 c512_i32_209
  let c1_i32_215 : BitVec 32 := 1#32
  let v617 : BitVec 32 := Scalar.subi v602 c1_i32_215
  let v618 : BitVec 32 := Scalar.select v616 v617 v602
  let c512_i32_216 : BitVec 32 := 512#32
  let v619 : BitVec 32 := Scalar.muli v618 c512_i32_216
  let v620 : BitVec 32 := v619
  let v643 : Index := Scalar.indexCast v620
  ![0, v643.toNat]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8192x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8192x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "neg" => some ⊥
  | "qs" => some (((1 / 8) * (Real.log 2)⁻¹ : ℝ) : EReal)
  | _ => none
-- ==== Ffn.lean ====
abbrev S16384x1024 : Shape := ⟨2, ![16384, 1024]⟩
abbrev S16384x512 : Shape := ⟨2, ![16384, 512]⟩
abbrev S512x1024 : Shape := ⟨2, ![512, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S512x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S512x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S16384x1024 : Shape := ⟨2, ![16384, 1024]⟩
abbrev S16384x512 : Shape := ⟨2, ![16384, 512]⟩
abbrev S512x1024 : Shape := ⟨2, ![512, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S512x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S16384x512, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Mix.lean ====
abbrev S16384x1024 : Shape := ⟨2, ![16384, 1024]⟩
abbrev S16384x512 : Shape := ⟨2, ![16384, 512]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S1x512 : Shape := ⟨2, ![1, 512]⟩
abbrev S1x1024 : Shape := ⟨2, ![1, 1024]⟩
abbrev S512x1024 : Shape := ⟨2, ![512, 1024]⟩
abbrev S512x512 : Shape := ⟨2, ![512, 512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S1x512, .f32⟩
  | .hbm, ⟨9, _⟩ => ⟨S1x512, .f32⟩
  | .hbm, ⟨10, _⟩ => ⟨S1024x1024, .bf16⟩
  | .hbm, ⟨11, _⟩ => ⟨S1x1024, .f32⟩
  | .hbm, ⟨12, _⟩ => ⟨S1024x512, .bf16⟩
  | .hbm, ⟨13, _⟩ => ⟨S16384x1024, .f32⟩
  | .hbm, ⟨14, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x512, .bf16⟩
  | .local _ .vmem, ⟨11, _⟩ => ⟨S512x1024, .f32⟩
  | .local _ .vmem, ⟨12, _⟩ => ⟨S512x1024, .f32⟩
  | .local _ .vmem, ⟨13, _⟩ => ⟨S512x512, .bf16⟩
  | .local _ .vmem, ⟨14, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixReferenceIdeal.lean ====
abbrev S16384x1024 : Shape := ⟨2, ![16384, 1024]⟩
abbrev S16384x512 : Shape := ⟨2, ![16384, 512]⟩
abbrev S512 : Shape := ⟨1, ![512]⟩
abbrev S1024x1024 : Shape := ⟨2, ![1024, 1024]⟩
abbrev S1024 : Shape := ⟨1, ![1024]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S16384x512, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x512, .f32⟩
  | .hbm, ⟨20, _⟩ => ⟨S16384x512, .f32⟩
  | .hbm, ⟨21, _⟩ => ⟨S1x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x512, .f32⟩
  | .hbm, ⟨36, _⟩ => ⟨S16384x512, .f32⟩
  | .hbm, ⟨37, _⟩ => ⟨S1x512, .f32⟩
  | .hbm, ⟨38, _⟩ => ⟨S16384x512, .f32⟩
  | .hbm, ⟨39, _⟩ => ⟨S16384x512, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x512, .f32⟩
  | .hbm, ⟨60, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x1816 : Shape := ⟨2, ![1024, 1816]⟩
abbrev S1x1024 : Shape := ⟨2, ![1, 1024]⟩
abbrev S1024x512 : Shape := ⟨2, ![1024, 512]⟩
abbrev S1024x256 : Shape := ⟨2, ![1024, 256]⟩
abbrev S1024x24 : Shape := ⟨2, ![1024, 24]⟩
abbrev S_ : Shape := ⟨0, ![]⟩
abbrev S1024x64 : Shape := ⟨2, ![1024, 64]⟩
abbrev S1024x104 : Shape := ⟨2, ![1024, 104]⟩
abbrev S1024x1024 : Shape := ⟨2, ![1024, 1024]⟩
abbrev S1024x1408 : Shape := ⟨2, ![1024, 1408]⟩
abbrev S1024x2432 : Shape := ⟨2, ![1024, 2432]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S2x256x8192 : Shape := ⟨3, ![2, 256, 8192]⟩
abbrev S16384x256 : Shape := ⟨2, ![16384, 256]⟩
abbrev S16384x128 : Shape := ⟨2, ![16384, 128]⟩
abbrev S16384x512 : Shape := ⟨2, ![16384, 512]⟩
abbrev S512x1024 : Shape := ⟨2, ![512, 1024]⟩
abbrev S512x128 : Shape := ⟨2, ![512, 128]⟩
abbrev S1x256x512 : Shape := ⟨3, ![1, 256, 512]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S128x512 : Shape := ⟨2, ![128, 512]⟩
abbrev S256x512 : Shape := ⟨2, ![256, 512]⟩
abbrev S1024x128 : Shape := ⟨2, ![1024, 128]⟩

abbrev nBuf : Space → Nat
  | .hbm => 72
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1816, .f32⟩
  | .hbm, ⟨3, _⟩ => ⟨S1x1024, .f32⟩
  | .hbm, ⟨4, _⟩ => ⟨S1024x512, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x24, .f32⟩
  | .hbm, ⟨9, _⟩ => ⟨S1024x512, .f32⟩
  | .hbm, ⟨10, _⟩ => ⟨S_, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S1024x64, .f32⟩
  | .hbm, ⟨15, _⟩ => ⟨S1024x64, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S_, .f32⟩
  | .hbm, ⟨21, _⟩ => ⟨S1024x104, .f32⟩
  | .hbm, ⟨22, _⟩ => ⟨S1024x1024, .f32⟩
  | .hbm, ⟨23, _⟩ => ⟨S1024x1408, .f32⟩
  | .hbm, ⟨24, _⟩ => ⟨S1024x2432, .f32⟩
  | .hbm, ⟨25, _⟩ => ⟨S1024x2432, .bf16⟩
  | .hbm, ⟨26, _⟩ => ⟨S8192, .i32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8192, .f32⟩
  | .hbm, ⟨36, _⟩ => ⟨S8192x1, .f32⟩
  | .hbm, ⟨37, _⟩ => ⟨S1x8, .f32⟩
  | .hbm, ⟨38, _⟩ => ⟨S8192x8, .f32⟩
  | .hbm, ⟨39, _⟩ => ⟨S8192x8, .f32⟩
  | .hbm, ⟨40, _⟩ => ⟨S8192x8, .f32⟩
  | .hbm, ⟨41, _⟩ => ⟨S8192x8, .f32⟩
  | .hbm, ⟨42, _⟩ => ⟨S8192x8, .f32⟩
  | .hbm, ⟨43, _⟩ => ⟨S_, .f32⟩
  | .hbm, ⟨44, _⟩ => ⟨S8192x8, .f32⟩
  | .hbm, ⟨45, _⟩ => ⟨S_, .f32⟩
  | .hbm, ⟨46, _⟩ => ⟨S8192x48, .f32⟩
  | .hbm, ⟨47, _⟩ => ⟨S_, .f32⟩
  | .hbm, ⟨48, _⟩ => ⟨S8192x48, .f32⟩
  | .hbm, ⟨49, _⟩ => ⟨S8192x48, .f32⟩
  | .hbm, ⟨50, _⟩ => ⟨S8192x64, .f32⟩
  | .hbm, ⟨51, _⟩ => ⟨S8192x8, .f32⟩
  | .hbm, ⟨52, _⟩ => ⟨S8192x64, .f32⟩
  | .hbm, ⟨53, _⟩ => ⟨S8192x64, .f32⟩
  | .hbm, ⟨54, _⟩ => ⟨S1x8192x1x64, .f32⟩
  | .hbm, ⟨55, _⟩ => ⟨S1x8192x2x64, .f32⟩
  | .hbm, ⟨56, _⟩ => ⟨S8192x128, .f32⟩
  | .hbm, ⟨57, _⟩ => ⟨S1x8192x1x64, .f32⟩
  | .hbm, ⟨58, _⟩ => ⟨S1x8192x2x64, .f32⟩
  | .hbm, ⟨59, _⟩ => ⟨S8192x128, .f32⟩
  | .hbm, ⟨60, _⟩ => ⟨S1x8192x1x64, .f32⟩
  | .hbm, ⟨61, _⟩ => ⟨S1x8192x2x64, .f32⟩
  | .hbm, ⟨62, _⟩ => ⟨S8192x128, .f32⟩
  | .hbm, ⟨63, _⟩ => ⟨S16384x1024, .f32⟩
  | .hbm, ⟨64, _⟩ => ⟨S16384x1024, .f32⟩
  | .hbm, ⟨65, _⟩ => ⟨S2x256x8192, .f32⟩
  | .hbm, ⟨66, _⟩ => ⟨S2x256x8192, .f32⟩
  | .hbm, ⟨67, _⟩ => ⟨S2x256x8192, .f32⟩
  | .hbm, ⟨68, _⟩ => ⟨S16384x256, .bf16⟩
  | .hbm, ⟨69, _⟩ => ⟨S16384x256, .bf16⟩
  | .hbm, ⟨70, _⟩ => ⟨S16384x128, .f32⟩
  | .hbm, ⟨71, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x128, .f32⟩
  | .local _ .vmem, ⟨25, _⟩ => ⟨S512x128, .f32⟩
  | .local _ .vmem, ⟨26, _⟩ => ⟨S512x512, .f32⟩
  | .local _ .vmem, ⟨27, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53_0 : Ref sig .tc := ⟨.hbm, 63, rfl⟩
abbrev main_v53_1 : Ref sig .tc := ⟨.hbm, 64, rfl⟩
abbrev main_v53_2 : Ref sig .tc := ⟨.hbm, 65, rfl⟩
abbrev main_v53_3 : Ref sig .tc := ⟨.hbm, 66, rfl⟩
abbrev main_v53_4 : Ref sig .tc := ⟨.hbm, 67, rfl⟩
abbrev main_v53_5 : Ref sig .tc := ⟨.hbm, 68, rfl⟩
abbrev main_v53_6 : Ref sig .tc := ⟨.hbm, 69, rfl⟩
abbrev main_v53_7 : Ref sig .tc := ⟨.hbm, 70, rfl⟩
abbrev main_v53_8 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InProjReferenceIdeal.lean ====
abbrev S16384x1024 : Shape := ⟨2, ![16384, 1024]⟩
abbrev S1024 : Shape := ⟨1, ![1024]⟩
abbrev S1024x1816 : Shape := ⟨2, ![1024, 1816]⟩
abbrev S8192 : Shape := ⟨1, ![8192]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1816 : Shape := ⟨2, ![16384, 1816]⟩
abbrev S16384x512 : Shape := ⟨2, ![16384, 512]⟩
abbrev S16384x256 : Shape := ⟨2, ![16384, 256]⟩
abbrev S16384x24 : Shape := ⟨2, ![16384, 24]⟩
abbrev S2x8192x8x64 : Shape := ⟨4, ![2, 8192, 8, 64]⟩
abbrev S16384x128 : Shape := ⟨2, ![16384, 128]⟩
abbrev S2x8192x2x64 : Shape := ⟨4, ![2, 8192, 2, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x2x8 : Shape := ⟨4, ![2, 8192, 2, 8]⟩
abbrev S2x8192x2x48 : Shape := ⟨4, ![2, 8192, 2, 48]⟩
abbrev S2x8192x4x64 : Shape := ⟨4, ![2, 8192, 4, 64]⟩
abbrev S16384x104 : Shape := ⟨2, ![16384, 104]⟩
abbrev S2x8192x4x128 : Shape := ⟨4, ![2, 8192, 4, 128]⟩
abbrev S2x8192x8x128 : Shape := ⟨4, ![2, 8192, 8, 128]⟩
abbrev S2x8192x8x8 : Shape := ⟨4, ![2, 8192, 8, 8]⟩
abbrev S2x8192x8x48 : Shape := ⟨4, ![2, 8192, 8, 48]⟩
abbrev S2x8192x256 : Shape := ⟨3, ![2, 8192, 256]⟩
abbrev S2x256x8192 : Shape := ⟨3, ![2, 256, 8192]⟩

abbrev nBuf : Space → Nat
  | .hbm => 171
  | .vmem => 0
  | .smem => 0
  | _ => 0

abbrev hbmTy0_0 (i : Nat) : BufTy := match i % 128 with
  | 0 => ⟨S16384x1024, .f32⟩
  | 1 => ⟨S1024, .f32⟩
  | 2 => ⟨S1024x1816, .f32⟩
  | 3 => ⟨S8192, .i32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384x1, .f32⟩
  | 15 => ⟨S16384x1024, .f32⟩
  | 16 => ⟨S16384x1024, .f32⟩
  | 17 => ⟨S1x1024, .f32⟩
  | 18 => ⟨S16384x1024, .f32⟩
  | 19 => ⟨S16384x1024, .f32⟩
  | 20 => ⟨S16384x1816, .f32⟩
  | 21 => ⟨S16384x512, .f32⟩
  | 22 => ⟨S16384x256, .f32⟩
  | 23 => ⟨S16384x256, .f32⟩
  | 24 => ⟨S16384x256, .f32⟩
  | 25 => ⟨S16384x24, .f32⟩
  | 26 => ⟨S16384x512, .f32⟩
  | 27 => ⟨S2x8192x8x64, .f32⟩
  | 28 => ⟨S16384x128, .f32⟩
  | 29 => ⟨S2x8192x2x64, .f32⟩
  | 30 => ⟨S16384x128, .f32⟩
  | 31 => ⟨S2x8192x2x64, .f32⟩
  | 32 => ⟨S8, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S8192, .f32⟩
  | 41 => ⟨S8192x1, .f32⟩
  | 42 => ⟨S1x8, .f32⟩
  | 43 => ⟨S8192x8, .f32⟩
  | 44 => ⟨S8192x8, .f32⟩
  | 45 => ⟨S8192x8, .f32⟩
  | 46 => ⟨S8192x8, .f32⟩
  | 47 => ⟨S1x8192x1x8, .f32⟩
  | 48 => ⟨S8192x8, .f32⟩
  | 49 => ⟨S1x8192x1x8, .f32⟩
  | 50 => ⟨S2x8192x2x8, .f32⟩
  | 51 => ⟨S2x8192x2x8, .f32⟩
  | 52 => ⟨S2x8192x2x48, .f32⟩
  | 53 => ⟨S2x8192x2x8, .f32⟩
  | 54 => ⟨S2x8192x2x8, .f32⟩
  | 55 => ⟨S2x8192x2x8, .f32⟩
  | 56 => ⟨S2x8192x2x8, .f32⟩
  | 57 => ⟨S2x8192x2x8, .f32⟩
  | 58 => ⟨S2x8192x2x8, .f32⟩
  | 59 => ⟨S2x8192x2x8, .f32⟩
  | 60 => ⟨S2x8192x2x8, .f32⟩
  | 61 => ⟨S2x8192x2x8, .f32⟩
  | 62 => ⟨S2x8192x2x8, .f32⟩
  | 63 => ⟨S2x8192x2x64, .f32⟩
  | 64 => ⟨S2x8192x4x64, .f32⟩
  | 65 => ⟨S16384x256, .f32⟩
  | 66 => ⟨S16384x128, .f32⟩
  | 67 => ⟨S2x8192x2x64, .f32⟩
  | 68 => ⟨S16384x128, .f32⟩
  | 69 => ⟨S2x8192x2x64, .f32⟩
  | 70 => ⟨S8, .f32⟩
  | 71 => ⟨S8, .f32⟩
  | 72 => ⟨S_, .f32⟩
  | 73 => ⟨S8, .f32⟩
  | 74 => ⟨S8, .f32⟩
  | 75 => ⟨S_, .f32⟩
  | 76 => ⟨S8, .f32⟩
  | 77 => ⟨S8, .f32⟩
  | 78 => ⟨S8192, .f32⟩
  | 79 => ⟨S8192x1, .f32⟩
  | 80 => ⟨S1x8, .f32⟩
  | 81 => ⟨S8192x8, .f32⟩
  | 82 => ⟨S8192x8, .f32⟩
  | 83 => ⟨S8192x8, .f32⟩
  | 84 => ⟨S8192x8, .f32⟩
  | 85 => ⟨S1x8192x1x8, .f32⟩
  | 86 => ⟨S8192x8, .f32⟩
  | 87 => ⟨S1x8192x1x8, .f32⟩
  | 88 => ⟨S2x8192x2x8, .f32⟩
  | 89 => ⟨S2x8192x2x8, .f32⟩
  | 90 => ⟨S2x8192x2x48, .f32⟩
  | 91 => ⟨S2x8192x2x8, .f32⟩
  | 92 => ⟨S2x8192x2x8, .f32⟩
  | 93 => ⟨S2x8192x2x8, .f32⟩
  | 94 => ⟨S2x8192x2x8, .f32⟩
  | 95 => ⟨S2x8192x2x8, .f32⟩
  | 96 => ⟨S2x8192x2x8, .f32⟩
  | 97 => ⟨S2x8192x2x8, .f32⟩
  | 98 => ⟨S2x8192x2x8, .f32⟩
  | 99 => ⟨S2x8192x2x8, .f32⟩
  | 100 => ⟨S2x8192x2x8, .f32⟩
  | 101 => ⟨S2x8192x2x64, .f32⟩
  | 102 => ⟨S2x8192x4x64, .f32⟩
  | 103 => ⟨S16384x256, .f32⟩
  | 104 => ⟨S_, .f32⟩
  | 105 => ⟨S16384x104, .f32⟩
  | 106 => ⟨S16384x128, .f32⟩
  | 107 => ⟨S16384x128, .f32⟩
  | 108 => ⟨S16384x128, .f32⟩
  | 109 => ⟨S_, .f32⟩
  | 110 => ⟨S16384x128, .f32⟩
  | 111 => ⟨S16384x128, .f32⟩
  | 112 => ⟨S_, .f32⟩
  | 113 => ⟨S16384x128, .f32⟩
  | 114 => ⟨S16384x128, .f32⟩
  | 115 => ⟨S_, .f32⟩
  | 116 => ⟨S2x8192x4x64, .f32⟩
  | 117 => ⟨S2x8192x4x64, .f32⟩
  | 118 => ⟨S2x8192x4x128, .f32⟩
  | 119 => ⟨S2x8192x4x64, .f32⟩
  | 120 => ⟨S2x8192x4x128, .f32⟩
  | 121 => ⟨S2x8192x8x128, .f32⟩
  | 122 => ⟨S16384x1024, .f32⟩
  | 123 => ⟨S8, .f32⟩
  | 124 => ⟨S8, .f32⟩
  | 125 => ⟨S_, .f32⟩
  | 126 => ⟨S8, .f32⟩
  | 127 => ⟨S8, .f32⟩
  | _ => ⟨S16384x1024, .f32⟩

abbrev hbmTy0_1 (i : Nat) : BufTy := match i % 128 with
  | 0 => ⟨S_, .f32⟩
  | 1 => ⟨S8, .f32⟩
  | 2 => ⟨S8, .f32⟩
  | 3 => ⟨S8192, .f32⟩
  | 4 => ⟨S8192x1, .f32⟩
  | 5 => ⟨S1x8, .f32⟩
  | 6 => ⟨S8192x8, .f32⟩
  | 7 => ⟨S8192x8, .f32⟩
  | 8 => ⟨S8192x8, .f32⟩
  | 9 => ⟨S8192x8, .f32⟩
  | 10 => ⟨S1x8192x1x8, .f32⟩
  | 11 => ⟨S8192x8, .f32⟩
  | 12 => ⟨S1x8192x1x8, .f32⟩
  | 13 => ⟨S2x8192x8x8, .f32⟩
  | 14 => ⟨S2x8192x8x8, .f32⟩
  | 15 => ⟨S2x8192x8x48, .f32⟩
  | 16 => ⟨S2x8192x8x8, .f32⟩
  | 17 => ⟨S2x8192x8x8, .f32⟩
  | 18 => ⟨S2x8192x8x8, .f32⟩
  | 19 => ⟨S2x8192x8x8, .f32⟩
  | 20 => ⟨S2x8192x8x8, .f32⟩
  | 21 => ⟨S2x8192x8x8, .f32⟩
  | 22 => ⟨S2x8192x8x8, .f32⟩
  | 23 => ⟨S2x8192x8x8, .f32⟩
  | 24 => ⟨S2x8192x8x8, .f32⟩
  | 25 => ⟨S2x8192x8x8, .f32⟩
  | 26 => ⟨S2x8192x8x64, .f32⟩
  | 27 => ⟨S_, .f32⟩
  | 28 => ⟨S2x8192x4x64, .f32⟩
  | 29 => ⟨S2x8192x4x64, .f32⟩
  | 30 => ⟨S2x8192x4x128, .f32⟩
  | 31 => ⟨S2x8192x4x64, .f32⟩
  | 32 => ⟨S2x8192x4x128, .f32⟩
  | 33 => ⟨S2x8192x8x128, .f32⟩
  | 34 => ⟨S16384x1024, .f32⟩
  | 35 => ⟨S2x8192x256, .f32⟩
  | 36 => ⟨S2x256x8192, .f32⟩
  | 37 => ⟨S2x8192x256, .f32⟩
  | 38 => ⟨S2x256x8192, .f32⟩
  | 39 => ⟨S2x8192x256, .f32⟩
  | 40 => ⟨S2x256x8192, .f32⟩
  | 41 => ⟨S16384x256, .bf16⟩
  | 42 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_4 : Ref sig .tc := ⟨.hbm, 72, rfl⟩
abbrev main_v64 : Ref sig .tc := ⟨.hbm, 73, rfl⟩
abbrev main_v65 : Ref sig .tc := ⟨.hbm, 74, rfl⟩
abbrev main_cst_5 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_6 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_cst_7 : Ref sig .tc := ⟨.hbm, 109, rfl⟩
abbrev main_v98 : Ref sig .tc := ⟨.hbm, 110, rfl⟩
abbrev main_v99 : Ref sig .tc := ⟨.hbm, 111, rfl⟩
abbrev main_cst_8 : Ref sig .tc := ⟨.hbm, 112, rfl⟩
abbrev main_v100 : Ref sig .tc := ⟨.hbm, 113, rfl⟩
abbrev main_v101 : Ref sig .tc := ⟨.hbm, 114, rfl⟩
abbrev main_cst_9 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_cst_10 : Ref sig .tc := ⟨.hbm, 125, rfl⟩
abbrev main_v111 : Ref sig .tc := ⟨.hbm, 126, rfl⟩
abbrev main_v112 : Ref sig .tc := ⟨.hbm, 127, rfl⟩
abbrev main_cst_11 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_cst_12 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩

abbrev nD : Nat := 1
abbrev τ : Topo := Topo.v7x

variable {F : FTy → Type} [FloatOps F]
-- ==== MemKv.lean ====
abbrev S512x1024 : Shape := ⟨2, ![512, 1024]⟩
abbrev S1024 : Shape := ⟨1, ![1024]⟩
abbrev S1024x1024 : Shape := ⟨2, ![1024, 1024]⟩
abbrev S1x1024 : Shape := ⟨2, ![1, 1024]⟩
abbrev S512x512 : Shape := ⟨2, ![512, 512]⟩
abbrev S2x4x144x256 : Shape := ⟨4, ![2, 4, 144, 256]⟩
abbrev S256x1024 : Shape := ⟨2, ![256, 1024]⟩
abbrev S256x512 : Shape := ⟨2, ![256, 512]⟩
abbrev S1x4x144x256 : Shape := ⟨4, ![1, 4, 144, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S16x256 : Shape := ⟨2, ![16, 256]⟩
abbrev S144x256 : Shape := ⟨2, ![144, 256]⟩
abbrev S1x1x144x256 : Shape := ⟨4, ![1, 1, 144, 256]⟩

abbrev nBuf : Space → Nat
  | .hbm => 8
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S512x1024, .f32⟩
  | .hbm, ⟨6, _⟩ => ⟨S512x512, .bf16⟩
  | .hbm, ⟨7, _⟩ => ⟨S2x4x144x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x512, .bf16⟩
  | .local _ .vmem, ⟨7, _⟩ => ⟨S256x512, .bf16⟩
  | .local _ .vmem, ⟨8, _⟩ => ⟨S1x4x144x256, .bf16⟩
  | .local _ .vmem, ⟨9, _⟩ => ⟨S1x4x144x256, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x144x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvReferenceIdeal.lean ====
abbrev S512x1024 : Shape := ⟨2, ![512, 1024]⟩
abbrev S1024 : Shape := ⟨1, ![1024]⟩
abbrev S1024x1024 : Shape := ⟨2, ![1024, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x512 : Shape := ⟨2, ![512, 512]⟩
abbrev S2x256x4x128 : Shape := ⟨4, ![2, 256, 4, 128]⟩
abbrev S2x4x128x256 : Shape := ⟨4, ![2, 4, 128, 256]⟩
abbrev S2x4x1x256 : Shape := ⟨4, ![2, 4, 1, 256]⟩
abbrev S2x4x15x256 : Shape := ⟨4, ![2, 4, 15, 256]⟩
abbrev S2x4x144x256 : Shape := ⟨4, ![2, 4, 144, 256]⟩

abbrev nBuf : Space → Nat
  | .hbm => 31
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x512, .f32⟩
  | .hbm, ⟨21, _⟩ => ⟨S2x256x4x128, .f32⟩
  | .hbm, ⟨22, _⟩ => ⟨S2x4x128x256, .f32⟩
  | .hbm, ⟨23, _⟩ => ⟨S_, .f32⟩
  | .hbm, ⟨24, _⟩ => ⟨S2x4x1x256, .f32⟩
  | .hbm, ⟨25, _⟩ => ⟨S_, .f32⟩
  | .hbm, ⟨26, _⟩ => ⟨S2x4x15x256, .f32⟩
  | .hbm, ⟨27, _⟩ => ⟨S512x512, .f32⟩
  | .hbm, ⟨28, _⟩ => ⟨S512x512, .bf16⟩
  | .hbm, ⟨29, _⟩ => ⟨S2x4x144x256, .f32⟩
  | .hbm, ⟨30, _⟩ => ⟨S2x4x144x256, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Compress.lean ====
abbrev S2x256x8192 : Shape := ⟨3, ![2, 256, 8192]⟩
abbrev S2x32x64 : Shape := ⟨3, ![2, 32, 64]⟩
abbrev S2x2048x64 : Shape := ⟨3, ![2, 2048, 64]⟩
abbrev S2x64x64 : Shape := ⟨3, ![2, 64, 64]⟩
abbrev S2x2x16x64x64 : Shape := ⟨5, ![2, 2, 16, 64, 64]⟩
abbrev S2x2 : Shape := ⟨2, ![2, 2]⟩
abbrev S_ : Shape := ⟨0, ![]⟩
abbrev S2x16x64x2x64 : Shape := ⟨5, ![2, 16, 64, 2, 64]⟩
abbrev S2x16x1x64x2x1x64 : Shape := ⟨7, ![2, 16, 1, 64, 2, 1, 64]⟩
abbrev S2x1x1x2x1 : Shape := ⟨5, ![2, 1, 1, 2, 1]⟩
abbrev S1x1x2x1x1x2x1 : Shape := ⟨7, ![1, 1, 2, 1, 1, 2, 1]⟩
abbrev S2x16x2x64x2x2x64 : Shape := ⟨7, ![2, 16, 2, 64, 2, 2, 64]⟩
abbrev S2x2048x256 : Shape := ⟨3, ![2, 2048, 256]⟩
abbrev S2x32x64x64 : Shape := ⟨4, ![2, 32, 64, 64]⟩
abbrev S2x64 : Shape := ⟨2, ![2, 64]⟩
abbrev S2x1x64 : Shape := ⟨3, ![2, 1, 64]⟩
abbrev S2x2x64 : Shape := ⟨3, ![2, 2, 64]⟩
abbrev S2x1x128 : Shape := ⟨3, ![2, 1, 128]⟩
abbrev S2x1x64x1x64 : Shape := ⟨5, ![2, 1, 64, 1, 64]⟩
abbrev S2x1x2x1 : Shape := ⟨4, ![2, 1, 2, 1]⟩
abbrev S1x2x1x2x1 : Shape := ⟨5, ![1, 2, 1, 2, 1]⟩
abbrev S2x2x64x2x64 : Shape := ⟨5, ![2, 2, 64, 2, 64]⟩
abbrev S2x128x128 : Shape := ⟨3, ![2, 128, 128]⟩
abbrev S2x512x256 : Shape := ⟨3, ![2, 512, 256]⟩
abbrev S1x256x8192 : Shape := ⟨3, ![1, 256, 8192]⟩
abbrev S1x512x256 : Shape := ⟨3, ![1, 512, 256]⟩
abbrev S8x256 : Shape := ⟨2, ![8, 256]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S512x128 : Shape := ⟨2, ![512, 128]⟩
abbrev S8x128 : Shape := ⟨2, ![8, 128]⟩
abbrev S512x2048 : Shape := ⟨2, ![512, 2048]⟩
abbrev S1x2048x256 : Shape := ⟨3, ![1, 2048, 256]⟩
abbrev S2048x256 : Shape := ⟨2, ![2048, 256]⟩
abbrev S512x256 : Shape := ⟨2, ![512, 256]⟩
abbrev S1x128 : Shape := ⟨2, ![1, 128]⟩
abbrev S1x1x128 : Shape := ⟨3, ![1, 1, 128]⟩
abbrev S1x128x128 : Shape := ⟨3, ![1, 128, 128]⟩

abbrev nBuf : Space → Nat
  | .hbm => 35
  | .vmem => 8
  | .smem => 0
  | _ => 0

abbrev bufTy : (tb : Table) → Fin (tcTables nBuf tb) → BufTy
  | .hbm, ⟨0, _⟩ => ⟨S2x256x8192, .f32⟩
  | .hbm, ⟨1, _⟩ => ⟨S2x32x64, .f32⟩
  | .hbm, ⟨2, _⟩ => ⟨S2x2048x64, .f32⟩
  | .hbm, ⟨3, _⟩ => ⟨S2x64x64, .f32⟩
  | .hbm, ⟨4, _⟩ => ⟨S2x2x16x64x64, .f32⟩
  | .hbm, ⟨5, _⟩ => ⟨S2x2, .i32⟩
  | .hbm, ⟨6, _⟩ => ⟨S2x2, .i32⟩
  | .hbm, ⟨7, _⟩ => ⟨S_, .i32⟩
  | .hbm, ⟨8, _⟩ => ⟨S2x2, .i32⟩
  | .hbm, ⟨9, _⟩ => ⟨S2x2, .i32⟩
  | .hbm, ⟨10, _⟩ => ⟨S2x2, .i1⟩
  | .hbm, ⟨11, _⟩ => ⟨S2x2, .f32⟩
  | .hbm, ⟨12, _⟩ => ⟨S2x16x64x2x64, .f32⟩
  | .hbm, ⟨13, _⟩ => ⟨S2x16x1x64x2x1x64, .f32⟩
  | .hbm, ⟨14, _⟩ => ⟨S2x1x1x2x1, .f32⟩
  | .hbm, ⟨15, _⟩ => ⟨S1x1x2x1x1x2x1, .f32⟩
  | .hbm, ⟨16, _⟩ => ⟨S2x16x2x64x2x2x64, .f32⟩
  | .hbm, ⟨17, _⟩ => ⟨S2x16x2x64x2x2x64, .f32⟩
  | .hbm, ⟨18, _⟩ => ⟨S2x16x2x64x2x2x64, .f32⟩
  | .hbm, ⟨19, _⟩ => ⟨S2x2048x256, .f32⟩
  | .hbm, ⟨20, _⟩ => ⟨S2x32x64x64, .f32⟩
  | .hbm, ⟨21, _⟩ => ⟨S2x64, .f32⟩
  | .hbm, ⟨22, _⟩ => ⟨S2x1x64, .f32⟩
  | .hbm, ⟨23, _⟩ => ⟨S2x2x64, .f32⟩
  | .hbm, ⟨24, _⟩ => ⟨S2x1x128, .f32⟩
  | .hbm, ⟨25, _⟩ => ⟨S2x1x64x1x64, .f32⟩
  | .hbm, ⟨26, _⟩ => ⟨S2x1x2x1, .f32⟩
  | .hbm, ⟨27, _⟩ => ⟨S1x2x1x2x1, .f32⟩
  | .hbm, ⟨28, _⟩ => ⟨S2x2x64x2x64, .f32⟩
  | .hbm, ⟨29, _⟩ => ⟨S2x2x64x2x64, .f32⟩
  | .hbm, ⟨30, _⟩ => ⟨S2x2x64x2x64, .f32⟩
  | .hbm, ⟨31, _⟩ => ⟨S2x128x128, .f32⟩
  | .hbm, ⟨32, _⟩ => ⟨S2x2048x256, .bf16⟩
  | .hbm, ⟨33, _⟩ => ⟨S2x128x128, .bf16⟩
  | .hbm, ⟨34, _⟩ => ⟨S2x512x256, .bf16⟩
  | .local _ .vmem, ⟨0, _⟩ => ⟨S1x256x8192, .f32⟩
  | .local _ .vmem, ⟨1, _⟩ => ⟨S1x256x8192, .f32⟩
  | .local _ .vmem, ⟨2, _⟩ => ⟨S2x2048x256, .bf16⟩
  | .local _ .vmem, ⟨3, _⟩ => ⟨S2x1x128, .f32⟩
  | .local _ .vmem, ⟨4, _⟩ => ⟨S2x128x128, .bf16⟩
  | .local _ .vmem, ⟨5, _⟩ => ⟨S1x512x256, .bf16⟩
  | .local _ .vmem, ⟨6, _⟩ => ⟨S1x512x256, .bf16⟩
  | .local _ .vmem, ⟨7, _⟩ => ⟨S8x256, .f32⟩
  | _, _ => ⟨S2x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CompressReferenceIdeal.lean ====
abbrev S2x256x8192 : Shape := ⟨3, ![2, 256, 8192]⟩
abbrev S2x32x64 : Shape := ⟨3, ![2, 32, 64]⟩
abbrev S2x2048x64 : Shape := ⟨3, ![2, 2048, 64]⟩
abbrev S2x64x64 : Shape := ⟨3, ![2, 64, 64]⟩
abbrev S_ : Shape := ⟨0, ![]⟩
abbrev S2x16x256 : Shape := ⟨3, ![2, 16, 256]⟩
abbrev S2x8192x256 : Shape := ⟨3, ![2, 8192, 256]⟩
abbrev S2x8208x256 : Shape := ⟨3, ![2, 8208, 256]⟩
abbrev S2x513x16x2x2x64 : Shape := ⟨6, ![2, 513, 16, 2, 2, 64]⟩
abbrev S2x32x64x64 : Shape := ⟨4, ![2, 32, 64, 64]⟩
abbrev S2x2x16x64x64 : Shape := ⟨5, ![2, 2, 16, 64, 64]⟩
abbrev S2x64 : Shape := ⟨2, ![2, 64]⟩
abbrev S1x1x2x1x64 : Shape := ⟨5, ![1, 1, 2, 1, 64]⟩
abbrev S2x1x16x64x64 : Shape := ⟨5, ![2, 1, 16, 64, 64]⟩
abbrev S2x16x64x64 : Shape := ⟨4, ![2, 16, 64, 64]⟩
abbrev S2x64x2x513x2 : Shape := ⟨5, ![2, 64, 2, 513, 2]⟩
abbrev S2x513x2x2x64 : Shape := ⟨5, ![2, 513, 2, 2, 64]⟩
abbrev S2x512x2x2x64 : Shape := ⟨5, ![2, 512, 2, 2, 64]⟩
abbrev S2x64x2x512x2 : Shape := ⟨5, ![2, 64, 2, 512, 2]⟩
abbrev S2x512x256 : Shape := ⟨3, ![2, 512, 256]⟩

abbrev nBuf : Space → Nat
  | .hbm => 47
  | .vmem => 0
  | .smem => 0
  | _ => 0

abbrev bufTy : (tb : Table) → Fin (tcTables nBuf tb) → BufTy
  | .hbm, ⟨0, _⟩ => ⟨S2x256x8192, .f32⟩
  | .hbm, ⟨1, _⟩ => ⟨S2x32x64, .f32⟩
  | .hbm, ⟨2, _⟩ => ⟨S2x2048x64, .f32⟩
  | .hbm, ⟨3, _⟩ => ⟨S2x64x64, .f32⟩
  | .hbm, ⟨4, _⟩ => ⟨S_, .f32⟩
  | .hbm, ⟨5, _⟩ => ⟨S2x16x256, .f32⟩
  | .hbm, ⟨6, _⟩ => ⟨S2x8192x256, .f32⟩
  | .hbm, ⟨7, _⟩ => ⟨S2x8208x256, .f32⟩
  | .hbm, ⟨8, _⟩ => ⟨S2x513x16x2x2x64, .f32⟩
  | .hbm, ⟨9, _⟩ => ⟨S2x32x64x64, .f32⟩
  | .hbm, ⟨10, _⟩ => ⟨S2x2x16x64x64, .f32⟩
  | .hbm, ⟨11, _⟩ => ⟨S2x64, .f32⟩
  | .hbm, ⟨12, _⟩ => ⟨S1x1x2x1x64, .f32⟩
  | .hbm, ⟨13, _⟩ => ⟨S2x1x16x64x64, .f32⟩
  | .hbm, ⟨14, _⟩ => ⟨S2x16x64x64, .f32⟩
  | .hbm, ⟨15, _⟩ => ⟨S2x64x2x513x2, .f32⟩
  | .hbm, ⟨16, _⟩ => ⟨S2x513x2x2x64, .f32⟩
  | .hbm, ⟨17, _⟩ => ⟨S2x512x2x2x64, .f32⟩
  | .hbm, ⟨18, _⟩ => ⟨S2x512x2x2x64, .f32⟩
  | .hbm, ⟨19, _⟩ => ⟨S2x512x2x2x64, .f32⟩
  | .hbm, ⟨20, _⟩ => ⟨S2x1x16x64x64, .f32⟩
  | .hbm, ⟨21, _⟩ => ⟨S2x16x64x64, .f32⟩
  | .hbm, ⟨22, _⟩ => ⟨S2x64x2x513x2, .f32⟩
  | .hbm, ⟨23, _⟩ => ⟨S2x513x2x2x64, .f32⟩
  | .hbm, ⟨24, _⟩ => ⟨S2x512x2x2x64, .f32⟩
  | .hbm, ⟨25, _⟩ => ⟨S2x512x2x2x64, .f32⟩
  | .hbm, ⟨26, _⟩ => ⟨S2x512x2x2x64, .f32⟩
  | .hbm, ⟨27, _⟩ => ⟨S2x512x2x2x64, .f32⟩
  | .hbm, ⟨28, _⟩ => ⟨S_, .f32⟩
  | .hbm, ⟨29, _⟩ => ⟨S2x512x2x2x64, .f32⟩
  | .hbm, ⟨30, _⟩ => ⟨S2x512x2x2x64, .f32⟩
  | .hbm, ⟨31, _⟩ => ⟨S2x512x2x2x64, .f32⟩
  | .hbm, ⟨32, _⟩ => ⟨S_, .f32⟩
  | .hbm, ⟨33, _⟩ => ⟨S2x512x2x2x64, .f32⟩
  | .hbm, ⟨34, _⟩ => ⟨S2x512x2x2x64, .f32⟩
  | .hbm, ⟨35, _⟩ => ⟨S2x512x2x2x64, .f32⟩
  | .hbm, ⟨36, _⟩ => ⟨S_, .f32⟩
  | .hbm, ⟨37, _⟩ => ⟨S2x512x2x2x64, .f32⟩
  | .hbm, ⟨38, _⟩ => ⟨S2x512x2x2x64, .f32⟩
  | .hbm, ⟨39, _⟩ => ⟨S_, .f32⟩
  | .hbm, ⟨40, _⟩ => ⟨S2x512x2x2x64, .f32⟩
  | .hbm, ⟨41, _⟩ => ⟨S2x512x2x2x64, .f32⟩
  | .hbm, ⟨42, _⟩ => ⟨S2x512x2x2x64, .f32⟩
  | .hbm, ⟨43, _⟩ => ⟨S2x64x2x512x2, .f32⟩
  | .hbm, ⟨44, _⟩ => ⟨S2x512x2x2x64, .f32⟩
  | .hbm, ⟨45, _⟩ => ⟨S2x512x256, .f32⟩
  | .hbm, ⟨46, _⟩ => ⟨S2x512x256, .bf16⟩
  | _, _ => ⟨S2x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Proof.Vals.lean ====
module

public import proofs.«01_k».proof.Proof.Gen.KernelIdeal.Frame
public import proofs.«01_k».proof.Proof.Gen.KernelIdeal.Loops
public import Idealize.ShloMosaic.Lib.WholeRead
public import Idealize.ShloMosaic.Lib.VecWindow

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! What the kernel computes at one grid point, as plain functions of vectors: per printed part, the tuple it returns. -/

/-- The state after `k` trips of a loop of `n` trips whose trip `t` is `f t`, from `a`. -/
def iter {α : Type} {n : ℕ} (f : Fin n → α → α) (a : α) : ℕ → α
  | 0 => a
  | k + 1 => if h : k < n then f ⟨k, h⟩ (iter f a k) else iter f a k

theorem iter_zero {α : Type} {n : ℕ} (f : Fin n → α → α) (a : α) : iter f a 0 = a := rfl

theorem iter_succ {α : Type} {n : ℕ} (f : Fin n → α → α) (a : α) (k : Fin n) : iter f a (k.val + 1) = f k (iter f a k.val) :=
  dif_pos k.isLt

/-- Trip `t` of the counted loop `k0_t1`: the running maximum and the running sums, over one more stretch of keys. -/
def step1 (i : grid0.Coords) (kx : Vec F S8192x256 .bf16) (vts : Vec F S144x8192 .bf16) (v466 : FVec F S1024x256 .bf16) (t : Fin (k0_t1_loop i).trips)
    (a : FVec F S1x1024 .f32 × FVec F S144x1024 .f32) : FVec F S1x1024 .f32 × FVec F S144x1024 .f32 :=
  (k0_pay78 v466 a.1 (View.ld (Val := Elt F) kx (Rect.unit (s := S8192x256) (k0_off7 i t) S2048x256.size (k0_off7_inb i t))) (View.ld (Val := Elt F) kx (Rect.unit (s := S8192x256) (k0_off9 i t) S2048x256.size (k0_off9_inb i t))), k0_pay79 v466 a.1 a.2 (View.ld (Val := Elt F) kx (Rect.unit (s := S8192x256) (k0_off7 i t) S2048x256.size (k0_off7_inb i t))) (View.ld (Val := Elt F) vts (Rect.unit (s := S144x8192) (k0_off8 i t) S144x2048.size (k0_off8_inb i t))) (View.ld (Val := Elt F) kx (Rect.unit (s := S8192x256) (k0_off9 i t) S2048x256.size (k0_off9_inb i t))) (View.ld (Val := Elt F) vts (Rect.unit (s := S144x8192) (k0_off10 i t) S144x2048.size (k0_off10_inb i t))))

/-- Trip `t` of the counted loop `k0_t2`: the running maximum and the running sums, over one more stretch of keys. -/
def step2 (i : grid0.Coords) (kx : Vec F S8192x256 .bf16) (vts : Vec F S144x8192 .bf16) (v466 : FVec F S1024x256 .bf16) (t : Fin (k0_t2_loop i).trips)
    (a : FVec F S1x1024 .f32 × FVec F S144x1024 .f32) : FVec F S1x1024 .f32 × FVec F S144x1024 .f32 :=
  (k0_pay83 v466 a.1 (View.ld (Val := Elt F) kx (Rect.unit (s := S8192x256) (k0_off11 i t) S2048x256.size (k0_off11_inb i t))) (View.ld (Val := Elt F) kx (Rect.unit (s := S8192x256) (k0_off13 i t) S2048x256.size (k0_off13_inb i t))), k0_pay84 v466 a.1 a.2 (View.ld (Val := Elt F) kx (Rect.unit (s := S8192x256) (k0_off11 i t) S2048x256.size (k0_off11_inb i t))) (View.ld (Val := Elt F) vts (Rect.unit (s := S144x8192) (k0_off12 i t) S144x2048.size (k0_off12_inb i t))) (View.ld (Val := Elt F) kx (Rect.unit (s := S8192x256) (k0_off13 i t) S2048x256.size (k0_off13_inb i t))) (View.ld (Val := Elt F) vts (Rect.unit (s := S144x8192) (k0_off14 i t) S144x2048.size (k0_off14_inb i t))))

/-- Trip `t` of the counted loop `k0_t3`: the running maximum and the running sums, over one more stretch of keys. -/
def step3 (i : grid0.Coords) (kx : Vec F S8192x256 .bf16) (vts : Vec F S144x8192 .bf16) (v466 : FVec F S1024x256 .bf16) (t : Fin (k0_t3_loop i).trips)
    (a : FVec F S1x1024 .f32 × FVec F S144x1024 .f32) : FVec F S1x1024 .f32 × FVec F S144x1024 .f32 :=
  (k0_pay86 v466 a.1 (View.ld (Val := Elt F) kx (Rect.unit (s := S8192x256) (k0_off15 i t) S2048x256.size (k0_off15_inb i t))), k0_pay87 v466 a.1 a.2 (View.ld (Val := Elt F) kx (Rect.unit (s := S8192x256) (k0_off15 i t) S2048x256.size (k0_off15_inb i t))) (View.ld (Val := Elt F) vts (Rect.unit (s := S144x8192) (k0_off16 i t) S144x2048.size (k0_off16_inb i t))))

/-- Trip `t` of the counted loop `k0_t4`: the running maximum and the running sums, over one more stretch of keys. -/
def step4 (i : grid0.Coords) (kx : Vec F S8192x256 .bf16) (vts : Vec F S144x8192 .bf16) (v466 : FVec F S1024x256 .bf16) (t : Fin (k0_t4_loop i).trips)
    (a : FVec F S1x1024 .f32 × FVec F S144x1024 .f32) : FVec F S1x1024 .f32 × FVec F S144x1024 .f32 :=
  (k0_pay89 v466 a.1 (View.ld (Val := Elt F) kx (Rect.unit (s := S8192x256) (k0_off17 i t) S2048x256.size (k0_off17_inb i t))), k0_pay90 v466 a.1 a.2 (View.ld (Val := Elt F) kx (Rect.unit (s := S8192x256) (k0_off17 i t) S2048x256.size (k0_off17_inb i t))) (View.ld (Val := Elt F) vts (Rect.unit (s := S144x8192) (k0_off18 i t) S144x2048.size (k0_off18_inb i t))))

/-- Trip `t` of the counted loop `k0_t5`: the running maximum and the running sums, over one more stretch of keys. -/
def step5 (i : grid0.Coords) (kx : Vec F S8192x256 .bf16) (vts : Vec F S144x8192 .bf16) (v466 : FVec F S1024x256 .bf16) (t : Fin (k0_t5_loop i).trips)
    (a : FVec F S1x1024 .f32 × FVec F S144x1024 .f32) : FVec F S1x1024 .f32 × FVec F S144x1024 .f32 :=
  (k0_pay92 v466 a.1 (View.ld (Val := Elt F) kx (Rect.unit (s := S8192x256) (k0_off19 i t) S1024x256.size (k0_off19_inb i t))), k0_pay93 v466 a.1 a.2 (View.ld (Val := Elt F) kx (Rect.unit (s := S8192x256) (k0_off19 i t) S1024x256.size (k0_off19_inb i t))) (View.ld (Val := Elt F) vts (Rect.unit (s := S144x8192) (k0_off20 i t) S144x1024.size (k0_off20_inb i t))))

/-- Trip `t` of the counted loop `k0_t6`: the running maximum and the running sums, over one more stretch of keys. -/
def step6 (i : grid0.Coords) (kx : Vec F S8192x256 .bf16) (vts : Vec F S144x8192 .bf16) (v466 : FVec F S1024x256 .bf16) (t : Fin (k0_t6_loop i).trips)
    (a : FVec F S1x1024 .f32 × FVec F S144x1024 .f32) : FVec F S1x1024 .f32 × FVec F S144x1024 .f32 :=
  (k0_pay95 v466 a.1 (View.ld (Val := Elt F) kx (Rect.unit (s := S8192x256) (k0_off21 i t) S1024x256.size (k0_off21_inb i t))), k0_pay96 v466 a.1 a.2 (View.ld (Val := Elt F) kx (Rect.unit (s := S8192x256) (k0_off21 i t) S1024x256.size (k0_off21_inb i t))) (View.ld (Val := Elt F) vts (Rect.unit (s := S144x8192) (k0_off22 i t) S144x1024.size (k0_off22_inb i t))))

/-- Trip `t` of the counted loop `k0_t7`: the running maximum and the running sums, over one more stretch of keys. -/
def step7 (i : grid0.Coords) (kx : Vec F S8192x256 .bf16) (vts : Vec F S144x8192 .bf16) (v466 : FVec F S1024x256 .bf16) (t : Fin (k0_t7_loop i).trips)
    (a : FVec F S1x1024 .f32 × FVec F S144x1024 .f32) : FVec F S1x1024 .f32 × FVec F S144x1024 .f32 :=
  (k0_pay98 v466 a.1 (View.ld (Val := Elt F) kx (Rect.unit (s := S8192x256) (k0_off23 i t) S512x256.size (k0_off23_inb i t))), k0_pay99 v466 a.1 a.2 (View.ld (Val := Elt F) kx (Rect.unit (s := S8192x256) (k0_off23 i t) S512x256.size (k0_off23_inb i t))) (View.ld (Val := Elt F) vts (Rect.unit (s := S144x8192) (k0_off24 i t) S144x512.size (k0_off24_inb i t))))

/-- Trip `t` of the counted loop `k0_t8`: the running maximum and the running sums, over one more stretch of keys. -/
def step8 (i : grid0.Coords) (kx : Vec F S8192x256 .bf16) (vts : Vec F S144x8192 .bf16) (v466 : FVec F S1024x256 .bf16) (t : Fin (k0_t8_loop i).trips)
    (a : FVec F S1x1024 .f32 × FVec F S144x1024 .f32) : FVec F S1x1024 .f32 × FVec F S144x1024 .f32 :=
  (k0_pay101 v466 a.1 (View.ld (Val := Elt F) kx (Rect.unit (s := S8192x256) (k0_off25 i t) S512x256.size (k0_off25_inb i t))), k0_pay102 v466 a.1 a.2 (View.ld (Val := Elt F) kx (Rect.unit (s := S8192x256) (k0_off25 i t) S512x256.size (k0_off25_inb i t))) (View.ld (Val := Elt F) vts (Rect.unit (s := S144x8192) (k0_off26 i t) S144x512.size (k0_off26_inb i t))))

/-- What part 3 returns. -/
def r3 (i : grid0.Coords) (q : Vec F S128x1024 .f32) (v1 : BitVec 32) : (Σ' (v62 : IVec S1x1024 32) (v64 : FVec F S128x128 .f32) (v66 : FVec F S128x128 .f32) (v68 : FVec F S128x128 .f32) (v70 : FVec F S128x128 .f32) (v72 : FVec F S128x128 .f32) (v74 : FVec F S128x128 .f32) (v76 : FVec F S128x128 .f32), FVec F S128x128 .f32) :=
  ⟨k0_pay12 v1, k0_pay13 (View.ld (Val := Elt F) q (Rect.unit (s := S128x1024) ![0, 0] S128x128.size inb_S128x1024_S128x128_0_0)), k0_pay14 (View.ld (Val := Elt F) q (Rect.unit (s := S128x1024) ![0, 128] S128x128.size inb_S128x1024_S128x128_0_128)), k0_pay15 (View.ld (Val := Elt F) q (Rect.unit (s := S128x1024) ![0, 256] S128x128.size inb_S128x1024_S128x128_0_256)), k0_pay16 (View.ld (Val := Elt F) q (Rect.unit (s := S128x1024) ![0, 384] S128x128.size inb_S128x1024_S128x128_0_384)), k0_pay17 (View.ld (Val := Elt F) q (Rect.unit (s := S128x1024) ![0, 512] S128x128.size inb_S128x1024_S128x128_0_512)), k0_pay18 (View.ld (Val := Elt F) q (Rect.unit (s := S128x1024) ![0, 640] S128x128.size inb_S128x1024_S128x128_0_640)), k0_pay19 (View.ld (Val := Elt F) q (Rect.unit (s := S128x1024) ![0, 768] S128x128.size inb_S128x1024_S128x128_0_768)), k0_pay20 (View.ld (Val := Elt F) q (Rect.unit (s := S128x1024) ![0, 896] S128x128.size inb_S128x1024_S128x128_0_896))⟩

/-- What part 4 returns. -/
def r4 (i : grid0.Coords) (qr : Vec F S128x1024 .f32) (v62 : IVec S1x1024 32) (v64 : FVec F S128x128 .f32) (v66 : FVec F S128x128 .f32) (v68 : FVec F S128x128 .f32) (v70 : FVec F S128x128 .f32) (v72 : FVec F S128x128 .f32) (v74 : FVec F S128x128 .f32) (v76 : FVec F S128x128 .f32) (v78 : FVec F S128x128 .f32) : (Σ' (v82 : FVec F S1024x128 .bf16) (v102 : FVec F S1024x128 .bf16), IVec S512x1024 1) :=
  ⟨k0_pay21 v64 v66 v68 v70 v72 v74 v76 v78, k0_pay22 (View.ld (Val := Elt F) qr (Rect.unit (s := S128x1024) ![0, 0] S128x128.size inb_S128x1024_S128x128_0_0)) (View.ld (Val := Elt F) qr (Rect.unit (s := S128x1024) ![0, 128] S128x128.size inb_S128x1024_S128x128_0_128)) (View.ld (Val := Elt F) qr (Rect.unit (s := S128x1024) ![0, 256] S128x128.size inb_S128x1024_S128x128_0_256)) (View.ld (Val := Elt F) qr (Rect.unit (s := S128x1024) ![0, 384] S128x128.size inb_S128x1024_S128x128_0_384)) (View.ld (Val := Elt F) qr (Rect.unit (s := S128x1024) ![0, 512] S128x128.size inb_S128x1024_S128x128_0_512)) (View.ld (Val := Elt F) qr (Rect.unit (s := S128x1024) ![0, 640] S128x128.size inb_S128x1024_S128x128_0_640)) (View.ld (Val := Elt F) qr (Rect.unit (s := S128x1024) ![0, 768] S128x128.size inb_S128x1024_S128x128_0_768)) (View.ld (Val := Elt F) qr (Rect.unit (s := S128x1024) ![0, 896] S128x128.size inb_S128x1024_S128x128_0_896)), k0_pay23 v62⟩

/-- What part 5 returns. -/
def r5 (i : grid0.Coords) (ckv : Vec F S1x512x256 .bf16) (kw : Vec F S8192x256 .bf16) (lc : Vec F S272x512 .bf16) (v1 : BitVec 32) (v62 : IVec S1x1024 32) (v82 : FVec F S1024x128 .bf16) (v102 : FVec F S1024x128 .bf16) (v114 : IVec S512x1024 1) : (Σ' (v139 : FVec F S128x1024 .f32) (v142 : FVec F S128x1024 .f32) (v145 : BitVec 32) (v148 : FVec F S640x1024 .f32) (v151 : IVec S640x1 32) (v155 : IVec S128x1024 1) (v156 : IVec S128x1 32), IVec S1x1024 32) :=
  ⟨k0_pay26 v62 v82 v114 (View.ld (Val := Elt F) ckv (Rect.unit (s := S1x512x256) ![0, 0, 0] S1x512x128.size inb_S1x512x256_S1x512x128_0_0_0)) (View.ld (Val := Elt F) lc (Rect.unit (s := S272x512) ![0, 0] S272x512.size inb_S272x512_S272x512_0_0)), k0_pay27 v62 v82 v114 (View.ld (Val := Elt F) ckv (Rect.unit (s := S1x512x256) ![0, 0, 0] S1x512x128.size inb_S1x512x256_S1x512x128_0_0_0)) (View.ld (Val := Elt F) lc (Rect.unit (s := S272x512) ![0, 0] S272x512.size inb_S272x512_S272x512_0_0)), ((Scalar.maxsi (Scalar.subi v1 512#32) 0#32)), k0_pay28 v102 (View.ld (Val := Elt F) kw (Rect.unit (s := S8192x256) (k0_off5 i) S640x128.size (k0_off5_inb i))), k0_pay29 v1, k0_pay30 v1 v62, k0_pay31 v1, k0_pay32 v62⟩

/-- What part 6 returns. -/
def r6 (i : grid0.Coords) (vtw : Vec F S144x8192 .bf16) (v62 : IVec S1x1024 32) (v142 : FVec F S128x1024 .f32) (v145 : BitVec 32) (v148 : FVec F S640x1024 .f32) (v151 : IVec S640x1 32) (v155 : IVec S128x1024 1) (v156 : IVec S128x1 32) (v158 : IVec S1x1024 32) : (Σ' (v188 : FVec F S128x1024 .f32) (v207 : FVec F S128x256 .f32) (v208 : IVec S1x256 32) (v209 : IVec S128x256 32), BitVec 32) :=
  ⟨k0_pay33 v62 v148 v151 v155 v156 v158 (View.ld (Val := Elt F) vtw (Rect.unit (s := S144x8192) (k0_off6 i) S144x640.size (k0_off6_inb i))), k0_pay34 v142, k0_pay35 v62, (iota .tc S128x256 32 [0] iota_S128x256_d0_w32), 6#32⟩

/-- What part 7 returns. -/
def r7 (i : grid0.Coords) (v207 : FVec F S128x256 .f32) (v208 : IVec S1x256 32) (v209 : IVec S128x256 32) (c6_i32_64 : BitVec 32) : (Σ' (v248 : FVec F S128x256 .f32) (v250 : FVec F S128x256 .f32), IVec S128x256 1) :=
  ⟨k0_pay38 v207 v208 v209 c6_i32_64, k0_pay39 v207 v208 v209 c6_i32_64, k0_pay40 v207 v208 v209 c6_i32_64⟩

/-- What part 8 returns. -/
def r8 (i : grid0.Coords) (v209 : IVec S128x256 32) (v248 : FVec F S128x256 .f32) (v250 : FVec F S128x256 .f32) (v254 : IVec S128x256 1) : (Σ' (v290 : FVec F S128x256 .f32) (v292 : FVec F S128x256 .f32), IVec S128x256 32) :=
  ⟨k0_pay46 v209 v248 v250 v254, k0_pay47 v209 v250 v254, k0_pay48 v209 v250 v254⟩

/-- What part 9 returns. -/
def r9 (i : grid0.Coords) (v209 : IVec S128x256 32) (v290 : FVec F S128x256 .f32) (v292 : FVec F S128x256 .f32) (v298 : IVec S128x256 32) : (Σ' (v332 : FVec F S128x256 .f32) (v334 : FVec F S128x256 .f32), IVec S1x256 32) :=
  ⟨k0_pay54 v209 v290 v292 v298, k0_pay55 v209 v292 v298, k0_pay56 v209 v292 v298⟩

/-- What part 10 returns. -/
def r10 (i : grid0.Coords) (v209 : IVec S128x256 32) (v332 : FVec F S128x256 .f32) (v334 : FVec F S128x256 .f32) (v342 : IVec S1x256 32) : (Σ' (v374 : FVec F S128x256 .f32) (v376 : FVec F S128x256 .f32) (v386 : IVec S128x256 1), F .f32) :=
  ⟨k0_pay62 v209 v332 v334 v342, k0_pay63 v209 v334 v342, k0_pay64 v209 v334 v342, (Scalar.ofBits .f32 0x00000000#32)⟩

/-- What part 11 returns. -/
def r11 (i : grid0.Coords) (v209 : IVec S128x256 32) (v374 : FVec F S128x256 .f32) (v376 : FVec F S128x256 .f32) (v386 : IVec S128x256 1) (cst_126 : F .f32) : (Σ' (v418 : FVec F S128x256 .f32) (v428 : IVec S128x256 1) (v430 : FVec F S128x256 .f32), F .f32) :=
  ⟨k0_pay69 v209 v376 v386, k0_pay70 v209 v376 v386, k0_pay71 v209 v374 v376 v386 cst_126, (Scalar.ofBits .f32 0xFF800000#32)⟩

/-- What part 12 returns. -/
def r12 (i : grid0.Coords) (v1 : BitVec 32) (v102 : FVec F S1024x128 .bf16) (v209 : IVec S128x256 32) (v418 : FVec F S128x256 .f32) (v428 : IVec S128x256 1) (v430 : FVec F S128x256 .f32) (cst_142 : F .f32) : (Σ' (v466 : FVec F S1024x256 .bf16) (c2048_i32 : BitVec 32) (v467 : BitVec 32) (v472 : BitVec 32) (v474 : BitVec 32), BitVec 32) :=
  ⟨k0_pay72 v102 v209 v418 v428 v430 cst_142, 2048#32, (Scalar.divsi v1 2048#32), (Scalar.subi (Scalar.extui (Scalar.cmpi .sgt v1 0#32)) (Scalar.extui (Scalar.cmpi .slt v1 0#32))), (Scalar.extui (Scalar.cmpi .sgt 2048#32 0#32)), (Scalar.extui (Scalar.cmpi .slt 2048#32 0#32))⟩

/-- What part 13 returns. -/
def r13 (i : grid0.Coords) (kx : Vec F S8192x256 .bf16) (vts : Vec F S144x8192 .bf16) (v1 : BitVec 32) (v466 : FVec F S1024x256 .bf16) (c2048_i32 : BitVec 32) (v467 : BitVec 32) (v472 : BitVec 32) (v474 : BitVec 32) (v476 : BitVec 32) : (Σ' (v483 : BitVec 32) (v509_0 : FVec F S1x1024 .f32) (v509_1 : FVec F S144x1024 .f32) (c2_i32_170 : BitVec 32) (v510 : BitVec 32) (v515 : BitVec 32), BitVec 32) :=
  let L1 := iter (step1 i kx vts v466) (k0_pay73 (F := F), k0_pay74 (F := F)) (k0_t1_loop i).trips
  let L2 := iter (step2 i kx vts v466) (L1.1, L1.2) (k0_t2_loop i).trips
  ⟨(Scalar.select (Scalar.andi (Scalar.cmpi .ne v472 (Scalar.subi v474 v476)) (Scalar.cmpi .ne (Scalar.remsi v1 c2048_i32) 0#32)) (Scalar.subi v467 1#32) v467), L2.1, L2.2, 2#32, (Scalar.divsi (Scalar.select (Scalar.andi (Scalar.cmpi .ne v472 (Scalar.subi v474 v476)) (Scalar.cmpi .ne (Scalar.remsi v1 c2048_i32) 0#32)) (Scalar.subi v467 1#32) v467) 2#32), (Scalar.subi (Scalar.extui (Scalar.cmpi .sgt (Scalar.select (Scalar.andi (Scalar.cmpi .ne v472 (Scalar.subi v474 v476)) (Scalar.cmpi .ne (Scalar.remsi v1 c2048_i32) 0#32)) (Scalar.subi v467 1#32) v467) 0#32)) (Scalar.extui (Scalar.cmpi .slt (Scalar.select (Scalar.andi (Scalar.cmpi .ne v472 (Scalar.subi v474 v476)) (Scalar.cmpi .ne (Scalar.remsi v1 c2048_i32) 0#32)) (Scalar.subi v467 1#32) v467) 0#32))), (Scalar.extui (Scalar.cmpi .sgt 2#32 0#32))⟩

/-- What part 14 returns. -/
def r14 (i : grid0.Coords) (kx : Vec F S8192x256 .bf16) (vts : Vec F S144x8192 .bf16) (v1 : BitVec 32) (v466 : FVec F S1024x256 .bf16) (v483 : BitVec 32) (v509_0 : FVec F S1x1024 .f32) (v509_1 : FVec F S144x1024 .f32) (c2_i32_170 : BitVec 32) (v510 : BitVec 32) (v515 : BitVec 32) (v517 : BitVec 32) : (Σ' (v559_0 : FVec F S1x1024 .f32), FVec F S144x1024 .f32) :=
  let L3 := iter (step3 i kx vts v466) (v509_0, v509_1) (k0_t3_loop i).trips
  let L4 := iter (step4 i kx vts v466) (L3.1, L3.2) (k0_t4_loop i).trips
  let L5 := iter (step5 i kx vts v466) (L4.1, L4.2) (k0_t5_loop i).trips
  let L6 := iter (step6 i kx vts v466) (L5.1, L5.2) (k0_t6_loop i).trips
  ⟨L6.1, L6.2⟩

/-- What part 15 returns. -/
def r15 (i : grid0.Coords) (kx : Vec F S8192x256 .bf16) (vts : Vec F S144x8192 .bf16) (v1 : BitVec 32) (v466 : FVec F S1024x256 .bf16) (v559_0 : FVec F S1x1024 .f32) (v559_1 : FVec F S144x1024 .f32) : (Σ' (v601_0 : FVec F S1x1024 .f32), FVec F S144x1024 .f32) :=
  let L7 := iter (step7 i kx vts v466) (v559_0, v559_1) (k0_t7_loop i).trips
  let L8 := iter (step8 i kx vts v466) (L7.1, L7.2) (k0_t8_loop i).trips
  ⟨L8.1, L8.2⟩

/-- What part 16 returns. -/
def r16 (i : grid0.Coords) (kx : Vec F S8192x256 .bf16) (vts : Vec F S144x8192 .bf16) (v1 : BitVec 32) (v62 : IVec S1x1024 32) (v466 : FVec F S1024x256 .bf16) (v601_0 : FVec F S1x1024 .f32) (v601_1 : FVec F S144x1024 .f32) : (Σ' (v646 : FVec F S144x1024 .f32), FVec F S128x1024 .f32) :=
  ⟨k0_pay103 v1 v62 v466 v601_0 v601_1 (View.ld (Val := Elt F) kx (Rect.unit (s := S8192x256) (k0_off27 i) S512x256.size (k0_off27_inb i))) (View.ld (Val := Elt F) vts (Rect.unit (s := S144x8192) (k0_off28 i) S144x512.size (k0_off28_inb i))), k0_pay104 v1 v62 v466 v601_0 v601_1 (View.ld (Val := Elt F) kx (Rect.unit (s := S8192x256) (k0_off27 i) S512x256.size (k0_off27_inb i))) (View.ld (Val := Elt F) vts (Rect.unit (s := S144x8192) (k0_off28 i) S144x512.size (k0_off28_inb i)))⟩

/-- What part 17 returns. -/
def r17 (i : grid0.Coords) (g : Vec F S128x128 .f32) (v139 : FVec F S128x1024 .f32) (v188 : FVec F S128x1024 .f32) (v646 : FVec F S144x1024 .f32) (v647 : FVec F S128x1024 .f32) : (Σ' (v652 : FVec F S128x1024 .f32) (v654 : FVec F S128x128 .f32) (v668 : FVec F S64x128 .f32) (v682 : FVec F S64x128 .f32) (v696 : FVec F S64x128 .f32) (v700 : FVec F S64x128 .f32), FVec F S64x128 .f32) :=
  ⟨k0_pay105 v646 v647, k0_pay106 (View.ld (Val := Elt F) g (Rect.unit (s := S128x128) ![0, 0] S128x128.size inb_S128x128_S128x128_0_0)), k0_pay107 v139 v188 v646 v647 (View.ld (Val := Elt F) g (Rect.unit (s := S128x128) ![0, 0] S128x128.size inb_S128x128_S128x128_0_0)), k0_pay108 v139 v188 v646 v647 (View.ld (Val := Elt F) g (Rect.unit (s := S128x128) ![0, 0] S128x128.size inb_S128x128_S128x128_0_0)), k0_pay109 v139 v188 v646 v647 (View.ld (Val := Elt F) g (Rect.unit (s := S128x128) ![0, 0] S128x128.size inb_S128x128_S128x128_0_0)), k0_pay110 v139 (View.ld (Val := Elt F) g (Rect.unit (s := S128x128) ![0, 0] S128x128.size inb_S128x128_S128x128_0_0)), k0_pay111 v646 v647 (View.ld (Val := Elt F) g (Rect.unit (s := S128x128) ![0, 0] S128x128.size inb_S128x128_S128x128_0_0))⟩

/-- What part 18 returns. -/
def r18 (i : grid0.Coords) (v139 : FVec F S128x1024 .f32) (v188 : FVec F S128x1024 .f32) (v652 : FVec F S128x1024 .f32) (v654 : FVec F S128x128 .f32) (v700 : FVec F S64x128 .f32) (v704 : FVec F S64x128 .f32) : (Σ' (v710 : FVec F S64x128 .f32) (v724 : FVec F S64x128 .f32) (v738 : FVec F S64x128 .f32) (v752 : FVec F S64x128 .f32) (v761 : FVec F S64x128 .f32) (v763 : FVec F S64x128 .f32), FVec F S64x128 .f32) :=
  ⟨k0_pay112 v188 v654 v700 v704, k0_pay113 v139 v188 v652 v654, k0_pay114 v139 v188 v652 v654, k0_pay115 v139 v188 v652 v654, k0_pay116 v139 v652 v654, k0_pay117 v188, k0_pay118 v654⟩

/-- The first row of the query tile, as the kernel computes it. -/
def v1F (i : grid0.Coords) : BitVec 32 := Scalar.muli (BitVec.ofNat 32 (i 1).val) 128#32

/-- The block the body stores at the grid point `i`, from its input blocks and the four scratch buffers (as they stand after the point's own stores). -/
def outF (i : grid0.Coords) (q : Vec F S128x1024 .f32) (qr : Vec F S128x1024 .f32) (g : Vec F S128x128 .f32) (ckv : Vec F S1x512x256 .bf16) (kw : Vec F S8192x256 .bf16) (kx : Vec F S8192x256 .bf16) (vts : Vec F S144x8192 .bf16) (vtw : Vec F S144x8192 .bf16) (lc : Vec F S272x512 .bf16) : Vec F S128x512 .f32 :=
  let v1 := v1F i
  let x3 := r3 i q v1
  let v62 := x3.1
  let v64 := x3.2.1
  let v66 := x3.2.2.1
  let v68 := x3.2.2.2.1
  let v70 := x3.2.2.2.2.1
  let v72 := x3.2.2.2.2.2.1
  let v74 := x3.2.2.2.2.2.2.1
  let v76 := x3.2.2.2.2.2.2.2.1
  let v78 := x3.2.2.2.2.2.2.2.2
  let x4 := r4 i qr v62 v64 v66 v68 v70 v72 v74 v76 v78
  let v82 := x4.1
  let v102 := x4.2.1
  let v114 := x4.2.2
  let x5 := r5 i ckv kw lc v1 v62 v82 v102 v114
  let v139 := x5.1
  let v142 := x5.2.1
  let v145 := x5.2.2.1
  let v148 := x5.2.2.2.1
  let v151 := x5.2.2.2.2.1
  let v155 := x5.2.2.2.2.2.1
  let v156 := x5.2.2.2.2.2.2.1
  let v158 := x5.2.2.2.2.2.2.2
  let x6 := r6 i vtw v62 v142 v145 v148 v151 v155 v156 v158
  let v188 := x6.1
  let v207 := x6.2.1
  let v208 := x6.2.2.1
  let v209 := x6.2.2.2.1
  let c6_i32_64 := x6.2.2.2.2
  let x7 := r7 i v207 v208 v209 c6_i32_64
  let v248 := x7.1
  let v250 := x7.2.1
  let v254 := x7.2.2
  let x8 := r8 i v209 v248 v250 v254
  let v290 := x8.1
  let v292 := x8.2.1
  let v298 := x8.2.2
  let x9 := r9 i v209 v290 v292 v298
  let v332 := x9.1
  let v334 := x9.2.1
  let v342 := x9.2.2
  let x10 := r10 i v209 v332 v334 v342
  let v374 := x10.1
  let v376 := x10.2.1
  let v386 := x10.2.2.1
  let cst_126 := x10.2.2.2
  let x11 := r11 i v209 v374 v376 v386 cst_126
  let v418 := x11.1
  let v428 := x11.2.1
  let v430 := x11.2.2.1
  let cst_142 := x11.2.2.2
  let x12 := r12 i v1 v102 v209 v418 v428 v430 cst_142
  let v466 := x12.1
  let c2048_i32 := x12.2.1
  let v467 := x12.2.2.1
  let v472 := x12.2.2.2.1
  let v474 := x12.2.2.2.2.1
  let v476 := x12.2.2.2.2.2
  let x13 := r13 i kx vts v1 v466 c2048_i32 v467 v472 v474 v476
  let v483 := x13.1
  let v509_0 := x13.2.1
  let v509_1 := x13.2.2.1
  let c2_i32_170 := x13.2.2.2.1
  let v510 := x13.2.2.2.2.1
  let v515 := x13.2.2.2.2.2.1
  let v517 := x13.2.2.2.2.2.2
  let x14 := r14 i kx vts v1 v466 v483 v509_0 v509_1 c2_i32_170 v510 v515 v517
  let v559_0 := x14.1
  let v559_1 := x14.2
  let x15 := r15 i kx vts v1 v466 v559_0 v559_1
  let v601_0 := x15.1
  let v601_1 := x15.2
  let x16 := r16 i kx vts v1 v62 v466 v601_0 v601_1
  let v646 := x16.1
  let v647 := x16.2
  let x17 := r17 i g v139 v188 v646 v647
  let v652 := x17.1
  let v654 := x17.2.1
  let v668 := x17.2.2.1
  let v682 := x17.2.2.2.1
  let v696 := x17.2.2.2.2.1
  let v700 := x17.2.2.2.2.2.1
  let v704 := x17.2.2.2.2.2.2
  let x18 := r18 i v139 v188 v652 v654 v700 v704
  let v710 := x18.1
  let v724 := x18.2.1
  let v738 := x18.2.2.1
  let v752 := x18.2.2.2.1
  let v761 := x18.2.2.2.2.1
  let v763 := x18.2.2.2.2.2.1
  let v764 := x18.2.2.2.2.2.2
  k0_pay1 v668 v682 v696 v710 v724 v738 v752 v761 v763 v764

end Cert.KernelIdeal

end
-- ==== Proof.Parts.lean ====
module

public import proofs.«01_k».proof.Proof.Gen.KernelIdeal.Frame
public import proofs.«01_k».proof.Proof.Gen.KernelIdeal.Loops
public import proofs.«01_k».proof.Proof.Vals
public import Idealize.ShloMosaic.Lib.WholeRead

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! What each part of the kernel's body does, in terms of vectors: every buffer is held whole at the contents that read
    a given vector, before and after. -/

/-- A buffer held whole at the contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A load at a rectangle, of the contents that read `X`, is `X` over that rectangle. -/
theorem readAt_ld {κ : Kind} {sp : Space} {S : Shape} {e : EltTy} {M : Memref sig κ sp S e} (h : M.IsWhole) (X : Vec F S e) (R : Rect S) :
    View.readAt (Elt F) M.view R.toLoadRect (h.unread X) = View.ld (Val := Elt F) X R :=
  funext fun x => h.readAt_unread X R.toLoadRect x

/-- A store at a unit-stride rectangle over the contents that read `X` leaves the contents that read `X` with the payload put there. -/
theorem writes_put {κ : Kind} {sp : Space} {S : Shape} {e : EltTy} {M : Memref sig κ sp S e} (h : M.IsWhole) (X : Vec F S e) {off size : Fin S.rank → ℕ}
    (inb : ∀ a, off a + size a ≤ S.size a) (w : (Rect.unit off size inb).shape.Idx → Elt F e) :
    M.view.writes (Elt F) (h.unread X) [⟨Rect.unit off size inb, w⟩] = h.unread (VecWindow.put (α := Elt F e) X off size w) := by
  apply h.eq_unread
  rw [View.read_writes_cons_put M.view _ inb w [] rfl, View.writes_nil, h.read_unread]

/-- The same over a store of the whole buffer, whatever it held. -/
theorem writes_put2 {κ : Kind} {sp : Space} {S : Shape} {e : EltTy} {M : Memref sig κ sp S e} (h : M.IsWhole) (X0 X : Vec F S e) {off size off' : Fin S.rank → ℕ}
    (inb : ∀ a, off a + size a ≤ S.size a) (w : (Rect.unit off size inb).shape.Idx → Elt F e) (inb' : ∀ a, off' a + S.size a ≤ S.size a) :
    M.view.writes (Elt F) (h.unread X0) [⟨Rect.unit off size inb, w⟩, ⟨Rect.unit off' S.size inb', X⟩] = h.unread (VecWindow.put (α := Elt F e) X off size w) := by
  apply h.eq_unread
  rw [View.read_writes_cons_put M.view _ inb w _ rfl, View.read_writes_full]

/-- A store of the whole buffer leaves the contents that read the payload. -/
theorem writes_full {κ : Kind} {sp : Space} {S : Shape} {e : EltTy} {M : Memref sig κ sp S e} (h : M.IsWhole) (X0 X : Vec F S e) {off' : Fin S.rank → ℕ}
    (inb' : ∀ a, off' a + S.size a ≤ S.size a) :
    M.view.writes (Elt F) (h.unread X0) [⟨Rect.unit off' S.size inb', X⟩] = h.unread X := by
  apply h.eq_unread
  rw [View.read_writes_full]

/-- Three stores one after another. -/
theorem writes_put3 {κ : Kind} {sp : Space} {S : Shape} {e : EltTy} {M : Memref sig κ sp S e} (h : M.IsWhole) (X : Vec F S e) {off1 size1 off2 size2 off3 size3 : Fin S.rank → ℕ}
    (inb1 : ∀ a, off1 a + size1 a ≤ S.size a) (w1 : (Rect.unit off1 size1 inb1).shape.Idx → Elt F e)
    (inb2 : ∀ a, off2 a + size2 a ≤ S.size a) (w2 : (Rect.unit off2 size2 inb2).shape.Idx → Elt F e)
    (inb3 : ∀ a, off3 a + size3 a ≤ S.size a) (w3 : (Rect.unit off3 size3 inb3).shape.Idx → Elt F e) :
    M.view.writes (Elt F) (h.unread X) [⟨Rect.unit off3 size3 inb3, w3⟩, ⟨Rect.unit off2 size2 inb2, w2⟩, ⟨Rect.unit off1 size1 inb1, w1⟩]
      = h.unread (VecWindow.put (α := Elt F e) (VecWindow.put (α := Elt F e) (VecWindow.put (α := Elt F e) X off1 size1 w1) off2 size2 w2) off3 size3 w3) := by
  apply h.eq_unread
  rw [View.read_writes_cons_put M.view _ inb3 w3 _ rfl, View.read_writes_cons_put M.view _ inb2 w2 _ rfl, View.read_writes_cons_put M.view _ inb1 w1 _ rfl, View.writes_nil, h.read_unread]

/-- Part 3 stores the window values' tile and returns `r3`. -/
theorem spec3 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v1 : BitVec 32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part3 i arg2 harg2 arg3 harg3 arg4 harg4 arg5 harg5 arg6 harg6 arg7 harg7 arg8 harg8 arg9 harg9 arg10 harg10 arg11 harg11 arg12 harg12 arg13 harg13 v1)
          (fun r => iprop(⌜r = r3 i q v1⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread (VecWindow.put (α := Elt F .bf16) vtw (k0_off4 i) S144x128.size (k0_pay11 (View.ld (Val := Elt F) kw (Rect.unit (s := S8192x256) (k0_off3 i) S128x128.size (k0_off3_inb i)))))) ∗ pt c arg13 (harg13.unread lc))) := by
  rw [k0_part3_eq_skeleton]; unfold k0_part3_skel
  iintro ⟨H2, H3, H4, H5, H6, H7, H8, H9, H10, H11, H12, H13⟩
  sl_exec
  sl_step
  simp only [readAt_ld]
  rw [← writes_put]
  isplitr
  · ipureintro; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 4 changes no buffer and returns `r4`. -/
theorem spec4 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v62 : IVec S1x1024 32) (v64 : FVec F S128x128 .f32) (v66 : FVec F S128x128 .f32) (v68 : FVec F S128x128 .f32) (v70 : FVec F S128x128 .f32) (v72 : FVec F S128x128 .f32) (v74 : FVec F S128x128 .f32) (v76 : FVec F S128x128 .f32) (v78 : FVec F S128x128 .f32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part4 i arg2 harg2 arg3 harg3 arg4 harg4 arg5 harg5 arg6 harg6 arg7 harg7 arg8 harg8 arg9 harg9 arg10 harg10 arg11 harg11 arg12 harg12 arg13 harg13 v62 v64 v66 v68 v70 v72 v74 v76 v78)
          (fun r => iprop(⌜r = r4 i qr v62 v64 v66 v68 v70 v72 v74 v76 v78⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part4_eq_skeleton]; unfold k0_part4_skel
  iintro ⟨H2, H3, H4, H5, H6, H7, H8, H9, H10, H11, H12, H13⟩
  sl_exec
  sl_step
  isplitr
  · ipureintro; simp only [readAt_ld]; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 5 changes no buffer and returns `r5`. -/
theorem spec5 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v1 : BitVec 32) (v62 : IVec S1x1024 32) (v82 : FVec F S1024x128 .bf16) (v102 : FVec F S1024x128 .bf16) (v114 : IVec S512x1024 1)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part5 i arg2 harg2 arg3 harg3 arg4 harg4 arg5 harg5 arg6 harg6 arg7 harg7 arg8 harg8 arg9 harg9 arg10 harg10 arg11 harg11 arg12 harg12 arg13 harg13 v1 v62 v82 v102 v114)
          (fun r => iprop(⌜r = r5 i ckv kw lc v1 v62 v82 v102 v114⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part5_eq_skeleton]; unfold k0_part5_skel
  iintro ⟨H2, H3, H4, H5, H6, H7, H8, H9, H10, H11, H12, H13⟩
  sl_exec
  sl_step
  isplitr
  · ipureintro; simp only [readAt_ld]; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 6 changes no buffer and returns `r6`. -/
theorem spec6 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v62 : IVec S1x1024 32) (v142 : FVec F S128x1024 .f32) (v145 : BitVec 32) (v148 : FVec F S640x1024 .f32) (v151 : IVec S640x1 32) (v155 : IVec S128x1024 1) (v156 : IVec S128x1 32) (v158 : IVec S1x1024 32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part6 i arg2 harg2 arg3 harg3 arg4 harg4 arg5 harg5 arg6 harg6 arg7 harg7 arg8 harg8 arg9 harg9 arg10 harg10 arg11 harg11 arg12 harg12 arg13 harg13 v62 v142 v145 v148 v151 v155 v156 v158)
          (fun r => iprop(⌜r = r6 i vtw v62 v142 v145 v148 v151 v155 v156 v158⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part6_eq_skeleton]; unfold k0_part6_skel
  iintro ⟨H2, H3, H4, H5, H6, H7, H8, H9, H10, H11, H12, H13⟩
  sl_exec
  sl_step
  isplitr
  · ipureintro; simp only [readAt_ld]; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 7 changes no buffer and returns `r7`. -/
theorem spec7 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v207 : FVec F S128x256 .f32) (v208 : IVec S1x256 32) (v209 : IVec S128x256 32) (c6_i32_64 : BitVec 32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part7 i arg2 harg2 arg3 harg3 arg4 harg4 arg5 harg5 arg6 harg6 arg7 harg7 arg8 harg8 arg9 harg9 arg10 harg10 arg11 harg11 arg12 harg12 arg13 harg13 v207 v208 v209 c6_i32_64)
          (fun r => iprop(⌜r = r7 i v207 v208 v209 c6_i32_64⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part7_eq_skeleton]; unfold k0_part7_skel
  iintro ⟨H2, H3, H4, H5, H6, H7, H8, H9, H10, H11, H12, H13⟩
  sl_exec
  sl_step
  isplitr
  · ipureintro; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 8 changes no buffer and returns `r8`. -/
theorem spec8 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v209 : IVec S128x256 32) (v248 : FVec F S128x256 .f32) (v250 : FVec F S128x256 .f32) (v254 : IVec S128x256 1)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part8 i arg2 harg2 arg3 harg3 arg4 harg4 arg5 harg5 arg6 harg6 arg7 harg7 arg8 harg8 arg9 harg9 arg10 harg10 arg11 harg11 arg12 harg12 arg13 harg13 v209 v248 v250 v254)
          (fun r => iprop(⌜r = r8 i v209 v248 v250 v254⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part8_eq_skeleton]; unfold k0_part8_skel
  iintro ⟨H2, H3, H4, H5, H6, H7, H8, H9, H10, H11, H12, H13⟩
  sl_exec
  sl_step
  isplitr
  · ipureintro; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 9 changes no buffer and returns `r9`. -/
theorem spec9 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v209 : IVec S128x256 32) (v290 : FVec F S128x256 .f32) (v292 : FVec F S128x256 .f32) (v298 : IVec S128x256 32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part9 i arg2 harg2 arg3 harg3 arg4 harg4 arg5 harg5 arg6 harg6 arg7 harg7 arg8 harg8 arg9 harg9 arg10 harg10 arg11 harg11 arg12 harg12 arg13 harg13 v209 v290 v292 v298)
          (fun r => iprop(⌜r = r9 i v209 v290 v292 v298⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part9_eq_skeleton]; unfold k0_part9_skel
  iintro ⟨H2, H3, H4, H5, H6, H7, H8, H9, H10, H11, H12, H13⟩
  sl_exec
  sl_step
  isplitr
  · ipureintro; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 10 changes no buffer and returns `r10`. -/
theorem spec10 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v209 : IVec S128x256 32) (v332 : FVec F S128x256 .f32) (v334 : FVec F S128x256 .f32) (v342 : IVec S1x256 32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part10 i arg2 harg2 arg3 harg3 arg4 harg4 arg5 harg5 arg6 harg6 arg7 harg7 arg8 harg8 arg9 harg9 arg10 harg10 arg11 harg11 arg12 harg12 arg13 harg13 v209 v332 v334 v342)
          (fun r => iprop(⌜r = r10 i v209 v332 v334 v342⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part10_eq_skeleton]; unfold k0_part10_skel
  iintro ⟨H2, H3, H4, H5, H6, H7, H8, H9, H10, H11, H12, H13⟩
  sl_exec
  sl_step
  isplitr
  · ipureintro; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 11 changes no buffer and returns `r11`. -/
theorem spec11 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v209 : IVec S128x256 32) (v374 : FVec F S128x256 .f32) (v376 : FVec F S128x256 .f32) (v386 : IVec S128x256 1) (cst_126 : F .f32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part11 i arg2 harg2 arg3 harg3 arg4 harg4 arg5 harg5 arg6 harg6 arg7 harg7 arg8 harg8 arg9 harg9 arg10 harg10 arg11 harg11 arg12 harg12 arg13 harg13 v209 v374 v376 v386 cst_126)
          (fun r => iprop(⌜r = r11 i v209 v374 v376 v386 cst_126⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part11_eq_skeleton]; unfold k0_part11_skel
  iintro ⟨H2, H3, H4, H5, H6, H7, H8, H9, H10, H11, H12, H13⟩
  sl_exec
  sl_step
  isplitr
  · ipureintro; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 12 changes no buffer and returns `r12`. -/
theorem spec12 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v1 : BitVec 32) (v102 : FVec F S1024x128 .bf16) (v209 : IVec S128x256 32) (v418 : FVec F S128x256 .f32) (v428 : IVec S128x256 1) (v430 : FVec F S128x256 .f32) (cst_142 : F .f32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part12 i arg2 harg2 arg3 harg3 arg4 harg4 arg5 harg5 arg6 harg6 arg7 harg7 arg8 harg8 arg9 harg9 arg10 harg10 arg11 harg11 arg12 harg12 arg13 harg13 v1 v102 v209 v418 v428 v430 cst_142)
          (fun r => iprop(⌜r = r12 i v1 v102 v209 v418 v428 v430 cst_142⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part12_eq_skeleton]; unfold k0_part12_skel
  iintro ⟨H2, H3, H4, H5, H6, H7, H8, H9, H10, H11, H12, H13⟩
  sl_exec
  sl_step
  isplitr
  · ipureintro; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 16 changes no buffer and returns `r16`. -/
theorem spec16 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v1 : BitVec 32) (v62 : IVec S1x1024 32) (v466 : FVec F S1024x256 .bf16) (v601_0 : FVec F S1x1024 .f32) (v601_1 : FVec F S144x1024 .f32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part16 i arg2 harg2 arg3 harg3 arg4 harg4 arg5 harg5 arg6 harg6 arg7 harg7 arg8 harg8 arg9 harg9 arg10 harg10 arg11 harg11 arg12 harg12 arg13 harg13 v1 v62 v466 v601_0 v601_1)
          (fun r => iprop(⌜r = r16 i kx vts v1 v62 v466 v601_0 v601_1⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part16_eq_skeleton]; unfold k0_part16_skel
  iintro ⟨H2, H3, H4, H5, H6, H7, H8, H9, H10, H11, H12, H13⟩
  sl_exec
  sl_step
  isplitr
  · ipureintro; simp only [readAt_ld]; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 17 changes no buffer and returns `r17`. -/
theorem spec17 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v139 : FVec F S128x1024 .f32) (v188 : FVec F S128x1024 .f32) (v646 : FVec F S144x1024 .f32) (v647 : FVec F S128x1024 .f32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part17 i arg2 harg2 arg3 harg3 arg4 harg4 arg5 harg5 arg6 harg6 arg7 harg7 arg8 harg8 arg9 harg9 arg10 harg10 arg11 harg11 arg12 harg12 arg13 harg13 v139 v188 v646 v647)
          (fun r => iprop(⌜r = r17 i g v139 v188 v646 v647⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part17_eq_skeleton]; unfold k0_part17_skel
  iintro ⟨H2, H3, H4, H5, H6, H7, H8, H9, H10, H11, H12, H13⟩
  sl_exec
  sl_step
  isplitr
  · ipureintro; simp only [readAt_ld]; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 18 changes no buffer and returns `r18`. -/
theorem spec18 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v139 : FVec F S128x1024 .f32) (v188 : FVec F S128x1024 .f32) (v652 : FVec F S128x1024 .f32) (v654 : FVec F S128x128 .f32) (v700 : FVec F S64x128 .f32) (v704 : FVec F S64x128 .f32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part18 i arg2 harg2 arg3 harg3 arg4 harg4 arg5 harg5 arg6 harg6 arg7 harg7 arg8 harg8 arg9 harg9 arg10 harg10 arg11 harg11 arg12 harg12 arg13 harg13 v139 v188 v652 v654 v700 v704)
          (fun r => iprop(⌜r = r18 i v139 v188 v652 v654 v700 v704⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part18_eq_skeleton]; unfold k0_part18_skel
  iintro ⟨H2, H3, H4, H5, H6, H7, H8, H9, H10, H11, H12, H13⟩
  sl_exec
  sl_step
  isplitr
  · ipureintro; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The store that ends the body: the output block, whatever was there. -/
theorem spec_store (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (w : Vec F S128x512 .f32) :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (do
            let v769 : Vec F S128x512 .f32 ← Prog.lift (.load arg9 (Rect.unit (s := S128x512) ![0, 0] S128x512.size inb_S128x512_S128x512_0_0).toLoadRect (View.loadsAt_vmem h_S128x512))
            Prog.lift (.store arg9 (Rect.unit (s := S128x512) ![0, 0] S128x512.size inb_S128x512_S128x512_0_0) w Finset.univ (View.stores_vmem_bits_univ h_S128x512 rfl) (.inl rfl))
            pure (⟨⟩ : PUnit))
          (fun _ => iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread (VecWindow.put (α := Elt F .f32) o ![0, 0] S128x512.size w)) ∗ pt c arg10 (harg10.unread kx) ∗ pt c arg11 (harg11.unread vts) ∗ pt c arg12 (harg12.unread vtw) ∗ pt c arg13 (harg13.unread lc))) := by
  iintro ⟨H2, H3, H4, H5, H6, H7, H8, H9, H10, H11, H12, H13⟩
  sl_exec
  sl_step
  rw [← writes_put]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13
/-- The carried state of loop `k0_t1` over buffers that read `kx` and `vts` is the iterated trip of vectors. -/
theorem st1_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole) (v1 : BitVec 32) (v466 : FVec F S1024x256 .bf16) (c2048_i32 : BitVec 32) (v467 : BitVec 32) (v472 : BitVec 32) (v474 : BitVec 32) (v476 : BitVec 32) (kx : Vec F S8192x256 .bf16) (vts : Vec F S144x8192 .bf16) (init : FVec F S1x1024 .f32 × FVec F S144x1024 .f32) (n : ℕ) (hn : n ≤ (k0_t1_loop i).trips) :
    st_k0_t1 (F := F) Variants.none c none i arg2 harg2 arg3 harg3 arg4 harg4 arg5 harg5 arg6 harg6 arg7 harg7 arg8 harg8 arg9 harg9 arg10 harg10 arg11 harg11 arg12 harg12 arg13 harg13 v1 v466 c2048_i32 v467 v472 v474 v476 (harg10.unread kx) (harg11.unread vts) init n = iter (step1 i kx vts v466) init n := by
  induction n with
  | zero => rfl
  | succ n ih =>
    have h1 := st_k0_t1_succ (F := F) Variants.none c none i arg2 harg2 arg3 harg3 arg4 harg4 arg5 harg5 arg6 harg6 arg7 harg7 arg8 harg8 arg9 harg9 arg10 harg10 arg11 harg11 arg12 harg12 arg13 harg13 v1 v466 c2048_i32 v467 v472 v474 v476 (harg10.unread kx) (harg11.unread vts) init ⟨n, hn⟩
    refine h1.trans ?_
    show _ = iter (step1 i kx vts v466) init ((⟨n, hn⟩ : Fin (k0_t1_loop i).trips).val + 1)
    rw [iter_succ]
    show tripR_k0_t1 (F := F) Variants.none c none i arg2 harg2 arg3 harg3 arg4 harg4 arg5 harg5 arg6 harg6 arg7 harg7 arg8 harg8 arg9 harg9 arg10 harg10 arg11 harg11 arg12 harg12 arg13 harg13 v1 v466 c2048_i32 v467 v472 v474 v476 (harg10.unread kx) (harg11.unread vts) ⟨n, hn⟩ (st_k0_t1 (F := F) Variants.none c none i arg2 harg2 arg3 harg3 arg4 harg4 arg5 harg5 arg6 harg6 arg7 harg7 arg8 harg8 arg9 harg9 arg10 harg10 arg11 harg11 arg12 harg12 arg13 harg13 v1 v466 c2048_i32 v467 v472 v474 v476 (harg10.unread kx) (harg11.unread vts) init n) = _
    rw [ih (Nat.le_of_succ_le hn)]
    generalize iter (step1 i kx vts v466) init n = a
    show (trip_k0_t1 (F := F) Variants.none c none i arg2 harg2 arg3 harg3 arg4 harg4 arg5 harg5 arg6 harg6 arg7 harg7 arg8 harg8 arg9 harg9 arg10 harg10 arg11 harg11 arg12 harg12 arg13 harg13 v1 v466 c2048_i32 v467 v472 v474 v476 (harg10.unread kx) (harg11.unread vts) ⟨n, hn⟩).1 a = _
    unfold trip_k0_t1
    show (_, _) = step1 i kx vts v466 ⟨n, hn⟩ a
    simp only [readAt_ld]
    rfl

/-- The carried state of loop `k0_t2` over buffers that read `kx` and `vts` is the iterated trip of vectors. -/
theorem st2_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole) (v1 : BitVec 32) (v466 : FVec F S1024x256 .bf16) (c2048_i32 : BitVec 32) (v467 : BitVec 32) (v472 : BitVec 32) (v474 : BitVec 32) (v476 : BitVec 32) (kx : Vec F S8192x256 .bf16) (vts : Vec F S144x8192 .bf16) (init : FVec F S1x1024 .f32 × FVec F S144x1024 .f32) (n : ℕ) (hn : n ≤ (k0_t2_loop i).trips) :
    st_k0_t2 (F := F) Variants.none c none i arg2 harg2 arg3 harg3 arg4 harg4 arg5 harg5 arg6 harg6 arg7 harg7 arg8 harg8 arg9 harg9 arg10 harg10 arg11 harg11 arg12 harg12 arg13 harg13 v1 v466 c2048_i32 v467 v472 v474 v476 (harg10.unread kx) (harg11.unread vts) init n = iter (step2 i kx vts v466) init n := by
  induction n with
  | zero => rfl
  | succ n ih =>
    have h1 := st_k0_t2_succ (F := F) Variants.none c none i arg2 harg2 arg3 harg3 arg4 harg4 arg5 harg5 arg6 harg6 arg7 harg7 arg8 harg8 arg9 harg9 arg10 harg10 arg11 harg11 arg12 harg12 arg13 harg13 v1 v466 c2048_i32 v467 v472 v474 v476 (harg10.unread kx) (harg11.unread vts) init ⟨n, hn⟩
    refine h1.trans ?_
    show _ = iter (step2 i kx vts v466) init ((⟨n, hn⟩ : Fin (k0_t2_loop i).trips).val + 1)
    rw [iter_succ]
    show tripR_k0_t2 (F := F) Variants.none c none i arg2 harg2 arg3 harg3 arg4 harg4 arg5 harg5 arg6 harg6 arg7 harg7 arg8 harg8 arg9 harg9 arg10 harg10 arg11 harg11 arg12 harg12 arg13 harg13 v1 v466 c2048_i32 v467 v472 v474 v476 (harg10.unread kx) (harg11.unread vts) ⟨n, hn⟩ (st_k0_t2 (F := F) Variants.none c none i arg2 harg2 arg3 harg3 arg4 harg4 arg5 harg5 arg6 harg6 arg7 harg7 arg8 harg8 arg9 harg9 arg10 harg10 arg11 harg11 arg12 harg12 arg13 harg13 v1 v466 c2048_i32 v467 v472 v474 v476 (harg10.unread kx) (harg11.unread vts) init n) = _
    rw [ih (Nat.le_of_succ_le hn)]
    generalize iter (step2 i kx vts v466) init n = a
    show (trip_k0_t2 (F := F) Variants.none c none i arg2 harg2 arg3 harg3 arg4 harg4 arg5 harg5 arg6 harg6 arg7 harg7 arg8 harg8 arg9 harg9 arg10 harg10 arg11 harg11 arg12 harg12 arg13 harg13 v1 v466 c2048_i32 v467 v472 v474 v476 (harg10.unread kx) (harg11.unread vts) ⟨n, hn⟩).1 a = _
    unfold trip_k0_t2
    show (_, _) = step2 i kx vts v466 ⟨n, hn⟩ a
    simp only [readAt_ld]
    rfl

/-- The carried state of loop `k0_t3` over buffers that read `kx` and `vts` is the iterated trip of vectors. -/
theorem st3_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole) (v1 : BitVec 32) (v466 : FVec F S1024x256 .bf16) (v483 : BitVec 32) (v509_0 : FVec F S1x1024 .f32) (v509_1 : FVec F S144x1024 .f32) (c2_i32_170 : BitVec 32) (v510 : BitVec 32) (v515 : BitVec 32) (v517 : BitVec 32) (kx : Vec F S8192x256 .bf16) (vts : Vec F S144x8192 .bf16) (init : FVec F S1x1024 .f32 × FVec F S144x1024 .f32) (n : ℕ) (hn : n ≤ (k0_t3_loop i).trips) :
    st_k0_t3 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) init n = iter (step3 i kx vts v466) init n := by
  induction n with
  | zero => rfl
  | succ n ih =>
    have h1 := st_k0_t3_succ (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) init ⟨n, hn⟩
    refine h1.trans ?_
    show _ = iter (step3 i kx vts v466) init ((⟨n, hn⟩ : Fin (k0_t3_loop i).trips).val + 1)
    rw [iter_succ]
    show tripR_k0_t3 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) ⟨n, hn⟩ (st_k0_t3 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) init n) = _
    rw [ih (Nat.le_of_succ_le hn)]
    generalize iter (step3 i kx vts v466) init n = a
    show (trip_k0_t3 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) ⟨n, hn⟩).1 a = _
    unfold trip_k0_t3
    show (_, _) = step3 i kx vts v466 ⟨n, hn⟩ a
    simp only [readAt_ld]
    rfl

/-- The carried state of loop `k0_t4` over buffers that read `kx` and `vts` is the iterated trip of vectors. -/
theorem st4_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole) (v1 : BitVec 32) (v466 : FVec F S1024x256 .bf16) (v483 : BitVec 32) (v509_0 : FVec F S1x1024 .f32) (v509_1 : FVec F S144x1024 .f32) (c2_i32_170 : BitVec 32) (v510 : BitVec 32) (v515 : BitVec 32) (v517 : BitVec 32) (kx : Vec F S8192x256 .bf16) (vts : Vec F S144x8192 .bf16) (init : FVec F S1x1024 .f32 × FVec F S144x1024 .f32) (n : ℕ) (hn : n ≤ (k0_t4_loop i).trips) :
    st_k0_t4 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) init n = iter (step4 i kx vts v466) init n := by
  induction n with
  | zero => rfl
  | succ n ih =>
    have h1 := st_k0_t4_succ (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) init ⟨n, hn⟩
    refine h1.trans ?_
    show _ = iter (step4 i kx vts v466) init ((⟨n, hn⟩ : Fin (k0_t4_loop i).trips).val + 1)
    rw [iter_succ]
    show tripR_k0_t4 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) ⟨n, hn⟩ (st_k0_t4 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) init n) = _
    rw [ih (Nat.le_of_succ_le hn)]
    generalize iter (step4 i kx vts v466) init n = a
    show (trip_k0_t4 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) ⟨n, hn⟩).1 a = _
    unfold trip_k0_t4
    show (_, _) = step4 i kx vts v466 ⟨n, hn⟩ a
    simp only [readAt_ld]
    rfl

/-- The carried state of loop `k0_t5` over buffers that read `kx` and `vts` is the iterated trip of vectors. -/
theorem st5_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole) (v1 : BitVec 32) (v466 : FVec F S1024x256 .bf16) (v483 : BitVec 32) (v509_0 : FVec F S1x1024 .f32) (v509_1 : FVec F S144x1024 .f32) (c2_i32_170 : BitVec 32) (v510 : BitVec 32) (v515 : BitVec 32) (v517 : BitVec 32) (kx : Vec F S8192x256 .bf16) (vts : Vec F S144x8192 .bf16) (init : FVec F S1x1024 .f32 × FVec F S144x1024 .f32) (n : ℕ) (hn : n ≤ (k0_t5_loop i).trips) :
    st_k0_t5 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) init n = iter (step5 i kx vts v466) init n := by
  induction n with
  | zero => rfl
  | succ n ih =>
    have h1 := st_k0_t5_succ (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) init ⟨n, hn⟩
    refine h1.trans ?_
    show _ = iter (step5 i kx vts v466) init ((⟨n, hn⟩ : Fin (k0_t5_loop i).trips).val + 1)
    rw [iter_succ]
    show tripR_k0_t5 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) ⟨n, hn⟩ (st_k0_t5 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) init n) = _
    rw [ih (Nat.le_of_succ_le hn)]
    generalize iter (step5 i kx vts v466) init n = a
    show (trip_k0_t5 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) ⟨n, hn⟩).1 a = _
    unfold trip_k0_t5
    show (_, _) = step5 i kx vts v466 ⟨n, hn⟩ a
    simp only [readAt_ld]
    rfl

/-- The carried state of loop `k0_t6` over buffers that read `kx` and `vts` is the iterated trip of vectors. -/
theorem st6_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole) (v1 : BitVec 32) (v466 : FVec F S1024x256 .bf16) (v483 : BitVec 32) (v509_0 : FVec F S1x1024 .f32) (v509_1 : FVec F S144x1024 .f32) (c2_i32_170 : BitVec 32) (v510 : BitVec 32) (v515 : BitVec 32) (v517 : BitVec 32) (kx : Vec F S8192x256 .bf16) (vts : Vec F S144x8192 .bf16) (init : FVec F S1x1024 .f32 × FVec F S144x1024 .f32) (n : ℕ) (hn : n ≤ (k0_t6_loop i).trips) :
    st_k0_t6 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) init n = iter (step6 i kx vts v466) init n := by
  induction n with
  | zero => rfl
  | succ n ih =>
    have h1 := st_k0_t6_succ (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) init ⟨n, hn⟩
    refine h1.trans ?_
    show _ = iter (step6 i kx vts v466) init ((⟨n, hn⟩ : Fin (k0_t6_loop i).trips).val + 1)
    rw [iter_succ]
    show tripR_k0_t6 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) ⟨n, hn⟩ (st_k0_t6 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) init n) = _
    rw [ih (Nat.le_of_succ_le hn)]
    generalize iter (step6 i kx vts v466) init n = a
    show (trip_k0_t6 (F := F) Variants.none c none i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517 (harg10.unread kx) (harg11.unread vts) ⟨n, hn⟩).1 a = _
    unfold trip_k0_t6
    show (_, _) = step6 i kx vts v466 ⟨n, hn⟩ a
    simp only [readAt_ld]
    rfl

/-- The carried state of loop `k0_t7` over buffers that read `kx` and `vts` is the iterated trip of vectors. -/
theorem st7_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole) (v1 : BitVec 32) (v466 : FVec F S1024x256 .bf16) (v559_0 : FVec F S1x1024 .f32) (v559_1 : FVec F S144x1024 .f32) (kx : Vec F S8192x256 .bf16) (vts : Vec F S144x8192 .bf16) (init : FVec F S1x1024 .f32 × FVec F S144x1024 .f32) (n : ℕ) (hn : n ≤ (k0_t7_loop i).trips) :
    st_k0_t7 (F := F) Variants.none c none i arg2 harg2 arg3 harg3 arg4 harg4 arg5 harg5 arg6 harg6 arg7 harg7 arg8 harg8 arg9 harg9 arg10 harg10 arg11 harg11 arg12 harg12 arg13 harg13 v1 v466 v559_0 v559_1 (harg10.unread kx) (harg11.unread vts) init n = iter (step7 i kx vts v466) init n := by
  induction n with
  | zero => rfl
  | succ n ih =>
    have h1 := st_k0_t7_succ (F := F) Variants.none c none i arg2 harg2 arg3 harg3 arg4 harg4 arg5 harg5 arg6 harg6 arg7 harg7 arg8 harg8 arg9 harg9 arg10 harg10 arg11 harg11 arg12 harg12 arg13 harg13 v1 v466 v559_0 v559_1 (harg10.unread kx) (harg11.unread vts) init ⟨n, hn⟩
    refine h1.trans ?_
    show _ = iter (step7 i kx vts v466) init ((⟨n, hn⟩ : Fin (k0_t7_loop i).trips).val + 1)
    rw [iter_succ]
    show tripR_k0_t7 (F := F) Variants.none c none i arg2 harg2 arg3 harg3 arg4 harg4 arg5 harg5 arg6 harg6 arg7 harg7 arg8 harg8 arg9 harg9 arg10 harg10 arg11 harg11 arg12 harg12 arg13 harg13 v1 v466 v559_0 v559_1 (harg10.unread kx) (harg11.unread vts) ⟨n, hn⟩ (st_k0_t7 (F := F) Variants.none c none i arg2 harg2 arg3 harg3 arg4 harg4 arg5 harg5 arg6 harg6 arg7 harg7 arg8 harg8 arg9 harg9 arg10 harg10 arg11 harg11 arg12 harg12 arg13 harg13 v1 v466 v559_0 v559_1 (harg10.unread kx) (harg11.unread vts) init n) = _
    rw [ih (Nat.le_of_succ_le hn)]
    generalize iter (step7 i kx vts v466) init n = a
    show (trip_k0_t7 (F := F) Variants.none c none i arg2 harg2 arg3 harg3 arg4 harg4 arg5 harg5 arg6 harg6 arg7 harg7 arg8 harg8 arg9 harg9 arg10 harg10 arg11 harg11 arg12 harg12 arg13 harg13 v1 v466 v559_0 v559_1 (harg10.unread kx) (harg11.unread vts) ⟨n, hn⟩).1 a = _
    unfold trip_k0_t7
    show (_, _) = step7 i kx vts v466 ⟨n, hn⟩ a
    simp only [readAt_ld]
    rfl

/-- The carried state of loop `k0_t8` over buffers that read `kx` and `vts` is the iterated trip of vectors. -/
theorem st8_eq (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole) (v1 : BitVec 32) (v466 : FVec F S1024x256 .bf16) (v559_0 : FVec F S1x1024 .f32) (v559_1 : FVec F S144x1024 .f32) (kx : Vec F S8192x256 .bf16) (vts : Vec F S144x8192 .bf16) (init : FVec F S1x1024 .f32 × FVec F S144x1024 .f32) (n : ℕ) (hn : n ≤ (k0_t8_loop i).trips) :
    st_k0_t8 (F := F) Variants.none c none i arg2 harg2 arg3 harg3 arg4 harg4 arg5 harg5 arg6 harg6 arg7 harg7 arg8 harg8 arg9 harg9 arg10 harg10 arg11 harg11 arg12 harg12 arg13 harg13 v1 v466 v559_0 v559_1 (harg10.unread kx) (harg11.unread vts) init n = iter (step8 i kx vts v466) init n := by
  induction n with
  | zero => rfl
  | succ n ih =>
    have h1 := st_k0_t8_succ (F := F) Variants.none c none i arg2 harg2 arg3 harg3 arg4 harg4 arg5 harg5 arg6 harg6 arg7 harg7 arg8 harg8 arg9 harg9 arg10 harg10 arg11 harg11 arg12 harg12 arg13 harg13 v1 v466 v559_0 v559_1 (harg10.unread kx) (harg11.unread vts) init ⟨n, hn⟩
    refine h1.trans ?_
    show _ = iter (step8 i kx vts v466) init ((⟨n, hn⟩ : Fin (k0_t8_loop i).trips).val + 1)
    rw [iter_succ]
    show tripR_k0_t8 (F := F) Variants.none c none i arg2 harg2 arg3 harg3 arg4 harg4 arg5 harg5 arg6 harg6 arg7 harg7 arg8 harg8 arg9 harg9 arg10 harg10 arg11 harg11 arg12 harg12 arg13 harg13 v1 v466 v559_0 v559_1 (harg10.unread kx) (harg11.unread vts) ⟨n, hn⟩ (st_k0_t8 (F := F) Variants.none c none i arg2 harg2 arg3 harg3 arg4 harg4 arg5 harg5 arg6 harg6 arg7 harg7 arg8 harg8 arg9 harg9 arg10 harg10 arg11 harg11 arg12 harg12 arg13 harg13 v1 v466 v559_0 v559_1 (harg10.unread kx) (harg11.unread vts) init n) = _
    rw [ih (Nat.le_of_succ_le hn)]
    generalize iter (step8 i kx vts v466) init n = a
    show (trip_k0_t8 (F := F) Variants.none c none i arg2 harg2 arg3 harg3 arg4 harg4 arg5 harg5 arg6 harg6 arg7 harg7 arg8 harg8 arg9 harg9 arg10 harg10 arg11 harg11 arg12 harg12 arg13 harg13 v1 v466 v559_0 v559_1 (harg10.unread kx) (harg11.unread vts) ⟨n, hn⟩).1 a = _
    unfold trip_k0_t8
    show (_, _) = step8 i kx vts v466 ⟨n, hn⟩ a
    simp only [readAt_ld]
    rfl

/-- Part 13 changes no buffer and returns `r13`. -/
theorem spec13 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v1 : BitVec 32) (v466 : FVec F S1024x256 .bf16) (c2048_i32 : BitVec 32) (v467 : BitVec 32) (v472 : BitVec 32) (v474 : BitVec 32) (v476 : BitVec 32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part13 i arg2 harg2 arg3 harg3 arg4 harg4 arg5 harg5 arg6 harg6 arg7 harg7 arg8 harg8 arg9 harg9 arg10 harg10 arg11 harg11 arg12 harg12 arg13 harg13 v1 v466 c2048_i32 v467 v472 v474 v476)
          (fun r => iprop(⌜r = r13 i kx vts v1 v466 c2048_i32 v467 v472 v474 v476⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part13_eq_skeleton]; unfold k0_part13_skel
  have e10 : pt (F := F) c arg10 (harg10.unread kx) = (arg10.view.loc (c : Thread nD τ) ↦[arg10.view.set]{fullShare} (harg10.unread kx) : sProp 𝕄) := by rw [harg10.set_eq_univ]
  have e11 : pt (F := F) c arg11 (harg11.unread vts) = (arg11.view.loc (c : Thread nD τ) ↦[arg11.view.set]{fullShare} (harg11.unread vts) : sProp 𝕄) := by rw [harg11.set_eq_univ]
  rw [e10, e11]
  iintro ⟨H2, H3, H4, H5, H6, H7, H8, H9, H10, H11, H12, H13⟩
  sl_exec
  sl_step
  isplitr
  · ipureintro; rw [st2_eq, st1_eq]; rfl; all_goals exact le_rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 14 changes no buffer and returns `r14`. -/
theorem spec14 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v1 : BitVec 32) (v466 : FVec F S1024x256 .bf16) (v483 : BitVec 32) (v509_0 : FVec F S1x1024 .f32) (v509_1 : FVec F S144x1024 .f32) (c2_i32_170 : BitVec 32) (v510 : BitVec 32) (v515 : BitVec 32) (v517 : BitVec 32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part14 i arg2 harg2 arg3 harg3 arg4 harg4 arg5 harg5 arg6 harg6 arg7 harg7 arg8 harg8 arg9 harg9 arg10 harg10 arg11 harg11 arg12 harg12 arg13 harg13 v1 v466 v483 v509_0 v509_1 c2_i32_170 v510 v515 v517)
          (fun r => iprop(⌜r = r14 i kx vts v1 v466 v483 v509_0 v509_1 c2_i32_170 v510 v515 v517⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part14_eq_skeleton]; unfold k0_part14_skel
  have e10 : pt (F := F) c arg10 (harg10.unread kx) = (arg10.view.loc (c : Thread nD τ) ↦[arg10.view.set]{fullShare} (harg10.unread kx) : sProp 𝕄) := by rw [harg10.set_eq_univ]
  have e11 : pt (F := F) c arg11 (harg11.unread vts) = (arg11.view.loc (c : Thread nD τ) ↦[arg11.view.set]{fullShare} (harg11.unread vts) : sProp 𝕄) := by rw [harg11.set_eq_univ]
  rw [e10, e11]
  iintro ⟨H2, H3, H4, H5, H6, H7, H8, H9, H10, H11, H12, H13⟩
  sl_exec
  sl_step
  isplitr
  · ipureintro; rw [st6_eq, st5_eq, st4_eq, st3_eq]; rfl; all_goals exact le_rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 15 changes no buffer and returns `r15`. -/
theorem spec15 (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (v1 : BitVec 32) (v466 : FVec F S1024x256 .bf16) (v559_0 : FVec F S1x1024 .f32) (v559_1 : FVec F S144x1024 .f32)  :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part15 i arg2 harg2 arg3 harg3 arg4 harg4 arg5 harg5 arg6 harg6 arg7 harg7 arg8 harg8 arg9 harg9 arg10 harg10 arg11 harg11 arg12 harg12 arg13 harg13 v1 v466 v559_0 v559_1)
          (fun r => iprop(⌜r = r15 i kx vts v1 v466 v559_0 v559_1⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc))) := by
  rw [k0_part15_eq_skeleton]; unfold k0_part15_skel
  have e10 : pt (F := F) c arg10 (harg10.unread kx) = (arg10.view.loc (c : Thread nD τ) ↦[arg10.view.set]{fullShare} (harg10.unread kx) : sProp 𝕄) := by rw [harg10.set_eq_univ]
  have e11 : pt (F := F) c arg11 (harg11.unread vts) = (arg11.view.loc (c : Thread nD τ) ↦[arg11.view.set]{fullShare} (harg11.unread vts) : sProp 𝕄) := by rw [harg11.set_eq_univ]
  rw [e10, e11]
  iintro ⟨H2, H3, H4, H5, H6, H7, H8, H9, H10, H11, H12, H13⟩
  sl_exec
  sl_step
  isplitr
  · ipureintro; rw [st8_eq, st7_eq]; rfl; all_goals exact le_rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The branch on the grid point being the first of its batch row. -/
abbrev isFirst (i : grid0.Coords) : Prop := Scalar.cmpi .ne (Scalar.extui (Scalar.cmpi .eq (BitVec.ofNat 32 (i 1).val) 0#32) : BitVec 32) 0#32 = 1#1

/-- Part 2 away from a row's first point: one tile of the two key-side scratch buffers is stored. -/
theorem spec2_next (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16)  (hc : ¬ isFirst i) :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part2 i arg2 harg2 arg3 harg3 arg4 harg4 arg5 harg5 arg6 harg6 arg7 harg7 arg8 harg8 arg9 harg9 arg10 harg10 arg11 harg11 arg12 harg12 arg13 harg13 )
          (fun r => iprop(⌜r = v1F i⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread (VecWindow.put (α := Elt F .bf16) kx (k0_off2 i) S128x256.size (k0_pay9 i (View.ld (Val := Elt F) ks (Rect.unit (s := S8192x256) (k0_off1 i) S128x128.size (k0_off1_inb i)))))) ∗ pt c arg11 (harg11.unread (VecWindow.put (α := Elt F .bf16) vts (k0_off4 i) S144x128.size (k0_pay10 (View.ld (Val := Elt F) ks (Rect.unit (s := S8192x256) (k0_off3 i) S128x128.size (k0_off3_inb i)))))) ∗ pt c arg12 (harg12.unread vtw) ∗ pt c arg13 (harg13.unread lc))) := by
  rw [k0_part2_eq_skeleton]; unfold k0_part2_skel
  iintro ⟨H2, H3, H4, H5, H6, H7, H8, H9, H10, H11, H12, H13⟩
  sl_exec (disch := sl_exact hc)
  sl_step
  simp only [readAt_ld]
  rw [← writes_put, ← writes_put]
  isplitr
  · ipureintro; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Part 2 at a row's first point: the scratch buffers are filled, and then the first tile is stored. -/
theorem spec2_first (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16)  (hc : isFirst i) :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (k0_part2 i arg2 harg2 arg3 harg3 arg4 harg4 arg5 harg5 arg6 harg6 arg7 harg7 arg8 harg8 arg9 harg9 arg10 harg10 arg11 harg11 arg12 harg12 arg13 harg13 )
          (fun r => iprop(⌜r = v1F i⌝ ∗ pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread (VecWindow.put (α := Elt F .bf16) (k0_pay2 (F := F)) (k0_off2 i) S128x256.size (k0_pay9 i (View.ld (Val := Elt F) ks (Rect.unit (s := S8192x256) (k0_off1 i) S128x128.size (k0_off1_inb i)))))) ∗ pt c arg11 (harg11.unread (VecWindow.put (α := Elt F .bf16) (k0_pay3 (F := F)) (k0_off4 i) S144x128.size (k0_pay10 (View.ld (Val := Elt F) ks (Rect.unit (s := S8192x256) (k0_off3 i) S128x128.size (k0_off3_inb i)))))) ∗ pt c arg12 (harg12.unread (k0_pay4 (F := F))) ∗ pt c arg13 (harg13.unread (VecWindow.put (α := Elt F .bf16) (VecWindow.put (α := Elt F .bf16) (VecWindow.put (α := Elt F .bf16) lc ![0, 0] S128x512.size (k0_pay5 (View.ld (Val := Elt F) ckv (Rect.unit (s := S1x512x256) ![0, 0, 128] S1x512x128.size inb_S1x512x256_S1x512x128_0_0_128)))) ![128, 0] S128x512.size (k0_pay6 (View.ld (Val := Elt F) ov (Rect.unit (s := S128x512) ![0, 0] S128x512.size inb_S128x512_S128x512_0_0)))) ![256, 0] S16x512.size (k0_pay8 (k0_pay7 (F := F))))))) := by
  rw [k0_part2_eq_skeleton]; unfold k0_part2_skel
  iintro ⟨H2, H3, H4, H5, H6, H7, H8, H9, H10, H11, H12, H13⟩
  sl_exec (disch := sl_exact hc)
  sl_step
  isplitr
  · ipureintro; rfl
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · rw [← readAt_ld harg6, ← writes_put2 harg10 kx (k0_pay2 (F := F)) (k0_off2_inb i) _ inb_S8192x256_S8192x256_0_0]; iexact H10
  isplitl [H11]; · rw [← readAt_ld harg6, ← writes_put2 harg11 vts (k0_pay3 (F := F)) (k0_off4_inb i) _ inb_S144x8192_S144x8192_0_0]; iexact H11
  isplitl [H12]; · rw [← writes_full harg12 vtw (k0_pay4 (F := F)) inb_S144x8192_S144x8192_0_0]; iexact H12
  rw [← readAt_ld harg5, ← readAt_ld harg8, ← writes_put3 harg13 lc inb_S272x512_S128x512_0_0 _ inb_S272x512_S128x512_128_0 _ inb_S272x512_S16x512_256_0 _]; iexact H13

end Cert.KernelIdeal

end
-- ==== Proof.Body.lean ====
module

public import proofs.«01_k».proof.Proof.Gen.KernelIdeal.Frame
public import proofs.«01_k».proof.Proof.Parts
public import Idealize.ShloMosaic.Lib.WholeRead

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! The kernel's body at one grid point, from its parts. -/

/-- A call that returns a known value, run first. -/
theorem step {α β : Type} {c : Dev nD} {E : Set ℕ} {P P' : sProp 𝕄} {p : Prog (TpuEff nD τ sig (Elt F) Λ₀ .tc) α} {k : α → Prog (TpuEff nD τ sig (Elt F) Λ₀ .tc) β} {v : α} {Q : β → sProp 𝕄}
    (h : P ⊢ wp frame (wpE (defs₀ (F := F)) Variants.none (c : Thread nD τ) none) E p (fun r => iprop(⌜r = v⌝ ∗ P')))
    (hk : P' ⊢ wp frame (wpE (defs₀ (F := F)) Variants.none (c : Thread nD τ) none) E (k v) Q) :
    P ⊢ wp frame (wpE (defs₀ (F := F)) Variants.none (c : Thread nD τ) none) E (p >>= k) Q := by
  rw [wp_bind]
  refine h.trans (wp_mono _ _ _ fun r => ?_)
  iintro ⟨%hr, H⟩
  subst hr
  iapply hk
  iexact H

/-- A payload put over a whole vector is the payload. -/
theorem put_full {α : Type} {s : Shape} (x : s.Idx → α) (off : Fin s.rank → ℕ) (w : s.Idx → α) (h : ∀ a, off a = 0) :
    VecWindow.put x off s.size w = w := by
  funext y
  unfold VecWindow.put
  rw [dif_pos (fun a => ⟨by rw [h a]; exact Nat.zero_le _, by rw [h a, Nat.zero_add]; exact (y a).isLt⟩)]
  exact congrArg w (funext fun a => Fin.ext (by rw [Rect.unitLocal_val, h a, Nat.sub_zero]))

set_option maxHeartbeats 4000000 in
/-- The body away from a batch row's first point: one tile of each scratch buffer is stored, then the output block. -/
theorem body_next (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (hc : ¬ isFirst i) :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (cc0_nsa_prompt i arg2 harg2 arg3 harg3 arg4 harg4 arg5 harg5 arg6 harg6 arg7 harg7 arg8 harg8 arg9 harg9 arg10 harg10 arg11 harg11 arg12 harg12 arg13 harg13)
          (fun _ => iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread (outF i q qr g ckv kw (VecWindow.put (α := Elt F .bf16) kx (k0_off2 i) S128x256.size (k0_pay9 i (View.ld (Val := Elt F) ks (Rect.unit (s := S8192x256) (k0_off1 i) S128x128.size (k0_off1_inb i))))) (VecWindow.put (α := Elt F .bf16) vts (k0_off4 i) S144x128.size (k0_pay10 (View.ld (Val := Elt F) ks (Rect.unit (s := S8192x256) (k0_off3 i) S128x128.size (k0_off3_inb i))))) (VecWindow.put (α := Elt F .bf16) vtw (k0_off4 i) S144x128.size (k0_pay11 (View.ld (Val := Elt F) kw (Rect.unit (s := S8192x256) (k0_off3 i) S128x128.size (k0_off3_inb i))))) lc)) ∗ pt c arg10 (harg10.unread (VecWindow.put (α := Elt F .bf16) kx (k0_off2 i) S128x256.size (k0_pay9 i (View.ld (Val := Elt F) ks (Rect.unit (s := S8192x256) (k0_off1 i) S128x128.size (k0_off1_inb i)))))) ∗ pt c arg11 (harg11.unread (VecWindow.put (α := Elt F .bf16) vts (k0_off4 i) S144x128.size (k0_pay10 (View.ld (Val := Elt F) ks (Rect.unit (s := S8192x256) (k0_off3 i) S128x128.size (k0_off3_inb i)))))) ∗ pt c arg12 (harg12.unread (VecWindow.put (α := Elt F .bf16) vtw (k0_off4 i) S144x128.size (k0_pay11 (View.ld (Val := Elt F) kw (Rect.unit (s := S8192x256) (k0_off3 i) S128x128.size (k0_off3_inb i)))))) ∗ pt c arg13 (harg13.unread lc))) := by
  rw [cc0_nsa_prompt_eq_skeleton]; unfold cc0_nsa_prompt_skel
  refine step (spec2_next c E i arg2 harg2 arg3 harg3 arg4 harg4 arg5 harg5 arg6 harg6 arg7 harg7 arg8 harg8 arg9 harg9 arg10 harg10 arg11 harg11 arg12 harg12 arg13 harg13 q qr g ckv ks kw ov o kx vts vtw lc hc) ?_
  generalize hkx : (VecWindow.put (α := Elt F .bf16) kx (k0_off2 i) S128x256.size (k0_pay9 i (View.ld (Val := Elt F) ks (Rect.unit (s := S8192x256) (k0_off1 i) S128x128.size (k0_off1_inb i))))) = kx'
  generalize hvts : (VecWindow.put (α := Elt F .bf16) vts (k0_off4 i) S144x128.size (k0_pay10 (View.ld (Val := Elt F) ks (Rect.unit (s := S8192x256) (k0_off3 i) S128x128.size (k0_off3_inb i))))) = vts'
  refine step (spec3 c E i arg2 harg2 arg3 harg3 arg4 harg4 arg5 harg5 arg6 harg6 arg7 harg7 arg8 harg8 arg9 harg9 arg10 harg10 arg11 harg11 arg12 harg12 arg13 harg13 q qr g ckv ks kw ov o kx' vts' vtw lc (v1F i)) ?_
  generalize hvtw : (VecWindow.put (α := Elt F .bf16) vtw (k0_off4 i) S144x128.size (k0_pay11 (View.ld (Val := Elt F) kw (Rect.unit (s := S8192x256) (k0_off3 i) S128x128.size (k0_off3_inb i))))) = vtw'
  rcases h3 : r3 i q (v1F i) with ⟨v62, v64, v66, v68, v70, v72, v74, v76, v78⟩
  refine step (spec4 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc v62 v64 v66 v68 v70 v72 v74 v76 v78) ?_
  rcases h4 : r4 i qr v62 v64 v66 v68 v70 v72 v74 v76 v78 with ⟨v82, v102, v114⟩
  refine step (spec5 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc (v1F i) v62 v82 v102 v114) ?_
  rcases h5 : r5 i ckv kw lc (v1F i) v62 v82 v102 v114 with ⟨v139, v142, v145, v148, v151, v155, v156, v158⟩
  refine step (spec6 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc v62 v142 v145 v148 v151 v155 v156 v158) ?_
  rcases h6 : r6 i vtw' v62 v142 v145 v148 v151 v155 v156 v158 with ⟨v188, v207, v208, v209, c6_i32_64⟩
  refine step (spec7 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc v207 v208 v209 c6_i32_64) ?_
  rcases h7 : r7 i v207 v208 v209 c6_i32_64 with ⟨v248, v250, v254⟩
  refine step (spec8 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc v209 v248 v250 v254) ?_
  rcases h8 : r8 i v209 v248 v250 v254 with ⟨v290, v292, v298⟩
  refine step (spec9 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc v209 v290 v292 v298) ?_
  rcases h9 : r9 i v209 v290 v292 v298 with ⟨v332, v334, v342⟩
  refine step (spec10 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc v209 v332 v334 v342) ?_
  rcases h10 : r10 i v209 v332 v334 v342 with ⟨v374, v376, v386, cst_126⟩
  refine step (spec11 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc v209 v374 v376 v386 cst_126) ?_
  rcases h11 : r11 i v209 v374 v376 v386 cst_126 with ⟨v418, v428, v430, cst_142⟩
  refine step (spec12 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc (v1F i) v102 v209 v418 v428 v430 cst_142) ?_
  rcases h12 : r12 i (v1F i) v102 v209 v418 v428 v430 cst_142 with ⟨v466, c2048_i32, v467, v472, v474, v476⟩
  refine step (spec13 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc (v1F i) v466 c2048_i32 v467 v472 v474 v476) ?_
  rcases h13 : r13 i kx' vts' (v1F i) v466 c2048_i32 v467 v472 v474 v476 with ⟨v483, v509_0, v509_1, c2_i32_170, v510, v515, v517⟩
  refine step (spec14 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc (v1F i) v466 v483 v509_0 v509_1 c2_i32_170 v510 v515 v517) ?_
  rcases h14 : r14 i kx' vts' (v1F i) v466 v483 v509_0 v509_1 c2_i32_170 v510 v515 v517 with ⟨v559_0, v559_1⟩
  refine step (spec15 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc (v1F i) v466 v559_0 v559_1) ?_
  rcases h15 : r15 i kx' vts' (v1F i) v466 v559_0 v559_1 with ⟨v601_0, v601_1⟩
  refine step (spec16 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc (v1F i) v62 v466 v601_0 v601_1) ?_
  rcases h16 : r16 i kx' vts' (v1F i) v62 v466 v601_0 v601_1 with ⟨v646, v647⟩
  refine step (spec17 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc v139 v188 v646 v647) ?_
  rcases h17 : r17 i g v139 v188 v646 v647 with ⟨v652, v654, v668, v682, v696, v700, v704⟩
  refine step (spec18 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc v139 v188 v652 v654 v700 v704) ?_
  rcases h18 : r18 i v139 v188 v652 v654 v700 v704 with ⟨v710, v724, v738, v752, v761, v763, v764⟩
  have ho : outF i q qr g ckv kw kx' vts' vtw' lc = k0_pay1 v668 v682 v696 v710 v724 v738 v752 v761 v763 v764 := by
    simp only [outF, h3, h4, h5, h6, h7, h8, h9, h10, h11, h12, h13, h14, h15, h16, h17, h18]
  rw [ho]
  have hp : VecWindow.put (α := Elt F .f32) o ![0, 0] S128x512.size (k0_pay1 v668 v682 v696 v710 v724 v738 v752 v761 v763 v764) = k0_pay1 v668 v682 v696 v710 v724 v738 v752 v761 v763 v764 :=
    put_full (s := S128x512) o _ _ (by decide)
  have hs := spec_store c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc (k0_pay1 v668 v682 v696 v710 v724 v738 v752 v761 v763 v764)
  rw [hp] at hs
  exact hs

set_option maxHeartbeats 4000000 in
/-- The body at a batch row's first point: the scratch buffers are filled, one tile of three of them is stored, then the output block. -/
theorem body_first (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (hc : isFirst i) :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (cc0_nsa_prompt i arg2 harg2 arg3 harg3 arg4 harg4 arg5 harg5 arg6 harg6 arg7 harg7 arg8 harg8 arg9 harg9 arg10 harg10 arg11 harg11 arg12 harg12 arg13 harg13)
          (fun _ => iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread (outF i q qr g ckv kw (VecWindow.put (α := Elt F .bf16) (k0_pay2 (F := F)) (k0_off2 i) S128x256.size (k0_pay9 i (View.ld (Val := Elt F) ks (Rect.unit (s := S8192x256) (k0_off1 i) S128x128.size (k0_off1_inb i))))) (VecWindow.put (α := Elt F .bf16) (k0_pay3 (F := F)) (k0_off4 i) S144x128.size (k0_pay10 (View.ld (Val := Elt F) ks (Rect.unit (s := S8192x256) (k0_off3 i) S128x128.size (k0_off3_inb i))))) (VecWindow.put (α := Elt F .bf16) (k0_pay4 (F := F)) (k0_off4 i) S144x128.size (k0_pay11 (View.ld (Val := Elt F) kw (Rect.unit (s := S8192x256) (k0_off3 i) S128x128.size (k0_off3_inb i))))) (VecWindow.put (α := Elt F .bf16) (VecWindow.put (α := Elt F .bf16) (VecWindow.put (α := Elt F .bf16) lc ![0, 0] S128x512.size (k0_pay5 (View.ld (Val := Elt F) ckv (Rect.unit (s := S1x512x256) ![0, 0, 128] S1x512x128.size inb_S1x512x256_S1x512x128_0_0_128)))) ![128, 0] S128x512.size (k0_pay6 (View.ld (Val := Elt F) ov (Rect.unit (s := S128x512) ![0, 0] S128x512.size inb_S128x512_S128x512_0_0)))) ![256, 0] S16x512.size (k0_pay8 (k0_pay7 (F := F)))))) ∗ pt c arg10 (harg10.unread (VecWindow.put (α := Elt F .bf16) (k0_pay2 (F := F)) (k0_off2 i) S128x256.size (k0_pay9 i (View.ld (Val := Elt F) ks (Rect.unit (s := S8192x256) (k0_off1 i) S128x128.size (k0_off1_inb i)))))) ∗ pt c arg11 (harg11.unread (VecWindow.put (α := Elt F .bf16) (k0_pay3 (F := F)) (k0_off4 i) S144x128.size (k0_pay10 (View.ld (Val := Elt F) ks (Rect.unit (s := S8192x256) (k0_off3 i) S128x128.size (k0_off3_inb i)))))) ∗ pt c arg12 (harg12.unread (VecWindow.put (α := Elt F .bf16) (k0_pay4 (F := F)) (k0_off4 i) S144x128.size (k0_pay11 (View.ld (Val := Elt F) kw (Rect.unit (s := S8192x256) (k0_off3 i) S128x128.size (k0_off3_inb i)))))) ∗ pt c arg13 (harg13.unread (VecWindow.put (α := Elt F .bf16) (VecWindow.put (α := Elt F .bf16) (VecWindow.put (α := Elt F .bf16) lc ![0, 0] S128x512.size (k0_pay5 (View.ld (Val := Elt F) ckv (Rect.unit (s := S1x512x256) ![0, 0, 128] S1x512x128.size inb_S1x512x256_S1x512x128_0_0_128)))) ![128, 0] S128x512.size (k0_pay6 (View.ld (Val := Elt F) ov (Rect.unit (s := S128x512) ![0, 0] S128x512.size inb_S128x512_S128x512_0_0)))) ![256, 0] S16x512.size (k0_pay8 (k0_pay7 (F := F))))))) := by
  rw [cc0_nsa_prompt_eq_skeleton]; unfold cc0_nsa_prompt_skel
  refine step (spec2_first c E i arg2 harg2 arg3 harg3 arg4 harg4 arg5 harg5 arg6 harg6 arg7 harg7 arg8 harg8 arg9 harg9 arg10 harg10 arg11 harg11 arg12 harg12 arg13 harg13 q qr g ckv ks kw ov o kx vts vtw lc hc) ?_
  generalize hkx : (VecWindow.put (α := Elt F .bf16) (k0_pay2 (F := F)) (k0_off2 i) S128x256.size (k0_pay9 i (View.ld (Val := Elt F) ks (Rect.unit (s := S8192x256) (k0_off1 i) S128x128.size (k0_off1_inb i))))) = kx'
  generalize hvts : (VecWindow.put (α := Elt F .bf16) (k0_pay3 (F := F)) (k0_off4 i) S144x128.size (k0_pay10 (View.ld (Val := Elt F) ks (Rect.unit (s := S8192x256) (k0_off3 i) S128x128.size (k0_off3_inb i))))) = vts'
  generalize hlc : (VecWindow.put (α := Elt F .bf16) (VecWindow.put (α := Elt F .bf16) (VecWindow.put (α := Elt F .bf16) lc ![0, 0] S128x512.size (k0_pay5 (View.ld (Val := Elt F) ckv (Rect.unit (s := S1x512x256) ![0, 0, 128] S1x512x128.size inb_S1x512x256_S1x512x128_0_0_128)))) ![128, 0] S128x512.size (k0_pay6 (View.ld (Val := Elt F) ov (Rect.unit (s := S128x512) ![0, 0] S128x512.size inb_S128x512_S128x512_0_0)))) ![256, 0] S16x512.size (k0_pay8 (k0_pay7 (F := F)))) = lc'
  refine step (spec3 c E i arg2 harg2 arg3 harg3 arg4 harg4 arg5 harg5 arg6 harg6 arg7 harg7 arg8 harg8 arg9 harg9 arg10 harg10 arg11 harg11 arg12 harg12 arg13 harg13 q qr g ckv ks kw ov o kx' vts' (k0_pay4 (F := F)) lc' (v1F i)) ?_
  generalize hvtw : (VecWindow.put (α := Elt F .bf16) (k0_pay4 (F := F)) (k0_off4 i) S144x128.size (k0_pay11 (View.ld (Val := Elt F) kw (Rect.unit (s := S8192x256) (k0_off3 i) S128x128.size (k0_off3_inb i))))) = vtw'
  rcases h3 : r3 i q (v1F i) with ⟨v62, v64, v66, v68, v70, v72, v74, v76, v78⟩
  refine step (spec4 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' v62 v64 v66 v68 v70 v72 v74 v76 v78) ?_
  rcases h4 : r4 i qr v62 v64 v66 v68 v70 v72 v74 v76 v78 with ⟨v82, v102, v114⟩
  refine step (spec5 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' (v1F i) v62 v82 v102 v114) ?_
  rcases h5 : r5 i ckv kw lc' (v1F i) v62 v82 v102 v114 with ⟨v139, v142, v145, v148, v151, v155, v156, v158⟩
  refine step (spec6 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' v62 v142 v145 v148 v151 v155 v156 v158) ?_
  rcases h6 : r6 i vtw' v62 v142 v145 v148 v151 v155 v156 v158 with ⟨v188, v207, v208, v209, c6_i32_64⟩
  refine step (spec7 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' v207 v208 v209 c6_i32_64) ?_
  rcases h7 : r7 i v207 v208 v209 c6_i32_64 with ⟨v248, v250, v254⟩
  refine step (spec8 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' v209 v248 v250 v254) ?_
  rcases h8 : r8 i v209 v248 v250 v254 with ⟨v290, v292, v298⟩
  refine step (spec9 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' v209 v290 v292 v298) ?_
  rcases h9 : r9 i v209 v290 v292 v298 with ⟨v332, v334, v342⟩
  refine step (spec10 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' v209 v332 v334 v342) ?_
  rcases h10 : r10 i v209 v332 v334 v342 with ⟨v374, v376, v386, cst_126⟩
  refine step (spec11 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' v209 v374 v376 v386 cst_126) ?_
  rcases h11 : r11 i v209 v374 v376 v386 cst_126 with ⟨v418, v428, v430, cst_142⟩
  refine step (spec12 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' (v1F i) v102 v209 v418 v428 v430 cst_142) ?_
  rcases h12 : r12 i (v1F i) v102 v209 v418 v428 v430 cst_142 with ⟨v466, c2048_i32, v467, v472, v474, v476⟩
  refine step (spec13 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' (v1F i) v466 c2048_i32 v467 v472 v474 v476) ?_
  rcases h13 : r13 i kx' vts' (v1F i) v466 c2048_i32 v467 v472 v474 v476 with ⟨v483, v509_0, v509_1, c2_i32_170, v510, v515, v517⟩
  refine step (spec14 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' (v1F i) v466 v483 v509_0 v509_1 c2_i32_170 v510 v515 v517) ?_
  rcases h14 : r14 i kx' vts' (v1F i) v466 v483 v509_0 v509_1 c2_i32_170 v510 v515 v517 with ⟨v559_0, v559_1⟩
  refine step (spec15 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' (v1F i) v466 v559_0 v559_1) ?_
  rcases h15 : r15 i kx' vts' (v1F i) v466 v559_0 v559_1 with ⟨v601_0, v601_1⟩
  refine step (spec16 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' (v1F i) v62 v466 v601_0 v601_1) ?_
  rcases h16 : r16 i kx' vts' (v1F i) v62 v466 v601_0 v601_1 with ⟨v646, v647⟩
  refine step (spec17 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' v139 v188 v646 v647) ?_
  rcases h17 : r17 i g v139 v188 v646 v647 with ⟨v652, v654, v668, v682, v696, v700, v704⟩
  refine step (spec18 c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' v139 v188 v652 v654 v700 v704) ?_
  rcases h18 : r18 i v139 v188 v652 v654 v700 v704 with ⟨v710, v724, v738, v752, v761, v763, v764⟩
  have ho : outF i q qr g ckv kw kx' vts' vtw' lc' = k0_pay1 v668 v682 v696 v710 v724 v738 v752 v761 v763 v764 := by
    simp only [outF, h3, h4, h5, h6, h7, h8, h9, h10, h11, h12, h13, h14, h15, h16, h17, h18]
  rw [ho]
  have hp : VecWindow.put (α := Elt F .f32) o ![0, 0] S128x512.size (k0_pay1 v668 v682 v696 v710 v724 v738 v752 v761 v763 v764) = k0_pay1 v668 v682 v696 v710 v724 v738 v752 v761 v763 v764 :=
    put_full (s := S128x512) o _ _ (by decide)
  have hs := spec_store c E i arg2 harg2 arg3 harg3 arg4 harg4 arg5 harg5 arg6 harg6 arg7 harg7 arg8 harg8 arg9 harg9 arg10 harg10 arg11 harg11 arg12 harg12 arg13 harg13 q qr g ckv ks kw ov o kx' vts' vtw' lc' (k0_pay1 v668 v682 v696 v710 v724 v738 v752 v761 v763 v764)
  rw [hp] at hs
  exact hs

end Cert.KernelIdeal

end
-- ==== Proof.Launch.lean ====
module

public import proofs.«01_k».proof.Proof.Gen.KernelIdeal.Frame
public import proofs.«01_k».proof.Proof.Body
public import Idealize.ShloMosaic.Lib.Claim
public import Idealize.ShloMosaic.Lib.WholeRead

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! The launch: what the scratch buffers hold before each grid point, the body's obligation there, the run and the frame. -/

variable (m : (ℓ : Loc nD τ sig) → Buf (Elt F) ℓ) (ρ : Dev nD → PrngReg)

/-- The key buffer after a point's store, over `kx`. -/
def kxPut (i : grid0.Coords) (ks : Vec F S8192x256 .bf16) (kx : Vec F S8192x256 .bf16) : Vec F S8192x256 .bf16 :=
  (VecWindow.put (α := Elt F .bf16) kx (k0_off2 i) S128x256.size (k0_pay9 i (View.ld (Val := Elt F) ks (Rect.unit (s := S8192x256) (k0_off1 i) S128x128.size (k0_off1_inb i)))))
/-- A value buffer after a point's store, over `vts`. -/
def vtsPut (i : grid0.Coords) (ks : Vec F S8192x256 .bf16) (vts : Vec F S144x8192 .bf16) : Vec F S144x8192 .bf16 :=
  (VecWindow.put (α := Elt F .bf16) vts (k0_off4 i) S144x128.size (k0_pay10 (View.ld (Val := Elt F) ks (Rect.unit (s := S8192x256) (k0_off3 i) S128x128.size (k0_off3_inb i)))))
/-- The window-value buffer after a point's store, over `vtw`. -/
def vtwPut (i : grid0.Coords) (kw : Vec F S8192x256 .bf16) (vtw : Vec F S144x8192 .bf16) : Vec F S144x8192 .bf16 :=
  (VecWindow.put (α := Elt F .bf16) vtw (k0_off4 i) S144x128.size (k0_pay11 (View.ld (Val := Elt F) kw (Rect.unit (s := S8192x256) (k0_off3 i) S128x128.size (k0_off3_inb i)))))
/-- The buffer of the compressed branch as a batch row's first point fills it, over `lc`. -/
def lcPut (ckv : Vec F S1x512x256 .bf16) (ov : Vec F S128x512 .bf16) (lc : Vec F S272x512 .bf16) : Vec F S272x512 .bf16 :=
  (VecWindow.put (α := Elt F .bf16) (VecWindow.put (α := Elt F .bf16) (VecWindow.put (α := Elt F .bf16) lc ![0, 0] S128x512.size (k0_pay5 (View.ld (Val := Elt F) ckv (Rect.unit (s := S1x512x256) ![0, 0, 128] S1x512x128.size inb_S1x512x256_S1x512x128_0_0_128)))) ![128, 0] S128x512.size (k0_pay6 (View.ld (Val := Elt F) ov (Rect.unit (s := S128x512) ![0, 0] S128x512.size inb_S128x512_S128x512_0_0)))) ![256, 0] S16x512.size (k0_pay8 (k0_pay7 (F := F))))

/-- The filling covers the buffer, so what was there before does not matter. -/
theorem lcPut_any (ckv : Vec F S1x512x256 .bf16) (ov : Vec F S128x512 .bf16) (lc lc' : Vec F S272x512 .bf16) : lcPut ckv ov lc = lcPut ckv ov lc' := by
  funext y
  unfold lcPut VecWindow.put
  by_cases h3 : ∀ a, ![256, 0] a ≤ (y a).val ∧ (y a).val < ![256, 0] a + S16x512.size a
  · rw [dif_pos h3, dif_pos h3]
  · rw [dif_neg h3, dif_neg h3]
    by_cases h2 : ∀ a, ![128, 0] a ≤ (y a).val ∧ (y a).val < ![128, 0] a + S128x512.size a
    · rw [dif_pos h2, dif_pos h2]
    · rw [dif_neg h2, dif_neg h2]
      have h1 : ∀ a, ![0, 0] a ≤ (y a).val ∧ (y a).val < ![0, 0] a + S128x512.size a := by
        have e0 : (y 0).val < 272 := (y 0).isLt
        have e1 : (y 1).val < 512 := (y 1).isLt
        have f3 : ¬ (256 ≤ (y 0).val) := fun h => h3 fun a => by
          fin_cases a
          · exact ⟨h, e0⟩
          · exact ⟨Nat.zero_le _, e1⟩
        have f2 : ¬ (128 ≤ (y 0).val) := fun h => h2 fun a => by
          fin_cases a
          · exact ⟨h, lt_of_not_ge f3⟩
          · exact ⟨Nat.zero_le _, e1⟩
        intro a
        fin_cases a
        · exact ⟨Nat.zero_le _, lt_of_not_ge f2⟩
        · exact ⟨Nat.zero_le _, e1⟩
      rw [dif_pos h1, dif_pos h1]

/-- What the four scratch buffers hold. -/
structure Scratch (F : FTy → Type) where
  kx : Vec F S8192x256 .bf16
  vts : Vec F S144x8192 .bf16
  vtw : Vec F S144x8192 .bf16
  lc : Vec F S272x512 .bf16

/-- Zero words everywhere: what a batch row's first point fills three of the buffers with. -/
def lc0 : Vec F S272x512 .bf16 := fun _ => Scalar.ofBits .bf16 0x0000#16

/-- The scratch buffers after point `t`, from what they held before it. -/
def next (c : Dev nD) (t : Fin cfg0.N) (s : Scratch F) : Scratch F :=
  if isFirst (grid0.coords t) then
    ⟨kxPut (grid0.coords t) (iblk m c 4 t) (k0_pay2 (F := F)), vtsPut (grid0.coords t) (iblk m c 4 t) (k0_pay3 (F := F)),
     vtwPut (grid0.coords t) (iblk m c 5 t) (k0_pay4 (F := F)), lcPut (iblk m c 3 t) (iblk m c 6 t) lc0⟩
  else ⟨kxPut (grid0.coords t) (iblk m c 4 t) s.kx, vtsPut (grid0.coords t) (iblk m c 4 t) s.vts, vtwPut (grid0.coords t) (iblk m c 5 t) s.vtw, s.lc⟩

/-- The scratch buffers before point `n` (before the first, anything: taken to be zero words). -/
def scr (c : Dev nD) (n : ℕ) : Scratch F :=
  Nat.rec ⟨k0_pay2 (F := F), k0_pay3 (F := F), k0_pay4 (F := F), lc0⟩ (fun n s => if h : n < cfg0.N then next m c ⟨n, h⟩ s else s) n

theorem scr_succ (c : Dev nD) (t : Fin cfg0.N) : scr m c (t.val + 1) = next m c t (scr m c t.val) :=
  (dif_pos t.isLt : (if h : t.val < cfg0.N then next m c ⟨t.val, h⟩ (scr m c t.val) else scr m c t.val) = _)

attribute [irreducible] scr

/-- The output block point `t` leaves, from the scratch buffers after its stores. -/
def outAt (c : Dev nD) (t : Fin cfg0.N) : Vec F S128x512 .f32 :=
  outF (grid0.coords t) (iblk m c 0 t) (iblk m c 1 t) (iblk m c 2 t) (iblk m c 3 t) (iblk m c 5 t)
    (scr m c (t.val + 1)).kx (scr m c (t.val + 1)).vts (scr m c (t.val + 1)).vtw (scr m c (t.val + 1)).lc

/-- The scratch buffers and the generator register between two points: before the first anything, then what `scr` says. -/
def inv (c : Dev nD) (n : ℕ) : sProp 𝕄 :=
  iprop(∃ s : Scratch F, ⌜n ≠ 0 → s = scr m c n⌝
    ∗ pt c (Memref.whole cc0_scratch0) ((Memref.isWhole_whole cc0_scratch0).unread s.kx) ∗ pt c (Memref.whole cc0_scratch1) ((Memref.isWhole_whole cc0_scratch1).unread s.vts)
    ∗ pt c (Memref.whole cc0_scratch2) ((Memref.isWhole_whole cc0_scratch2).unread s.vtw) ∗ pt c (Memref.whole cc0_scratch3) ((Memref.isWhole_whole cc0_scratch3).unread s.lc)
    ∗ ∃ r, prngReg c r)

/-- A whole buffer owned at `X` is held at the contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns
  rw [h.set_eq_univ]
  iintro ⟨%f, %hf, H⟩
  obtain rfl := h.eq_unread hf
  iexact H

/-- A buffer held at the contents that read `X` is owned at `X`. -/
theorem pt_owns (c : Dev nD) {sp : Space} {S : Shape} {e : EltTy} (M : Memref sig .tc sp S e) (h : M.IsWhole) (X : S.Idx → Elt F e) :
    pt c M (h.unread X) ⊢ (owns (c : Thread nD τ) M fullShare X : sProp 𝕄) := by
  unfold owns
  rw [h.set_eq_univ]
  iintro H
  iexists _; isplitr; · ipureintro; exact h.read_unread X
  iexact H

/-- The proof data: the arrays at the region's entry, what each window's buffer holds after each point, the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := inv m c t.val
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- `body_first` with the stores named. -/
theorem body_first_put (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (hc : isFirst i) :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (cc0_nsa_prompt i arg2 harg2 arg3 harg3 arg4 harg4 arg5 harg5 arg6 harg6 arg7 harg7 arg8 harg8 arg9 harg9 arg10 harg10 arg11 harg11 arg12 harg12 arg13 harg13)
          (fun _ => iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread (outF i q qr g ckv kw (kxPut i ks (k0_pay2 (F := F))) (vtsPut i ks (k0_pay3 (F := F))) (vtwPut i kw (k0_pay4 (F := F))) (lcPut ckv ov lc))) ∗ pt c arg10 (harg10.unread (kxPut i ks (k0_pay2 (F := F)))) ∗ pt c arg11 (harg11.unread (vtsPut i ks (k0_pay3 (F := F)))) ∗ pt c arg12 (harg12.unread (vtwPut i kw (k0_pay4 (F := F)))) ∗ pt c arg13 (harg13.unread (lcPut ckv ov lc)))) := by
  unfold kxPut vtsPut vtwPut lcPut
  exact body_first c E i arg2 harg2 arg3 harg3 arg4 harg4 arg5 harg5 arg6 harg6 arg7 harg7 arg8 harg8 arg9 harg9 arg10 harg10 arg11 harg11 arg12 harg12 arg13 harg13 q qr g ckv ks kw ov o kx vts vtw lc hc

/-- `body_next` with the stores named. -/
theorem body_next_put (c : Dev nD) (E : Set ℕ) (i : grid0.Coords) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S1x512x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x512 .f32) (harg9 : arg9.IsWhole) (arg10 : Memref sig .tc .vmem S8192x256 .bf16) (harg10 : arg10.IsWhole) (arg11 : Memref sig .tc .vmem S144x8192 .bf16) (harg11 : arg11.IsWhole) (arg12 : Memref sig .tc .vmem S144x8192 .bf16) (harg12 : arg12.IsWhole) (arg13 : Memref sig .tc .vmem S272x512 .bf16) (harg13 : arg13.IsWhole)
    (q : Vec F S128x1024 .f32) (qr : Vec F S128x1024 .f32) (g : Vec F S128x128 .f32) (ckv : Vec F S1x512x256 .bf16) (ks : Vec F S8192x256 .bf16) (kw : Vec F S8192x256 .bf16) (ov : Vec F S128x512 .bf16) (o : Vec F S128x512 .f32) (kx : Vec F S8192x256 .bf16) (vts : Vec F S144x8192 .bf16) (vtw : Vec F S144x8192 .bf16) (lc : Vec F S272x512 .bf16) (hc : ¬ isFirst i) :
    (iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread o) ∗ pt c arg10 (harg10.unread kx) ∗ pt c arg11 (harg11.unread vts) ∗ pt c arg12 (harg12.unread vtw) ∗ pt c arg13 (harg13.unread lc)) : sProp 𝕄)
      ⊢ wp frame (wpE (defs₀ (F := F)) Variants.none (c : Thread nD τ) none) E (cc0_nsa_prompt i arg2 harg2 arg3 harg3 arg4 harg4 arg5 harg5 arg6 harg6 arg7 harg7 arg8 harg8 arg9 harg9 arg10 harg10 arg11 harg11 arg12 harg12 arg13 harg13)
          (fun _ => iprop(pt c arg2 (harg2.unread q) ∗ pt c arg3 (harg3.unread qr) ∗ pt c arg4 (harg4.unread g) ∗ pt c arg5 (harg5.unread ckv) ∗ pt c arg6 (harg6.unread ks) ∗ pt c arg7 (harg7.unread kw) ∗ pt c arg8 (harg8.unread ov) ∗ pt c arg9 (harg9.unread (outF i q qr g ckv kw (kxPut i ks kx) (vtsPut i ks vts) (vtwPut i kw vtw) lc)) ∗ pt c arg10 (harg10.unread (kxPut i ks kx)) ∗ pt c arg11 (harg11.unread (vtsPut i ks vts)) ∗ pt c arg12 (harg12.unread (vtwPut i kw vtw)) ∗ pt c arg13 (harg13.unread lc))) := by
  unfold kxPut vtsPut vtwPut
  exact body_next c E i arg2 harg2 arg3 harg3 arg4 harg4 arg5 harg5 arg6 harg6 arg7 harg7 arg8 harg8 arg9 harg9 arg10 harg10 arg11 harg11 arg12 harg12 arg13 harg13 q qr g ckv ks kw ov o kx vts vtw lc hc

set_option maxHeartbeats 2000000 in
/-- The body at point `t` over the eight staging buffers and the scratch. -/
theorem body_at (c : Dev nD) (t : Fin cfg0.N) (o : Vec F S128x512 .f32) (s : Scratch F) (hs : t.val ≠ 0 → s = scr m c t.val) :
    (iprop(pt c (st0_0 t) ((hstage0_0 ((cfg0.slots t 0).cast nbuf0_0)).unread (iblk m c 0 t)) ∗ pt c (st0_1 t) ((hstage0_1 ((cfg0.slots t 1).cast nbuf0_1)).unread (iblk m c 1 t)) ∗ pt c (st0_2 t) ((hstage0_2 ((cfg0.slots t 2).cast nbuf0_2)).unread (iblk m c 2 t)) ∗ pt c (st0_3 t) ((hstage0_3 ((cfg0.slots t 3).cast nbuf0_3)).unread (iblk m c 3 t)) ∗ pt c (st0_4 t) ((hstage0_4 ((cfg0.slots t 4).cast nbuf0_4)).unread (iblk m c 4 t)) ∗ pt c (st0_5 t) ((hstage0_5 ((cfg0.slots t 5).cast nbuf0_5)).unread (iblk m c 5 t)) ∗ pt c (st0_6 t) ((hstage0_6 ((cfg0.slots t 6).cast nbuf0_6)).unread (iblk m c 6 t)) ∗ pt c (st0_7 t) ((hstage0_7 ((cfg0.slots t 7).cast nbuf0_7)).unread o) ∗ pt c (Memref.whole cc0_scratch0) ((Memref.isWhole_whole cc0_scratch0).unread s.kx) ∗ pt c (Memref.whole cc0_scratch1) ((Memref.isWhole_whole cc0_scratch1).unread s.vts) ∗ pt c (Memref.whole cc0_scratch2) ((Memref.isWhole_whole cc0_scratch2).unread s.vtw) ∗ pt c (Memref.whole cc0_scratch3) ((Memref.isWhole_whole cc0_scratch3).unread s.lc)) : sProp 𝕄)
      ⊢ wp frame (wpE (defs₀ (F := F)) Variants.none (c : Thread nD τ) none) Set.univ (bodyAt0 t)
          (fun _ => iprop(pt c (st0_0 t) ((hstage0_0 ((cfg0.slots t 0).cast nbuf0_0)).unread (iblk m c 0 t)) ∗ pt c (st0_1 t) ((hstage0_1 ((cfg0.slots t 1).cast nbuf0_1)).unread (iblk m c 1 t)) ∗ pt c (st0_2 t) ((hstage0_2 ((cfg0.slots t 2).cast nbuf0_2)).unread (iblk m c 2 t)) ∗ pt c (st0_3 t) ((hstage0_3 ((cfg0.slots t 3).cast nbuf0_3)).unread (iblk m c 3 t)) ∗ pt c (st0_4 t) ((hstage0_4 ((cfg0.slots t 4).cast nbuf0_4)).unread (iblk m c 4 t)) ∗ pt c (st0_5 t) ((hstage0_5 ((cfg0.slots t 5).cast nbuf0_5)).unread (iblk m c 5 t)) ∗ pt c (st0_6 t) ((hstage0_6 ((cfg0.slots t 6).cast nbuf0_6)).unread (iblk m c 6 t)) ∗ pt c (st0_7 t) ((hstage0_7 ((cfg0.slots t 7).cast nbuf0_7)).unread (outAt m c t)) ∗ pt c (Memref.whole cc0_scratch0) ((Memref.isWhole_whole cc0_scratch0).unread (scr m c (t.val + 1)).kx) ∗ pt c (Memref.whole cc0_scratch1) ((Memref.isWhole_whole cc0_scratch1).unread (scr m c (t.val + 1)).vts) ∗ pt c (Memref.whole cc0_scratch2) ((Memref.isWhole_whole cc0_scratch2).unread (scr m c (t.val + 1)).vtw) ∗ pt c (Memref.whole cc0_scratch3) ((Memref.isWhole_whole cc0_scratch3).unread (scr m c (t.val + 1)).lc))) := by
  unfold outAt bodyAt0
  by_cases hc : isFirst (grid0.coords t)
  · have hn : scr m c (t.val + 1) = ⟨kxPut (grid0.coords t) (iblk m c 4 t) (k0_pay2 (F := F)), vtsPut (grid0.coords t) (iblk m c 4 t) (k0_pay3 (F := F)),
        vtwPut (grid0.coords t) (iblk m c 5 t) (k0_pay4 (F := F)), lcPut (iblk m c 3 t) (iblk m c 6 t) s.lc⟩ := by
      rw [scr_succ]; unfold next; rw [if_pos hc, lcPut_any _ _ lc0 s.lc]
    have e1 : (scr m c (t.val + 1)).kx = kxPut (grid0.coords t) (iblk m c 4 t) (k0_pay2 (F := F)) := by rw [hn]
    have e2 : (scr m c (t.val + 1)).vts = vtsPut (grid0.coords t) (iblk m c 4 t) (k0_pay3 (F := F)) := by rw [hn]
    have e3 : (scr m c (t.val + 1)).vtw = vtwPut (grid0.coords t) (iblk m c 5 t) (k0_pay4 (F := F)) := by rw [hn]
    have e4 : (scr m c (t.val + 1)).lc = lcPut (iblk m c 3 t) (iblk m c 6 t) s.lc := by rw [hn]
    rw [e1, e2, e3, e4]
    exact body_first_put c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) o s.kx s.vts s.vtw s.lc hc
  · have h0 : t.val ≠ 0 := fun h => hc (by
      have ht : t = ⟨0, by rw [show cfg0.N = 128 from N_0]; decide⟩ := Fin.ext h
      rw [ht]; decide +kernel)
    have hs := hs h0
    have hn : scr m c (t.val + 1) = ⟨kxPut (grid0.coords t) (iblk m c 4 t) s.kx, vtsPut (grid0.coords t) (iblk m c 4 t) s.vts,
        vtwPut (grid0.coords t) (iblk m c 5 t) s.vtw, s.lc⟩ := by
      rw [scr_succ, hs]; unfold next; rw [if_neg hc]
    have e1 : (scr m c (t.val + 1)).kx = kxPut (grid0.coords t) (iblk m c 4 t) s.kx := by rw [hn]
    have e2 : (scr m c (t.val + 1)).vts = vtsPut (grid0.coords t) (iblk m c 4 t) s.vts := by rw [hn]
    have e3 : (scr m c (t.val + 1)).vtw = vtwPut (grid0.coords t) (iblk m c 5 t) s.vtw := by rw [hn]
    have e4 : (scr m c (t.val + 1)).lc = s.lc := by rw [hn]
    rw [e1, e2, e3, e4]
    exact body_next_put c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) o s.kx s.vts s.vtw s.lc hc

/-- The body at any point, from what the pipeline hands it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7,
    show (dats m 0 c).Φ t.castSucc = inv m c t.val from rfl, show (dats m 0 c).Φ t.succ = inv m c (t.val + 1) from rfl]
  unfold inv
  iintro ⟨⟨%s, %hs, S0, S1, S2, S3, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave G0 := (owns_pt c (st0_0 t) (hstage0_0 ((cfg0.slots t 0).cast nbuf0_0)) (iblk m c 0 t)) $$ H0
  ihave G1 := (owns_pt c (st0_1 t) (hstage0_1 ((cfg0.slots t 1).cast nbuf0_1)) (iblk m c 1 t)) $$ H1
  ihave G2 := (owns_pt c (st0_2 t) (hstage0_2 ((cfg0.slots t 2).cast nbuf0_2)) (iblk m c 2 t)) $$ H2
  ihave G3 := (owns_pt c (st0_3 t) (hstage0_3 ((cfg0.slots t 3).cast nbuf0_3)) (iblk m c 3 t)) $$ H3
  ihave G4 := (owns_pt c (st0_4 t) (hstage0_4 ((cfg0.slots t 4).cast nbuf0_4)) (iblk m c 4 t)) $$ H4
  ihave G5 := (owns_pt c (st0_5 t) (hstage0_5 ((cfg0.slots t 5).cast nbuf0_5)) (iblk m c 5 t)) $$ H5
  ihave G6 := (owns_pt c (st0_6 t) (hstage0_6 ((cfg0.slots t 6).cast nbuf0_6)) (iblk m c 6 t)) $$ H6
  ihave G7 := (owns_pt c (st0_7 t) (hstage0_7 ((cfg0.slots t 7).cast nbuf0_7)) ((dats m 0 c).before 7 t d7)) $$ H7
  iapply (wp_wand_r frame (wpE (defs₀ (F := F)) Variants.none (c : Thread nD τ) none) Set.univ)
  isplitl [G0 G1 G2 G3 G4 G5 G6 G7 S0 S1 S2 S3]
  · iapply (body_at m c t ((dats m 0 c).before 7 t d7) s hs)
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [S0]; · iexact S0
    isplitl [S1]; · iexact S1
    isplitl [S2]; · iexact S2
    iexact S3
  iintro %r ⟨G0, G1, G2, G3, G4, G5, G6, G7, S0, S1, S2, S3⟩
  isplitl [S0 S1 S2 S3 HR]
  · iexists (scr m c (t.val + 1)); isplitr; · ipureintro; exact fun _ => rfl
    isplitl [S0]; · iexact S0
    isplitl [S1]; · iexact S1
    isplitl [S2]; · iexact S2
    isplitl [S3]; · iexact S3
    iexact HR
  isplitl [Ho]; · iexact Ho
  isplitl [G0]; · iapply (pt_owns c (st0_0 t) (hstage0_0 ((cfg0.slots t 0).cast nbuf0_0)) (iblk m c 0 t)); iexact G0
  isplitl [G1]; · iapply (pt_owns c (st0_1 t) (hstage0_1 ((cfg0.slots t 1).cast nbuf0_1)) (iblk m c 1 t)); iexact G1
  isplitl [G2]; · iapply (pt_owns c (st0_2 t) (hstage0_2 ((cfg0.slots t 2).cast nbuf0_2)) (iblk m c 2 t)); iexact G2
  isplitl [G3]; · iapply (pt_owns c (st0_3 t) (hstage0_3 ((cfg0.slots t 3).cast nbuf0_3)) (iblk m c 3 t)); iexact G3
  isplitl [G4]; · iapply (pt_owns c (st0_4 t) (hstage0_4 ((cfg0.slots t 4).cast nbuf0_4)) (iblk m c 4 t)); iexact G4
  isplitl [G5]; · iapply (pt_owns c (st0_5 t) (hstage0_5 ((cfg0.slots t 5).cast nbuf0_5)) (iblk m c 5 t)); iexact G5
  isplitl [G6]; · iapply (pt_owns c (st0_6 t) (hstage0_6 ((cfg0.slots t 6).cast nbuf0_6)) (iblk m c 6 t)); iexact G6
  iapply (pt_owns c (st0_7 t) (hstage0_7 ((cfg0.slots t 7).cast nbuf0_7)) (outAt m c t)); iexact G7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- A buffer at any contents is held at the contents that read what they read. -/
theorem raw_pt (c : Dev nD) (b : Ref sig .tc) (f : Buf (Elt F) ((c : Thread nD τ).loc b)) :
    (((c : Thread nD τ).loc b) ↦{fullShare} f : sProp 𝕄)
      ⊢ pt c (Memref.whole b) ((Memref.isWhole_whole b).unread ((Memref.whole b).view.read (Elt F) f)) := by
  rw [Memref.IsWhole.unread_read]

/-- And back. -/
theorem pt_raw (c : Dev nD) (b : Ref sig .tc) (f : Buf (Elt F) ((c : Thread nD τ).loc b)) :
    (pt c (Memref.whole b) f : sProp 𝕄) ⊢ (((c : Thread nD τ).loc b) ↦{fullShare} f) := by
  iintro H; iexact H

/-- What the region is entered with yields the invariant before the first point. -/
theorem inv_in (c : Dev nD) : Pipeline.ΦA spec0 c ⊢ inv m c 0 := by
  unfold Pipeline.ΦA inv
  rw [scopedRest0_eq c]
  iintro ⟨⟨⟨%f0, H0⟩, ⟨%f1, H1⟩, ⟨%f2, H2⟩, ⟨%f3, H3⟩⟩, HR⟩
  iexists (⟨(Memref.whole cc0_scratch0).view.read (Elt F) f0, (Memref.whole cc0_scratch1).view.read (Elt F) f1, (Memref.whole cc0_scratch2).view.read (Elt F) f2, (Memref.whole cc0_scratch3).view.read (Elt F) f3⟩ : Scratch F)
  isplitr; · ipureintro; exact fun h => absurd rfl h
  isplitl [H0]; · iapply (raw_pt c cc0_scratch0 f0); iexact H0
  isplitl [H1]; · iapply (raw_pt c cc0_scratch1 f1); iexact H1
  isplitl [H2]; · iapply (raw_pt c cc0_scratch2 f2); iexact H2
  isplitl [H3]; · iapply (raw_pt c cc0_scratch3 f3); iexact H3
  iexact HR

/-- The invariant after the last point gives back what the region was entered with. -/
theorem inv_out (c : Dev nD) (n : ℕ) : inv m c n ⊢ Pipeline.ΦA spec0 c := by
  unfold Pipeline.ΦA inv
  rw [scopedRest0_eq c]
  iintro ⟨%s, %hs, H0, H1, H2, H3, HR⟩
  isplitl [H0 H1 H2 H3]
  · isplitl [H0]; · iexists _; iapply (pt_raw c cc0_scratch0 _); iexact H0
    isplitl [H1]; · iexists _; iapply (pt_raw c cc0_scratch1 _); iexact H1
    isplitl [H2]; · iexists _; iapply (pt_raw c cc0_scratch2 _); iexact H2
    iexists _; iapply (pt_raw c cc0_scratch3 _); iexact H3
  iexact HR

set_option backward.isDefEq.respectTransparency.types false in
/-- The launch: every weakly fair execution ends with the pipeline's arrays at what the proof data say, every other
    unscoped buffer as the region found it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => inv_in m c)
    (hout := fun c => inv_out m c _)

/-- `run_main_quiescent` without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the call ends, its argument arrays unchanged and every semaphore at zero. -/
theorem frame_call : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal

end
-- ==== Proof.FfnValue.lean ====
/- The values of the call that ends the layer: what one row of its output is, as a function of the row of the
   arguments and of the weights, and that the printed reference's result is the same function of every row. -/
module
public import proofs.«01_k».proof.Proof.Gen.FfnIdeal.Value
public import proofs.«01_k».proof.Proof.Gen.FfnReferenceIdeal.Run
public import proofs.«01_k».proof.Defs
public import Idealize.ShloMosaic.Lib.Pointwise
public import Idealize.ShloMosaic.Lib.Pipeline.ValueKit
@[expose] public section
set_option maxRecDepth 16384
noncomputable section
namespace Cert.FfnIdeal.Val
open Idealize.ShloMosaic Idealize.ShloMosaic.TcCoe Idealize.SL.Sem Cert.FfnIdeal Cert.FfnIdeal.Gen

/-- A row over its root mean square (1024 entries, the small constant under the root), times the gain. -/
def rms (x g : Fin 1024 → EReal) (c : Fin 1024) : EReal :=
  x c * Ideal.rsqrt (Ideal.div (∑ k, x k * x k) (Ideal.ofBits FTy.f32 1149239296#32) + Ideal.ofBits FTy.f32 897988541#32) * g c

/-- The residual row after the memory branch: the row plus the branch's output through its matrix. -/
def res2 (x : Fin 1024 → EReal) (o : Fin 512 → EReal) (wmo : Fin 512 → Fin 1024 → EReal) (c : Fin 1024) : EReal :=
  x c + ∑ k, o k * wmo k c

/-- One hidden unit of the feed-forward step before squaring. -/
def hid {n : Nat} (z : Fin 1024 → EReal) (wup : Fin 1024 → Fin n → EReal) (j : Fin n) : EReal :=
  max (∑ k, z k * wup k j) 0

/-- The residual row after the feed-forward step. -/
def res3 (x z : Fin 1024 → EReal) (wup : Fin 1024 → Fin 4096 → EReal) (wdn : Fin 4096 → Fin 1024 → EReal) (c : Fin 1024) : EReal :=
  x c + ∑ j, hid z wup j * hid z wup j * wdn j c

/-- One row of the call's result. -/
def row (x : Fin 1024 → EReal) (o : Fin 512 → EReal) (wmo : Fin 512 → Fin 1024 → EReal) (g3 : Fin 1024 → EReal)
    (wup : Fin 1024 → Fin 4096 → EReal) (wdn : Fin 4096 → Fin 1024 → EReal) (gf : Fin 1024 → EReal) : Fin 1024 → EReal :=
  rms (res3 (res2 x o wmo) (rms (res2 x o wmo) g3) wup wdn) gf

/-- The whole result: every row of it is `row` of that row of the arguments. -/
def out (x : Vec Ideal S16384x1024 .f32) (o : Vec Ideal S16384x512 .bf16) (wmo : Vec Ideal S512x1024 .f32)
    (g3 : Vec Ideal S1024 .f32) (wup : Vec Ideal S1024x4096 .f32) (wdn : Vec Ideal S4096x1024 .f32)
    (gf : Vec Ideal S1024 .f32) : Vec Ideal S16384x1024 .f32 := fun i =>
  row (fun k => x (ix2 (i 0) k)) (fun k => o (ix2 (i 0) k)) (fun k c => wmo (ix2 k c)) (fun k => g3 (ix1 k))
    (fun k j => wup (ix2 k j)) (fun j c => wdn (ix2 j c)) (fun k => gf (ix1 k)) (i 1)

/-- The reference's result is `out` of its arguments. -/
theorem ref_out (m : (ℓ : Loc Cert.FfnReferenceIdeal.nD Cert.FfnReferenceIdeal.τ Cert.FfnReferenceIdeal.sig) → Buf (Elt Ideal) ℓ)
    (d : Dev Cert.FfnReferenceIdeal.nD) :
    Cert.FfnReferenceIdeal.Value.res_main_v33 (F := Ideal) m d
      = out (m ((d.tc : Thread _ Cert.FfnReferenceIdeal.τ).loc Cert.FfnReferenceIdeal.main_arg0))
          (m ((d.tc : Thread _ Cert.FfnReferenceIdeal.τ).loc Cert.FfnReferenceIdeal.main_arg1))
          (m ((d.tc : Thread _ Cert.FfnReferenceIdeal.τ).loc Cert.FfnReferenceIdeal.main_arg2))
          (m ((d.tc : Thread _ Cert.FfnReferenceIdeal.τ).loc Cert.FfnReferenceIdeal.main_arg3))
          (m ((d.tc : Thread _ Cert.FfnReferenceIdeal.τ).loc Cert.FfnReferenceIdeal.main_arg4))
          (m ((d.tc : Thread _ Cert.FfnReferenceIdeal.τ).loc Cert.FfnReferenceIdeal.main_arg5))
          (m ((d.tc : Thread _ Cert.FfnReferenceIdeal.τ).loc Cert.FfnReferenceIdeal.main_arg6)) := by
  funext i
  obtain ⟨r, c, rfl⟩ : ∃ (r : Fin 16384) (c : Fin 1024), i = ix2 r c := ⟨i 0, i 1, eq_ix2 i⟩
  unfold Cert.FfnReferenceIdeal.Value.res_main_v33
  pointwise []
  rfl

/-- Reading the first payload: the residual row of the block's row. -/
theorem pay2_row (v0 : Vec Ideal S512x1024 .f32) (v1 : Vec Ideal S512x512 .bf16) (v2 : Vec Ideal S512x1024 .bf16) (r : Fin 512) (c : Fin 1024) :
    k0_pay2 v0 v1 v2 (ix2 r c) = res2 (fun k => v0 (ix2 r k)) (fun k => v1 (ix2 r k)) (fun k c => v2 (ix2 k c)) c := by
  pointwise [k0_pay2]
  rfl

/-- Reading the normalised rows. -/
theorem pay3_row (v0 : Vec Ideal S512x1024 .f32) (v1 : Vec Ideal S512x512 .bf16) (v2 : Vec Ideal S512x1024 .bf16) (v6 : Vec Ideal S1x1024 .f32) (r : Fin 512) (c : Fin 1024) :
    k0_pay3 v0 v1 v2 v6 (ix2 r c) = rms (fun k => k0_pay2 v0 v1 v2 (ix2 r k)) (fun k => v6 (ix2 0 k)) c := by
  unfold k0_pay3
  generalize k0_pay2 v0 v1 v2 = x
  pointwise []
  rfl

/-- The share of one quarter of the hidden units in the output. -/
def part (z : Fin 1024 → EReal) (wup : Fin 1024 → Fin 4096 → EReal) (wdn : Fin 4096 → Fin 1024 → EReal) (c : Fin 1024)
    (q : Nat) (hq : q + 1024 ≤ 4096) : EReal :=
  ∑ j : Fin 1024, hid z wup ⟨q + j, by omega⟩ * hid z wup ⟨q + j, by omega⟩ * wdn ⟨q + j, by omega⟩ c

/-- The four quarters together are the whole feed-forward sum. -/
theorem res3_parts (x z : Fin 1024 → EReal) (wup : Fin 1024 → Fin 4096 → EReal) (wdn : Fin 4096 → Fin 1024 → EReal) (c : Fin 1024) :
    res3 x z wup wdn c = x c + part z wup wdn c 0 (by omega) + part z wup wdn c 1024 (by omega)
      + part z wup wdn c 2048 (by omega) + part z wup wdn c 3072 (by omega) := by
  unfold res3 part
  rw [Fin.sum_univ_tiles 4 1024 (by decide : 4 * 1024 = 4096), Fin.sum_univ_four]
  simp only [add_assoc]
  rfl

/-- Reading the accumulator after all four quarters. -/
theorem pay7_row (v0 : Vec Ideal S512x1024 .f32) (v1 : Vec Ideal S512x512 .bf16) (v2 : Vec Ideal S512x1024 .bf16) (v6 : Vec Ideal S1x1024 .f32)
    (x4 : Vec Ideal S1024x4096 .bf16) (x5 : Vec Ideal S4096x1024 .bf16) (r : Fin 512) (c : Fin 1024) :
    k0_pay7 (k0_pay3 v0 v1 v2 v6) (k0_pay4 v0 v1 v2 v6 (View.ld x4 r0_3) (View.ld x5 r0_4)) (k0_pay5 v0 v1 v2 v6 (View.ld x4 r0_5)) k0_pay6
        (View.ld x5 r0_6) (View.ld x4 r0_7) (View.ld x5 r0_8) (View.ld x4 r0_9) (View.ld x5 r0_10) (ix2 r c)
      = res3 (fun k => k0_pay2 v0 v1 v2 (ix2 r k)) (fun k => k0_pay3 v0 v1 v2 v6 (ix2 r k))
          (fun k j => x4 (ix2 k j)) (fun j c => x5 (ix2 j c)) c := by
  rw [res3_parts]
  unfold k0_pay7 k0_pay4 k0_pay5 k0_pay6
  generalize k0_pay2 v0 v1 v2 = x
  generalize k0_pay3 v0 v1 v2 v6 = z
  pointwise [r0_3, r0_4, r0_5, r0_6, r0_7, r0_8, r0_9, r0_10]
  simp only [part, hid, Nat.zero_add]

/-- Reading the mean square of the last residual row. -/
theorem pay9_row (z : FVec Ideal S512x1024 .bf16) (a d e : FVec Ideal S512x1024 .f32) (w1 w2 w3 w4 w5 : Vec Ideal S1024x1024 .bf16) (r : Fin 512) (c : Fin 1) :
    k0_pay9 (F := Ideal) z a d e w1 w2 w3 w4 w5 (ix2 r c)
      = Ideal.div (∑ k, k0_pay7 z a d e w1 w2 w3 w4 w5 (ix2 r k) * k0_pay7 z a d e w1 w2 w3 w4 w5 (ix2 r k)) (Ideal.ofBits FTy.f32 1149239296#32)
        + Ideal.ofBits FTy.f32 897988541#32 := by
  unfold k0_pay9
  generalize k0_pay7 z a d e w1 w2 w3 w4 w5 = y
  pointwise []

/-- Reading the stored block. -/
theorem pay1_row (z : FVec Ideal S512x1024 .f32) (a : Vec Ideal S1x1024 .f32) (d : FVec Ideal S512x1 .f32) (r : Fin 512) (c : Fin 1024) :
    k0_pay1 (F := Ideal) z (k0_pay8 a) d (ix2 r c) = z (ix2 r c) * Ideal.rsqrt (d (ix2 r 0)) * a (ix2 0 c) := by
  pointwise [k0_pay1, k0_pay8]

/-- What one grid point stores, at an index: one row of the result from the rows of its blocks. -/
theorem out_row (x0 : Vec Ideal S512x1024 .f32) (x1 : Vec Ideal S512x512 .bf16) (x2 : Vec Ideal S512x1024 .bf16)
    (x3 : Vec Ideal S1x1024 .f32) (x4 : Vec Ideal S1024x4096 .bf16) (x5 : Vec Ideal S4096x1024 .bf16)
    (x6 : Vec Ideal S1x1024 .f32) (r : Fin 512) (c : Fin 1024) :
    out0_7 x0 x1 x2 x3 x4 x5 x6 (ix2 r c)
      = row (fun k => x0 (ix2 r k)) (fun k => x1 (ix2 r k)) (fun k c => x2 (ix2 k c)) (fun k => x3 (ix2 0 k))
          (fun k j => x4 (ix2 k j)) (fun j c => x5 (ix2 j c)) (fun k => x6 (ix2 0 k)) c := by
  unfold_out out0_7
  frame_out
  rw [pay1_row, pay9_row]
  simp only [pay7_row, pay3_row, pay2_row]
  rfl

/-- Where the windows' blocks stand: the row blocks move with the grid point, the weights stay. -/
theorem idx : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] := by decide +kernel

section
variable (m : (ℓ : Loc nD τ sig) → Buf (Elt Ideal) ℓ) (c : Dev nD)

/-- The call's result array. -/
abbrev res : Vec Ideal S16384x1024 .f32 :=
  out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The output array after the run is `out` of the arguments. -/
theorem arr : (dats (F := Ideal) m 0 c).arrAt 7 cfg0.N = res m c := by
  refine (dats m 0 c).arrAt_eq_of_covers 7 _ (by decide +kernel) fun t hf y => ?_
  blk_simp
  rw [after0_7]
  obtain ⟨r, q, rfl⟩ : ∃ (r : Fin 512) (q : Fin 1024), y = ix2 r q := ⟨y 0, y 1, eq_ix2 y⟩
  refine (out_row _ _ _ _ _ _ _ r q).trans ?_
  have hN : t.val < 32 := t.isLt
  have hr : 512 * t.val + r.val < 16384 := by omega
  have he : ((View.whole main_v5).slice (win0_7.rect t)).emb (ix2 r q) = ix2 (n0 := 16384) (n1 := 1024) ⟨512 * t.val + r.val, hr⟩ q := by
    blk_ext [idx t]
  rw [he]
  have e0 : ∀ k : Fin 1024, iblk m c 0 t (ix2 r k) = m ((c.tc : Thread nD τ).loc main_arg0) (ix2 ⟨512 * t.val + r.val, hr⟩ k) := by
    intro k; blk_ext! [iblk, V, idx t]
  have e1 : ∀ k : Fin 512, iblk m c 1 t (ix2 r k) = m ((c.tc : Thread nD τ).loc main_arg1) (ix2 ⟨512 * t.val + r.val, hr⟩ k) := by
    intro k; blk_ext! [iblk, V, idx t]
  have e2 : ∀ (k : Fin 512) (l : Fin 1024), iblk m c 2 t (ix2 k l) = m ((c.tc : Thread nD τ).loc main_arg2) (ix2 k l) := by
    intro k l; blk_ext! [iblk, V, idx t]
  have e3 : ∀ (l : Fin 1024), iblk m c 3 t (ix2 0 l) = m ((c.tc : Thread nD τ).loc main_arg3) (ix1 l) := by
    intro l; blk_ext! [iblk, V, idx t]
  have e4 : ∀ (k : Fin 1024) (l : Fin 4096), iblk m c 4 t (ix2 k l) = m ((c.tc : Thread nD τ).loc main_arg4) (ix2 k l) := by
    intro k l; blk_ext! [iblk, V, idx t]
  have e5 : ∀ (k : Fin 4096) (l : Fin 1024), iblk m c 5 t (ix2 k l) = m ((c.tc : Thread nD τ).loc main_arg5) (ix2 k l) := by
    intro k l; blk_ext! [iblk, V, idx t]
  have e6 : ∀ (l : Fin 1024), iblk m c 6 t (ix2 0 l) = m ((c.tc : Thread nD τ).loc main_arg6) (ix1 l) := by
    intro l; blk_ext! [iblk, V, idx t]
  simp only [res, out, e0, e1, e2, e3, e4, e5, e6]
  rfl
end

/-- At extended reals the call and its reference run and end with equal results, the arguments unchanged. -/
theorem equal : Cert.algebraic_FfnIdeal_FfnReferenceIdeal (hFfnIdeal := Cert.FfnIdeal.Gen.facts)
    (hFfnReferenceIdeal := Cert.FfnReferenceIdeal.Gen.facts) := by
  intro m ρ m' ρ' _ hagree
  refine ⟨fun c => res m c, (θ_run defs _ _).mono (fun _ h c => ⟨(h c).1.trans (arr m c), (h c).2⟩) (Cert.FfnIdeal.Value.run_blocks m ρ), ?_⟩
  refine (θ_run Cert.FfnReferenceIdeal.defs _ _).mono (fun _ h c => ⟨(h c).1.trans ?_, (h c).2⟩)
    (Cert.FfnReferenceIdeal.Value.run (F := Ideal) m' ρ')
  obtain ⟨h0, h1, h2, h3, h4, h5, h6⟩ := hagree c
  rw [ref_out, h0, h1, h2, h3, h4, h5, h6]

/-- The reference's frame: it runs and leaves its arguments as they were. -/
theorem ref_frame : Cert.quiescent_FfnReferenceIdeal (hFfnReferenceIdeal := Cert.FfnReferenceIdeal.Gen.facts) := fun m ρ _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m ρ)
end Cert.FfnIdeal.Val
end
-- ==== Proof.MixValue.lean ====
/- The values of the call that joins the mixers: what one row of its two outputs is, as a function of the row of the
   arguments and of the weights, and that the printed reference's results are the same functions of every row. -/
module
public import proofs.«01_k».proof.Proof.Gen.MixIdeal.Value
public import proofs.«01_k».proof.Proof.Gen.MixReferenceIdeal.Run
public import proofs.«01_k».proof.Defs
public import Idealize.ShloMosaic.Lib.Pointwise
public import Idealize.ShloMosaic.Lib.Pipeline.ValueKit
@[expose] public section
set_option maxRecDepth 16384
noncomputable section
namespace Cert.MixIdeal.Val
open Idealize.ShloMosaic Idealize.ShloMosaic.TcCoe Idealize.SL.Sem Cert.MixIdeal Cert.MixIdeal.Gen

/-- A row over its root mean square (`cnt` holds the number of entries), times the gain. -/
def rms {n : Nat} (cnt : EReal) (x g : Fin n → EReal) (c : Fin n) : EReal :=
  x c * Ideal.rsqrt (Ideal.div (∑ k, x k * x k) cnt + Ideal.ofBits FTy.f32 897988541#32) * g c

/-- The residual row after the mixers: the normalised rows of the attention and of the pool, side by side, through
    the output matrix (its upper half for the attention, its lower half for the pool). -/
def row1 (x : Fin 1024 → EReal) (a p ga gp : Fin 512 → EReal) (w : Fin 1024 → Fin 1024 → EReal) (c : Fin 1024) : EReal :=
  x c + (∑ k : Fin 512, rms (Ideal.ofBits FTy.f32 1140850688#32) a ga k * w ⟨k, by omega⟩ c
    + ∑ k : Fin 512, rms (Ideal.ofBits FTy.f32 1140850688#32) p gp k * w ⟨512 + k, by omega⟩ c)

/-- The row of queries for the memory: the residual row normalised, through its matrix. -/
def row2 (x g : Fin 1024 → EReal) (w : Fin 1024 → Fin 512 → EReal) (c : Fin 512) : EReal :=
  ∑ k, rms (Ideal.ofBits FTy.f32 1149239296#32) x g k * w k c

/-- The whole residual result. -/
def out1 (x : Vec Ideal S16384x1024 .f32) (a p : Vec Ideal S16384x512 .f32) (ga gp : Vec Ideal S512 .f32)
    (w : Vec Ideal S1024x1024 .f32) : Vec Ideal S16384x1024 .f32 := fun i =>
  row1 (fun k => x (ix2 (i 0) k)) (fun k => a (ix2 (i 0) k)) (fun k => p (ix2 (i 0) k)) (fun k => ga (ix1 k)) (fun k => gp (ix1 k))
    (fun k c => w (ix2 k c)) (i 1)

/-- The whole result of queries. -/
def out2 (x : Vec Ideal S16384x1024 .f32) (a p : Vec Ideal S16384x512 .f32) (ga gp : Vec Ideal S512 .f32)
    (w : Vec Ideal S1024x1024 .f32) (g2 : Vec Ideal S1024 .f32) (wq : Vec Ideal S1024x512 .f32) : Vec Ideal S16384x512 .bf16 := fun i =>
  row2 (row1 (fun k => x (ix2 (i 0) k)) (fun k => a (ix2 (i 0) k)) (fun k => p (ix2 (i 0) k)) (fun k => ga (ix1 k)) (fun k => gp (ix1 k))
    (fun k c => w (ix2 k c))) (fun k => g2 (ix1 k)) (fun k c => wq (ix2 k c)) (i 1)

section
variable (m : (ℓ : Loc Cert.MixReferenceIdeal.nD Cert.MixReferenceIdeal.τ Cert.MixReferenceIdeal.sig) → Buf (Elt Ideal) ℓ)
    (d : Dev Cert.MixReferenceIdeal.nD)

/-- The reference's second result is `out2` of its arguments. -/
theorem ref_out2 :
    Cert.MixReferenceIdeal.Value.res_main_v43 (F := Ideal) m d
      = out2 (m ((d.tc : Thread _ Cert.MixReferenceIdeal.τ).loc Cert.MixReferenceIdeal.main_arg0))
          (m ((d.tc : Thread _ Cert.MixReferenceIdeal.τ).loc Cert.MixReferenceIdeal.main_arg1))
          (m ((d.tc : Thread _ Cert.MixReferenceIdeal.τ).loc Cert.MixReferenceIdeal.main_arg2))
          (m ((d.tc : Thread _ Cert.MixReferenceIdeal.τ).loc Cert.MixReferenceIdeal.main_arg3))
          (m ((d.tc : Thread _ Cert.MixReferenceIdeal.τ).loc Cert.MixReferenceIdeal.main_arg4))
          (m ((d.tc : Thread _ Cert.MixReferenceIdeal.τ).loc Cert.MixReferenceIdeal.main_arg5))
          (m ((d.tc : Thread _ Cert.MixReferenceIdeal.τ).loc Cert.MixReferenceIdeal.main_arg6))
          (m ((d.tc : Thread _ Cert.MixReferenceIdeal.τ).loc Cert.MixReferenceIdeal.main_arg7)) := by
  funext i
  obtain ⟨r, c, rfl⟩ : ∃ (r : Fin 16384) (c : Fin 512), i = ix2 r c := ⟨i 0, i 1, eq_ix2 i⟩
  unfold Cert.MixReferenceIdeal.Value.res_main_v43
  pointwise []
  rfl
end

/-- Reading the residual row of the block's row. -/
theorem pay2_row (v0 : Vec Ideal S512x512 .f32) (v1 : Vec Ideal S1x512 .f32) (v15 : Vec Ideal S512x512 .f32) (v16 : Vec Ideal S1x512 .f32)
    (v31 : Vec Ideal S512x1024 .f32) (v33 : Vec Ideal S1024x1024 .bf16) (r : Fin 512) (c : Fin 1024) :
    k0_pay2 v0 v1 v15 v16 v31 v33 (ix2 r c)
      = row1 (fun k => v31 (ix2 r k)) (fun k => v0 (ix2 r k)) (fun k => v15 (ix2 r k)) (fun k => v1 (ix2 0 k)) (fun k => v16 (ix2 0 k))
          (fun k c => v33 (ix2 k c)) c := by
  pointwise [k0_pay2]
  rfl

/-- Reading the queries of the block's row. -/
theorem pay1_row (v0 : FVec Ideal S512x1024 .f32) (v1 : Vec Ideal S1x1024 .f32) (v2 : Vec Ideal S1024x512 .bf16) (r : Fin 512) (c : Fin 512) :
    k0_pay1 v0 v1 v2 (ix2 r c) = row2 (fun k => v0 (ix2 r k)) (fun k => v1 (ix2 0 k)) (fun k c => v2 (ix2 k c)) c := by
  pointwise [k0_pay1]
  rfl

section
variable (x0 : Vec Ideal S512x1024 .f32) (x1 x2 : Vec Ideal S512x512 .f32) (x3 x4 : Vec Ideal S1x512 .f32) (x5 : Vec Ideal S1024x1024 .bf16)
    (x6 : Vec Ideal S1x1024 .f32) (x7 : Vec Ideal S1024x512 .bf16)

/-- What one grid point stores of the residual, at an index. -/
theorem out8_row (r : Fin 512) (c : Fin 1024) :
    out0_8 x0 x1 x2 x3 x4 x5 x6 x7 (ix2 r c)
      = row1 (fun k => x0 (ix2 r k)) (fun k => x1 (ix2 r k)) (fun k => x2 (ix2 r k)) (fun k => x3 (ix2 0 k)) (fun k => x4 (ix2 0 k))
          (fun k c => x5 (ix2 k c)) c := by
  unfold_out out0_8
  frame_out
  exact pay2_row _ _ _ _ _ _ r c

/-- What one grid point stores of the queries, at an index. -/
theorem out9_row (r : Fin 512) (c : Fin 512) :
    out0_9 x0 x1 x2 x3 x4 x5 x6 x7 (ix2 r c)
      = row2 (row1 (fun k => x0 (ix2 r k)) (fun k => x1 (ix2 r k)) (fun k => x2 (ix2 r k)) (fun k => x3 (ix2 0 k)) (fun k => x4 (ix2 0 k))
          (fun k c => x5 (ix2 k c))) (fun k => x6 (ix2 0 k)) (fun k c => x7 (ix2 k c)) c := by
  unfold_out out0_9
  frame_out
  rw [pay1_row]
  simp only [pay2_row]
end

/-- Where the windows' blocks stand: the row blocks move with the grid point, the weights stay. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] := by decide +kernel

section
variable (m : (ℓ : Loc nD τ sig) → Buf (Elt Ideal) ℓ) (c : Dev nD)

/-- The call's residual array. -/
abbrev res1 : Vec Ideal S16384x1024 .f32 :=
  out1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The call's array of queries. -/
abbrev res2 : Vec Ideal S16384x512 .bf16 :=
  out2 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

section
variable (t : Fin cfg0.N) (r : Fin 512) (hr : 512 * t.val + r.val < 16384)

theorem e0 (k : Fin 1024) : iblk m c 0 t (ix2 r k) = m ((c.tc : Thread nD τ).loc main_arg0) (ix2 ⟨512 * t.val + r.val, hr⟩ k) := by
  blk_ext! [iblk, V, idx t]
theorem e1 (k : Fin 512) : iblk m c 1 t (ix2 r k) = m ((c.tc : Thread nD τ).loc main_arg1) (ix2 ⟨512 * t.val + r.val, hr⟩ k) := by
  blk_ext! [iblk, V, idx t]
theorem e2 (k : Fin 512) : iblk m c 2 t (ix2 r k) = m ((c.tc : Thread nD τ).loc main_arg2) (ix2 ⟨512 * t.val + r.val, hr⟩ k) := by
  blk_ext! [iblk, V, idx t]
theorem e3 (l : Fin 512) : iblk m c 3 t (ix2 0 l) = m ((c.tc : Thread nD τ).loc main_arg3) (ix1 l) := by
  blk_ext! [iblk, V, idx t]
theorem e4 (l : Fin 512) : iblk m c 4 t (ix2 0 l) = m ((c.tc : Thread nD τ).loc main_arg4) (ix1 l) := by
  blk_ext! [iblk, V, idx t]
theorem e5 (k l : Fin 1024) : iblk m c 5 t (ix2 k l) = m ((c.tc : Thread nD τ).loc main_arg5) (ix2 k l) := by
  blk_ext! [iblk, V, idx t]
theorem e6 (l : Fin 1024) : iblk m c 6 t (ix2 0 l) = m ((c.tc : Thread nD τ).loc main_arg6) (ix1 l) := by
  blk_ext! [iblk, V, idx t]
theorem e7 (k : Fin 1024) (l : Fin 512) : iblk m c 7 t (ix2 k l) = m ((c.tc : Thread nD τ).loc main_arg7) (ix2 k l) := by
  blk_ext! [iblk, V, idx t]
end

/-- The residual array after the run is `out1` of the arguments. -/
theorem arr8 : (dats (F := Ideal) m 0 c).arrAt 8 cfg0.N = res1 m c := by
  refine (dats m 0 c).arrAt_eq_of_covers 8 _ (by decide +kernel) fun t hf y => ?_
  blk_simp
  rw [after0_8]
  obtain ⟨r, q, rfl⟩ : ∃ (r : Fin 512) (q : Fin 1024), y = ix2 r q := ⟨y 0, y 1, eq_ix2 y⟩
  refine (out8_row _ _ _ _ _ _ _ _ r q).trans ?_
  have hN : t.val < 32 := t.isLt
  have hr : 512 * t.val + r.val < 16384 := by omega
  have he : ((View.whole main_v5_0).slice (win0_8.rect t)).emb (ix2 r q) = ix2 (n0 := 16384) (n1 := 1024) ⟨512 * t.val + r.val, hr⟩ q := by
    blk_ext [idx t]
  rw [he]
  simp only [res1, out1, e0 m c t r hr, e1 m c t r hr, e2 m c t r hr, e3, e4, e5]
  rfl

/-- The array of queries after the run is `out2` of the arguments. -/
theorem arr9 : (dats (F := Ideal) m 0 c).arrAt 9 cfg0.N = res2 m c := by
  refine (dats m 0 c).arrAt_eq_of_covers 9 _ (by decide +kernel) fun t hf y => ?_
  blk_simp
  rw [after0_9]
  obtain ⟨r, q, rfl⟩ : ∃ (r : Fin 512) (q : Fin 512), y = ix2 r q := ⟨y 0, y 1, eq_ix2 y⟩
  refine (out9_row _ _ _ _ _ _ _ _ r q).trans ?_
  have hN : t.val < 32 := t.isLt
  have hr : 512 * t.val + r.val < 16384 := by omega
  have he : ((View.whole main_v5_1).slice (win0_9.rect t)).emb (ix2 r q) = ix2 (n0 := 16384) (n1 := 512) ⟨512 * t.val + r.val, hr⟩ q := by
    blk_ext [idx t]
  rw [he]
  simp only [res2, out2, e0 m c t r hr, e1 m c t r hr, e2 m c t r hr, e3, e4, e5, e6, e7]
  rfl
end

/-- At extended reals the call and its reference run and end with equal results, the arguments unchanged. -/
theorem equal : Cert.algebraic_MixIdeal_MixReferenceIdeal (hMixIdeal := Cert.MixIdeal.Gen.facts)
    (hMixReferenceIdeal := Cert.MixReferenceIdeal.Gen.facts) := by
  intro m ρ m' ρ' _ hagree
  refine ⟨fun c => res1 m c, fun c => res2 m c,
    (θ_run defs _ _).mono (fun _ h c => ⟨(h c).1.trans (arr8 m c), (h c).2.1.trans (arr9 m c), (h c).2.2⟩) (Cert.MixIdeal.Value.run_blocks m ρ), ?_⟩
  refine (θ_run Cert.MixReferenceIdeal.defs _ _).mono (fun _ h c => ⟨(h c).1.trans ?_, (h c).2.1.trans ?_, (h c).2.2⟩)
    (Cert.MixReferenceIdeal.Value.run (F := Ideal) m' ρ')
  · obtain ⟨h0, h1, h2, h3, h4, h5, h6, h7⟩ := hagree c
    rw [h0, h1, h2, h3, h4, h5]
    funext i
    obtain ⟨r, q, rfl⟩ : ∃ (r : Fin 16384) (q : Fin 1024), i = ix2 r q := ⟨i 0, i 1, eq_ix2 i⟩
    pointwise []
    rfl
  · obtain ⟨h0, h1, h2, h3, h4, h5, h6, h7⟩ := hagree c
    rw [ref_out2, h0, h1, h2, h3, h4, h5, h6, h7]

/-- The reference's frame: it runs and leaves its arguments as they were. -/
theorem ref_frame : Cert.quiescent_MixReferenceIdeal (hMixReferenceIdeal := Cert.MixReferenceIdeal.Gen.facts) := fun m ρ _ =>
  (θ_run Cert.MixReferenceIdeal.defs _ _).mono (fun r h => ⟨fun c => (h c).2.2, Idealize.ShloMosaic.sem_eq_zero_of_no_sems (by decide) r.2⟩)
    (Cert.MixReferenceIdeal.Value.run (F := Ideal) m ρ)
end Cert.MixIdeal.Val
end
-- ==== Proof.InProjFacts.lean ====
/- The pieces of the combined input projection: the projection of one token, the rotation of a head's first lanes, what
   the host's operands of the call hold, and what the call's parts compute of one row. -/
module
public import proofs.«01_k».proof.Proof.Gen.InProjIdeal.Value
public import proofs.«01_k».proof.Defs
public import Idealize.ShloMosaic.Lib.Pointwise
public import Idealize.ShloMosaic.Lib.Pipeline.ValueKit
public import Idealize.ShloMosaic.Lib.StableHlo.RunRead
@[expose] public section
set_option maxRecDepth 16384
noncomputable section
namespace Cert.InProjIdeal.Val
open Idealize.ShloMosaic Idealize.ShloMosaic.TcCoe Idealize.SL.Sem Cert.InProjIdeal Cert.InProjIdeal.Gen

/-! ## What is computed -/

/-- A row over its root mean square, times the gain. -/
def rms (x g : Fin 1024 → EReal) (k : Fin 1024) : EReal :=
  x k * Ideal.rsqrt (Ideal.div (∑ k, x k * x k) (Ideal.ofBits FTy.f32 1149239296#32) + Ideal.ofBits FTy.f32 897988541#32) * g k

/-- Entry (k, j) of the projection's matrix, zero past its last column. -/
def wAt (w : Vec Ideal S1024x1816 .f32) (k : Fin 1024) (j : ℕ) : EReal := if h : j < 1816 then w (ix2 k ⟨j, h⟩) else 0

/-- Column `j` of the projection of a row of entries. -/
def dotW (a : Fin 1024 → EReal) (w : Vec Ideal S1024x1816 .f32) (j : ℕ) : EReal := ∑ k, a k * wAt w k j

/-- Column `j` of the projection of the normed token `n`. -/
def col (x : Vec Ideal S16384x1024 .f32) (g : Vec Ideal S1024 .f32) (w : Vec Ideal S1024x1816 .f32) (n : Fin 16384) (j : ℕ) : EReal :=
  dotW (rms (fun k => x (ix2 n k)) (fun k => g (ix1 k))) w j

/-- The angle of position `s` at frequency `d` of the eight. -/
def ang (s d : ℕ) : EReal :=
  FloatOps.sitofp (F := Ideal) FTy.f32 (BitVec.ofNat 32 s) *
    Ideal.pow (Ideal.ofBits FTy.f32 1223959552#32)
      (Ideal.div (-FloatOps.sitofp (F := Ideal) FTy.f32 (BitVec.ofNat 32 d)) (Ideal.ofBits FTy.f32 1090519040#32))
/-- Its cosine. -/
def cosT (s d : ℕ) : EReal := Ideal.cos (ang s d)
/-- Its sine. -/
def sinT (s d : ℕ) : EReal := Ideal.sin (ang s d)

/-- Lane `d` of a head whose entries are `f b`, `f (b + 1)`, …: the first eight lanes rotated against the next eight. -/
def turn (f C S : ℕ → EReal) (b d : ℕ) : EReal :=
  if d < 8 then f (b + d) * C d - f (b + (d + 8)) * S d
  else if d < 16 then f (b + d) * C (d - 8) + f (b + (d - 8)) * S (d - 8)
  else f (b + d)

/-- The queries laid out: head `c / 128` keeps its 64 lanes in the half of its 128 lanes that its keys take. -/
def laneQ (f : ℕ → EReal) (c : ℕ) : EReal := if c / 64 % 2 = c / 512 then f (c / 128 * 64 + c % 64) else 0

/-- The same of the rotated queries. -/
def laneQR (f C S : ℕ → EReal) (c : ℕ) : EReal := if c / 64 % 2 = c / 512 then turn f C S (c / 128 * 64) (c % 64) else 0

/-- Keys (rotated) and values of the branch whose columns begin at `b`. -/
def laneKV (f C S : ℕ → EReal) (b c : ℕ) : EReal := if c < 128 then turn f C S (b + c / 64 * 64) (c % 64) else f (b + c)

/-- A gate, one half past the gates. -/
def laneG (f : ℕ → EReal) (c : ℕ) : EReal := Ideal.logistic (if c < 24 then f (1280 + c) else 0)

/-! ## The host's operands -/

/-- The three tables of the rotation, at position `s` and lane `l`. -/
def cs (s l : ℕ) : EReal := if l % 64 < 8 then cosT s (l % 64) else if l % 64 - 8 < 8 then cosT s (l % 64 - 8) else 1
def sa (s l : ℕ) : EReal := if l % 64 < 8 then -sinT s (l % 64) else if l % 64 - 8 < 8 then 0 else 0
def sb (s l : ℕ) : EReal := if l % 64 < 8 then 0 else if l % 64 - 8 < 8 then sinT s (l % 64 - 8) else 0

/-- Column `l` of the matrix as the call takes it, from the columns `f` of the matrix. -/
def permuted (f : ℕ → EReal) (l : ℕ) : EReal :=
  if l < 1024 then laneQ f l
  else if l < 1792 then f (l - 512)
  else if l < 2304 then f (l - 488)
  else if l < 2328 then f (l - 1024)
  else 0

section
variable (m : (ℓ : Loc nD τ sig) → Buf (Elt Ideal) ℓ) (c : Dev nD)

set_option maxHeartbeats 1600000 in
theorem tab_cs (s : Fin 8192) (l : Fin 128) : V m c main_v46 (ix2 s l) = cs s l := by
  show StableHlo.after hostOps0 (fun b => m (c, b)) main_v46 (ix2 s l) = _
  after_reads_simp
  pointwise []
  after_reads_simp
  pointwise []
  rfl
set_option maxHeartbeats 1600000 in
theorem tab_sa (s : Fin 8192) (l : Fin 128) : V m c main_v49 (ix2 s l) = sa s l := by
  show StableHlo.after hostOps0 (fun b => m (c, b)) main_v49 (ix2 s l) = _
  after_reads_simp
  pointwise []
  after_reads_simp
  pointwise []
  rfl
set_option maxHeartbeats 1600000 in
theorem tab_sb (s : Fin 8192) (l : Fin 128) : V m c main_v52 (ix2 s l) = sb s l := by
  show StableHlo.after hostOps0 (fun b => m (c, b)) main_v52 (ix2 s l) = _
  after_reads_simp
  pointwise []
  after_reads_simp
  pointwise []
  rfl

end
end Cert.InProjIdeal.Val
end
-- ==== Proof.InProjPay.lean ====
/- What the parts of the combined input projection compute of one row of their block. -/
module
public import proofs.«01_k».proof.Proof.InProjFacts
public import proofs.«01_k».proof.Defs
public import Idealize.ShloMosaic.Lib.Pointwise
public import Idealize.ShloMosaic.Lib.Pipeline.ValueKit
@[expose] public section
set_option maxRecDepth 16384
noncomputable section
namespace Cert.InProjIdeal.Val
open Idealize.ShloMosaic Idealize.ShloMosaic.TcCoe Idealize.SL.Sem Cert.InProjIdeal Cert.InProjIdeal.Gen

/-- A ladder over eight equal pieces of 128 reads one piece at the coordinate modulo 128. -/
theorem lad8 (f : ℕ → EReal) (c : ℕ) (hc : c < 1024) :
    (if _h : c < 128 then f c else if _h : c - 128 < 128 then f (c - 128)
      else if _h : c - 128 - 128 < 128 then f (c - 128 - 128)
      else if _h : c - 128 - 128 - 128 < 128 then f (c - 128 - 128 - 128)
      else if _h : c - 128 - 128 - 128 - 128 < 128 then f (c - 128 - 128 - 128 - 128)
      else if _h : c - 128 - 128 - 128 - 128 - 128 < 128 then f (c - 128 - 128 - 128 - 128 - 128)
      else if _h : c - 128 - 128 - 128 - 128 - 128 - 128 < 128 then f (c - 128 - 128 - 128 - 128 - 128 - 128)
      else f (c - 128 - 128 - 128 - 128 - 128 - 128 - 128)) = f (c % 128) := by
  split_ifs <;> (congr 1; omega)

/-- A sum against the permuted matrix is the permuted sum. -/
theorem sum_permuted (a : Fin 1024 → EReal) (w : Vec Ideal S1024x1816 .f32) (l : ℕ) :
    ∑ k, a k * permuted (wAt w k) l = permuted (dotW a w) l := by
  unfold permuted laneQ
  split_ifs <;> first | rfl | simp only [mul_zero, Finset.sum_const_zero]

/-- The three products with the tables are the rotated lane. -/
theorem turn_core (f C S : ℕ → EReal) (b d : ℕ) (z0 zp zm : EReal) (h0 : z0 = f (b + d)) (hp : d < 8 → zp = f (b + (d + 8)))
    (hm : 8 ≤ d → d < 16 → zm = f (b + (d - 8))) :
    z0 * (if d < 8 then C d else if d - 8 < 8 then C (d - 8) else 1)
      + zp * (if d < 8 then -S d else if d - 8 < 8 then 0 else 0)
      + zm * (if d < 8 then 0 else if d - 8 < 8 then S (d - 8) else 0) = turn f C S b d := by
  unfold turn
  subst h0
  by_cases h : d < 8
  · rw [if_pos h, if_pos h, if_pos h, if_pos h, hp h, mul_neg, mul_zero, add_zero, sub_eq_add_neg]
  · rw [if_neg h, if_neg h, if_neg h, if_neg h]
    by_cases h' : d < 16
    · have h8 : d - 8 < 8 := by omega
      rw [if_pos h8, if_pos h8, if_pos h8, if_pos h', hm (by omega) h', mul_zero, add_zero]
    · have h8 : ¬ d - 8 < 8 := by omega
      rw [if_neg h8, if_neg h8, if_neg h8, if_neg h', mul_one, mul_zero, mul_zero, add_zero, add_zero]

/-- A head of zeros turns into zeros. -/
theorem turn_zero (C S : ℕ → EReal) (b d : ℕ) : turn (fun _ => 0) C S b d = 0 := by
  unfold turn
  split_ifs <;> simp

/-- The normed row. -/
theorem pay6_row (v0 : Vec Ideal S512x1024 .f32) (v1 : Vec Ideal S1x1024 .f32) (r : Fin 512) (k : Fin 1024) :
    k0_pay6 v0 v1 (ix2 r k) = rms (fun k => v0 (ix2 r k)) (fun k => v1 (ix2 0 k)) k := by
  pointwise [k0_pay6]
  rfl

/-- The queries' columns. -/
theorem pay10_row (v0 : Vec Ideal S512x1024 .f32) (v1 : Vec Ideal S1x1024 .f32) (v5 : Vec Ideal S1024x1024 .bf16) (r : Fin 512) (c : Fin 1024)
    (a : Fin 1024 → EReal) (w : Vec Ideal S1024x1816 .f32) (ha : ∀ k, k0_pay6 v0 v1 (ix2 r k) = a k)
    (hw : ∀ (k : Fin 1024) (l : Fin 1024), v5 (ix2 k l) = permuted (wAt w k) l) :
    k0_pay10 v0 v1 v5 (ix2 r c) = laneQ (dotW a w) c := by
  unfold k0_pay10
  generalize k0_pay6 v0 v1 = z at ha
  pointwise []
  simp only [ha, hw, sum_permuted]
  unfold permuted
  rw [if_pos c.isLt]

/-- The rotated queries' columns. -/
theorem pay11_row (v0 : Vec Ideal S512x1024 .f32) (v1 : Vec Ideal S1x1024 .f32) (v2 v3 v4 : Vec Ideal S512x128 .f32)
    (v5 : Vec Ideal S1024x1024 .bf16) (r : Fin 512) (c : Fin 1024) (f : ℕ → EReal) (s : ℕ)
    (hz : ∀ c : Fin 1024, k0_pay10 v0 v1 v5 (ix2 r c) = laneQ f c)
    (h2 : ∀ l : Fin 128, v2 (ix2 r l) = cs s l) (h3 : ∀ l : Fin 128, v3 (ix2 r l) = sa s l) (h4 : ∀ l : Fin 128, v4 (ix2 r l) = sb s l) :
    k0_pay11 v0 v1 v2 v3 v4 v5 (ix2 r c) = laneQR f (cosT s) (sinT s) c := by
  unfold k0_pay11
  generalize k0_pay10 v0 v1 v5 = z at hz
  pointwise [k0_pay7, k0_pay8, k0_pay9]
  simp only [hz, h2, h3, h4]
  rw [lad8 (cs s) c c.isLt, lad8 (sa s) c c.isLt, lad8 (sb s) c c.isLt]
  have hc := c.isLt
  have e : c.val % 128 % 64 = c.val % 64 := by omega
  unfold cs sa sb laneQR
  rw [e]
  by_cases h : c.val / 64 % 2 = c.val / 512
  · rw [if_pos h]
    refine turn_core f (cosT s) (sinT s) _ _ _ _ _ ?_ ?_ ?_
    · unfold laneQ; rw [if_pos h]
    · intro hd
      have e1 : (c.val + 1024 - 1016) % 1024 = c.val + 8 := by omega
      have e2 : (c.val + 8) / 64 = c.val / 64 := by omega
      have e3 : (c.val + 8) / 512 = c.val / 512 := by omega
      unfold laneQ; rw [e1, e2, e3, if_pos h]; congr 1; omega
    · intro hd hd'
      have e1 : (c.val + 1024 - 8) % 1024 = c.val - 8 := by omega
      have e2 : (c.val - 8) / 64 = c.val / 64 := by omega
      have e3 : (c.val - 8) / 512 = c.val / 512 := by omega
      unfold laneQ; rw [e1, e2, e3, if_pos h]; congr 1; omega
  · rw [if_neg h]
    refine (turn_core (fun _ => 0) (cosT s) (sinT s) 0 _ _ _ _ ?_ ?_ ?_).trans (turn_zero (cosT s) (sinT s) 0 (c.val % 64))
    · unfold laneQ; rw [if_neg h]
    · intro hd
      have e1 : (c.val + 1024 - 1016) % 1024 = c.val + 8 := by omega
      have e2 : (c.val + 8) / 64 = c.val / 64 := by omega
      have e3 : (c.val + 8) / 512 = c.val / 512 := by omega
      unfold laneQ; rw [e1, e2, e3, if_neg h]
    · intro hd hd'
      have e1 : (c.val + 1024 - 8) % 1024 = c.val - 8 := by omega
      have e2 : (c.val - 8) / 64 = c.val / 64 := by omega
      have e3 : (c.val - 8) / 512 = c.val / 512 := by omega
      unfold laneQ; rw [e1, e2, e3, if_neg h]

section
variable (v0 : FVec Ideal S512x1024 .bf16) (v1 v2 v3 : FVec Ideal S512x128 .f32) (v4 : Vec Ideal S1024x256 .bf16) (r : Fin 512)
    (f : ℕ → EReal) (s b : ℕ)
    (hz : ∀ c : Fin 256, ∑ x : Fin 1024, v0 (ix2 r x) * v4 (ix2 x c) = f (b + c))
    (h1 : ∀ l : Fin 128, v1 (ix2 r l) = cs s l) (h2 : ∀ l : Fin 128, v2 (ix2 r l) = sa s l) (h3 : ∀ l : Fin 128, v3 (ix2 r l) = sb s l)
include hz h1 h2 h3

/-- Keys and values of the selected branch. -/
theorem pay13_row (c : Fin 256) : k0_pay13 v0 v1 v2 v3 v4 (ix2 r c) = laneKV f (cosT s) (sinT s) b c := by
  pointwise [k0_pay13]
  simp only [hz, h1, h2, h3]
  unfold laneKV
  split_ifs with h
  · unfold cs sa sb
    refine turn_core f (cosT s) (sinT s) _ _ _ _ _ ?_ ?_ ?_
    · congr 1; omega
    · intro hd; congr 1; omega
    · intro hd hd'; congr 1; omega
  · congr 1; omega

/-- Keys and values of the window's branch. -/
theorem pay1_row (c : Fin 256) : k0_pay1 v0 v1 v2 v3 v4 (constant S512x256 .f32 0x00000000#32) (ix2 r c) = laneKV f (cosT s) (sinT s) b c := by
  refine Eq.trans ?_ (pay13_row v0 v1 v2 v3 v4 r f s b hz h1 h2 h3 c)
  pointwise [k0_pay13, k0_pay1]

/-- The same, rows last. -/
theorem pay14_row (c : Fin 256) : k0_pay14 v0 v1 v2 v3 v4 (ix3 0 c r) = laneKV f (cosT s) (sinT s) b c := by
  refine Eq.trans ?_ (pay13_row v0 v1 v2 v3 v4 r f s b hz h1 h2 h3 c)
  unfold k0_pay14
  generalize k0_pay13 v0 v1 v2 v3 v4 = z
  pointwise []
  by_cases h : c.val < 128
  · simp only [dif_pos h]
  · have e : ∀ h', (⟨128 + (c.val - 128), h'⟩ : Fin 256) = c := fun _ => Fin.ext (by dsimp only; omega)
    simp only [dif_neg h, e]
theorem pay2_row (c : Fin 256) : k0_pay2 v0 v1 v2 v3 v4 (constant S512x256 .f32 0x00000000#32) (ix3 0 c r) = laneKV f (cosT s) (sinT s) b c := by
  refine Eq.trans ?_ (pay1_row v0 v1 v2 v3 v4 r f s b hz h1 h2 h3 c)
  unfold k0_pay2
  generalize k0_pay1 v0 v1 v2 v3 v4 _ = z
  pointwise []
  by_cases h : c.val < 128
  · simp only [dif_pos h]
  · have e : ∀ h', (⟨128 + (c.val - 128), h'⟩ : Fin 256) = c := fun _ => Fin.ext (by dsimp only; omega)
    simp only [dif_neg h, e]
theorem pay15_row (c : Fin 256) : k0_pay15 v0 v1 v2 v3 v4 (ix2 r c) = laneKV f (cosT s) (sinT s) b c := by
  refine Eq.trans ?_ (pay13_row v0 v1 v2 v3 v4 r f s b hz h1 h2 h3 c)
  unfold k0_pay15
  generalize k0_pay13 v0 v1 v2 v3 v4 = z
  pointwise []
theorem pay3_row (c : Fin 256) : k0_pay3 v0 v1 v2 v3 v4 (constant S512x256 .f32 0x00000000#32) (ix2 r c) = laneKV f (cosT s) (sinT s) b c := by
  refine Eq.trans ?_ (pay1_row v0 v1 v2 v3 v4 r f s b hz h1 h2 h3 c)
  unfold k0_pay3
  generalize k0_pay1 v0 v1 v2 v3 v4 _ = z
  pointwise []
end

/-- Columns for the compressed branch, rows last. -/
theorem pay12_row (v0 : FVec Ideal S512x1024 .bf16) (v4 : Vec Ideal S1024x256 .bf16) (r : Fin 512) (f : ℕ → EReal) (b : ℕ)
    (hz : ∀ c : Fin 256, ∑ x : Fin 1024, v0 (ix2 r x) * v4 (ix2 x c) = f (b + c)) (c : Fin 256) :
    k0_pay12 v0 v4 (ix3 0 c r) = f (b + c) := by
  pointwise [k0_pay12]
  simp only [hz]
  split_ifs with h
  · rfl
  · congr 1; omega
theorem pay4_row (v0 : FVec Ideal S512x1024 .bf16) (v4 : Vec Ideal S1024x512 .bf16) (r : Fin 512) (c : Fin 512) :
    k0_pay4 v0 v4 (ix2 r c) = ∑ x : Fin 1024, v0 (ix2 r x) * v4 (ix2 x c) := by
  pointwise [k0_pay4]
theorem pay5_row (v0 : FVec Ideal S512x1024 .bf16) (v4 : Vec Ideal S1024x128 .bf16) (r : Fin 512) (c : Fin 128) :
    k0_pay5 v0 v4 (ix2 r c) = Ideal.logistic (∑ x : Fin 1024, v0 (ix2 r x) * v4 (ix2 x c)) := by
  pointwise [k0_pay5]
end Cert.InProjIdeal.Val
end
-- ==== Proof.InProjW.lean ====
/- The matrix of the combined input projection as the host lays it out for the call. -/
module
public import proofs.«01_k».proof.Proof.InProjFacts
public import proofs.«01_k».proof.Defs
public import Idealize.ShloMosaic.Lib.Pointwise
public import Idealize.ShloMosaic.Lib.Pipeline.ValueKit
public import Idealize.ShloMosaic.Lib.StableHlo.RunRead
@[expose] public section
set_option maxRecDepth 16384
noncomputable section
namespace Cert.InProjIdeal.Val
open Idealize.ShloMosaic Idealize.ShloMosaic.TcCoe Idealize.SL.Sem Cert.InProjIdeal Cert.InProjIdeal.Gen

section
variable (m : (ℓ : Loc nD τ sig) → Buf (Elt Ideal) ℓ) (c : Dev nD)

set_option maxHeartbeats 4000000 in
/-- The first 1024 columns: sixteen pieces of 64, a head's columns or zeros. -/
theorem w_q (n : Fin 16) (k : Fin 1024) (d : Fin 64) (hl : 64 * n.val + d.val < 1024) (hs : 64 * (n.val / 2) + d.val < 1816) :
    StableHlo.upto (hostOps0 (F := Ideal)) (fun b => m (c, b)) 21 (Proc.tc.devRef main_v17) (ix2 k ⟨64 * n.val + d.val, hl⟩) =
      if n.val % 2 = n.val / 8 then m ((c : Thread nD τ).loc main_arg2) (ix2 k ⟨64 * (n.val / 2) + d.val, hs⟩) else (0 : EReal) := by
  after_reads_simp
  match n, hl, hs with
  | 0, hl, hs =>
    refine (concatenate_apply_piece (s₁ := S1024x64) (1 : Fin S1024x1024.rank) _ _ _ 0 (Nat.lt_of_sub_eq_succ rfl) _ rfl rfl (64 * 0) rfl (ix2 k d) ?_ rfl).trans ?_
    · intro b hb
      match b with
      | 0 => rfl
      | 1 => exact absurd rfl hb
    · simp only [Matrix.cons_val]
      after_reads_simp
      pointwise []
      try rfl
  | 1, hl, hs =>
    refine (concatenate_apply_piece (s₁ := S1024x64) (1 : Fin S1024x1024.rank) _ _ _ 1 (Nat.lt_of_sub_eq_succ rfl) _ rfl rfl (64 * 1) rfl (ix2 k d) ?_ rfl).trans ?_
    · intro b hb
      match b with
      | 0 => rfl
      | 1 => exact absurd rfl hb
    · simp only [Matrix.cons_val]
      after_reads_simp
      pointwise []
      try rfl
  | 2, hl, hs =>
    refine (concatenate_apply_piece (s₁ := S1024x64) (1 : Fin S1024x1024.rank) _ _ _ 2 (Nat.lt_of_sub_eq_succ rfl) _ rfl rfl (64 * 2) rfl (ix2 k d) ?_ rfl).trans ?_
    · intro b hb
      match b with
      | 0 => rfl
      | 1 => exact absurd rfl hb
    · simp only [Matrix.cons_val]
      after_reads_simp
      pointwise []
      try rfl
  | 3, hl, hs =>
    refine (concatenate_apply_piece (s₁ := S1024x64) (1 : Fin S1024x1024.rank) _ _ _ 3 (Nat.lt_of_sub_eq_succ rfl) _ rfl rfl (64 * 3) rfl (ix2 k d) ?_ rfl).trans ?_
    · intro b hb
      match b with
      | 0 => rfl
      | 1 => exact absurd rfl hb
    · simp only [Matrix.cons_val]
      after_reads_simp
      pointwise []
      try rfl
  | 4, hl, hs =>
    refine (concatenate_apply_piece (s₁ := S1024x64) (1 : Fin S1024x1024.rank) _ _ _ 4 (Nat.lt_of_sub_eq_succ rfl) _ rfl rfl (64 * 4) rfl (ix2 k d) ?_ rfl).trans ?_
    · intro b hb
      match b with
      | 0 => rfl
      | 1 => exact absurd rfl hb
    · simp only [Matrix.cons_val]
      after_reads_simp
      pointwise []
      try rfl
  | 5, hl, hs =>
    refine (concatenate_apply_piece (s₁ := S1024x64) (1 : Fin S1024x1024.rank) _ _ _ 5 (Nat.lt_of_sub_eq_succ rfl) _ rfl rfl (64 * 5) rfl (ix2 k d) ?_ rfl).trans ?_
    · intro b hb
      match b with
      | 0 => rfl
      | 1 => exact absurd rfl hb
    · simp only [Matrix.cons_val]
      after_reads_simp
      pointwise []
      try rfl
  | 6, hl, hs =>
    refine (concatenate_apply_piece (s₁ := S1024x64) (1 : Fin S1024x1024.rank) _ _ _ 6 (Nat.lt_of_sub_eq_succ rfl) _ rfl rfl (64 * 6) rfl (ix2 k d) ?_ rfl).trans ?_
    · intro b hb
      match b with
      | 0 => rfl
      | 1 => exact absurd rfl hb
    · simp only [Matrix.cons_val]
      after_reads_simp
      pointwise []
      try rfl
  | 7, hl, hs =>
    refine (concatenate_apply_piece (s₁ := S1024x64) (1 : Fin S1024x1024.rank) _ _ _ 7 (Nat.lt_of_sub_eq_succ rfl) _ rfl rfl (64 * 7) rfl (ix2 k d) ?_ rfl).trans ?_
    · intro b hb
      match b with
      | 0 => rfl
      | 1 => exact absurd rfl hb
    · simp only [Matrix.cons_val]
      after_reads_simp
      pointwise []
      try rfl
  | 8, hl, hs =>
    refine (concatenate_apply_piece (s₁ := S1024x64) (1 : Fin S1024x1024.rank) _ _ _ 8 (Nat.lt_of_sub_eq_succ rfl) _ rfl rfl (64 * 8) rfl (ix2 k d) ?_ rfl).trans ?_
    · intro b hb
      match b with
      | 0 => rfl
      | 1 => exact absurd rfl hb
    · simp only [Matrix.cons_val]
      after_reads_simp
      pointwise []
      try rfl
  | 9, hl, hs =>
    refine (concatenate_apply_piece (s₁ := S1024x64) (1 : Fin S1024x1024.rank) _ _ _ 9 (Nat.lt_of_sub_eq_succ rfl) _ rfl rfl (64 * 9) rfl (ix2 k d) ?_ rfl).trans ?_
    · intro b hb
      match b with
      | 0 => rfl
      | 1 => exact absurd rfl hb
    · simp only [Matrix.cons_val]
      after_reads_simp
      pointwise []
      try rfl
  | 10, hl, hs =>
    refine (concatenate_apply_piece (s₁ := S1024x64) (1 : Fin S1024x1024.rank) _ _ _ 10 (Nat.lt_of_sub_eq_succ rfl) _ rfl rfl (64 * 10) rfl (ix2 k d) ?_ rfl).trans ?_
    · intro b hb
      match b with
      | 0 => rfl
      | 1 => exact absurd rfl hb
    · simp only [Matrix.cons_val]
      after_reads_simp
      pointwise []
      try rfl
  | 11, hl, hs =>
    refine (concatenate_apply_piece (s₁ := S1024x64) (1 : Fin S1024x1024.rank) _ _ _ 11 (Nat.lt_of_sub_eq_succ rfl) _ rfl rfl (64 * 11) rfl (ix2 k d) ?_ rfl).trans ?_
    · intro b hb
      match b with
      | 0 => rfl
      | 1 => exact absurd rfl hb
    · simp only [Matrix.cons_val]
      after_reads_simp
      pointwise []
      try rfl
  | 12, hl, hs =>
    refine (concatenate_apply_piece (s₁ := S1024x64) (1 : Fin S1024x1024.rank) _ _ _ 12 (Nat.lt_of_sub_eq_succ rfl) _ rfl rfl (64 * 12) rfl (ix2 k d) ?_ rfl).trans ?_
    · intro b hb
      match b with
      | 0 => rfl
      | 1 => exact absurd rfl hb
    · simp only [Matrix.cons_val]
      after_reads_simp
      pointwise []
      try rfl
  | 13, hl, hs =>
    refine (concatenate_apply_piece (s₁ := S1024x64) (1 : Fin S1024x1024.rank) _ _ _ 13 (Nat.lt_of_sub_eq_succ rfl) _ rfl rfl (64 * 13) rfl (ix2 k d) ?_ rfl).trans ?_
    · intro b hb
      match b with
      | 0 => rfl
      | 1 => exact absurd rfl hb
    · simp only [Matrix.cons_val]
      after_reads_simp
      pointwise []
      try rfl
  | 14, hl, hs =>
    refine (concatenate_apply_piece (s₁ := S1024x64) (1 : Fin S1024x1024.rank) _ _ _ 14 (Nat.lt_of_sub_eq_succ rfl) _ rfl rfl (64 * 14) rfl (ix2 k d) ?_ rfl).trans ?_
    · intro b hb
      match b with
      | 0 => rfl
      | 1 => exact absurd rfl hb
    · simp only [Matrix.cons_val]
      after_reads_simp
      pointwise []
      try rfl
  | 15, hl, hs =>
    refine (concatenate_apply_piece (s₁ := S1024x64) (1 : Fin S1024x1024.rank) _ _ _ 15 (Nat.lt_of_sub_eq_succ rfl) _ rfl rfl (64 * 15) rfl (ix2 k d) ?_ rfl).trans ?_
    · intro b hb
      match b with
      | 0 => rfl
      | 1 => exact absurd rfl hb
    · simp only [Matrix.cons_val]
      after_reads_simp
      pointwise []
      try rfl
  | ⟨_ + 16, h⟩, _, _ => exact absurd h (by omega)

set_option maxHeartbeats 4000000 in
/-- The matrix as the call takes it. -/
theorem w_perm (k : Fin 1024) (l : Fin 2432) :
    V m c main_v20 (ix2 k l) = permuted (wAt (m ((c : Thread nD τ).loc main_arg2)) k) l := by
  show StableHlo.after hostOps0 (fun b => m (c, b)) main_v20 (ix2 k l) = _
  after_reads_simp
  pointwise []
  split
  next h =>
    have hd : l.val % 64 < 64 := Nat.mod_lt _ (by decide)
    have hl : 64 * (l.val / 64) + l.val % 64 < 1024 := by omega
    have e : (⟨l.val, h⟩ : Fin 1024) = ⟨64 * (l.val / 64) + l.val % 64, hl⟩ := Fin.ext (by dsimp only; omega)
    rw [e]
    refine (w_q m c ⟨l.val / 64, by omega⟩ k ⟨l.val % 64, hd⟩ hl (by dsimp only; omega)).trans ?_
    unfold permuted laneQ wAt
    rw [if_pos h]
    dsimp only
    have e2 : l.val / 64 / 8 = l.val / 512 := by omega
    have e3 : 64 * (l.val / 64 / 2) + l.val % 64 = l.val / 128 * 64 + l.val % 64 := by omega
    have e4 : l.val / 128 * 64 + l.val % 64 < 1816 := by omega
    simp only [e2, e3, dif_pos e4]
  next h =>
    after_reads_simp
    pointwise []
    after_reads_simp
    pointwise []
    change _ = permuted (wAt (m (c, Proc.devRef .tc main_arg2)) k) l
    have hW : ∀ (j : ℕ) (h : j < 1816), m (c, Proc.devRef .tc main_arg2) (ix2 k ⟨j, h⟩) = wAt (m (c, Proc.devRef .tc main_arg2)) k j :=
      fun j h => by rw [wAt, dif_pos h]
    simp only [hW]
    generalize wAt (m (c, Proc.devRef .tc main_arg2)) k = f
    have := l.isLt
    unfold permuted
    split_ifs <;> first | rfl | omega | (congr 1; omega)
end
end Cert.InProjIdeal.Val
end
-- ==== Proof.InProjRef.lean ====
/- The results of the plain input projection, entry by entry. -/
module
public import proofs.«01_k».proof.Proof.InProjFacts
public import proofs.«01_k».proof.Proof.Gen.InProjReferenceIdeal.Run
public import proofs.«01_k».proof.Defs
public import Idealize.ShloMosaic.Lib.Pointwise
public import Idealize.ShloMosaic.Lib.Pipeline.ValueKit
@[expose] public section
set_option maxRecDepth 16384
noncomputable section
namespace Cert.InProjIdeal.Val
open Idealize.ShloMosaic Idealize.ShloMosaic.TcCoe Idealize.SL.Sem Cert.InProjIdeal Cert.InProjIdeal.Gen

section
variable (m : (ℓ : Loc Cert.InProjReferenceIdeal.nD Cert.InProjReferenceIdeal.τ Cert.InProjReferenceIdeal.sig) → Buf (Elt Ideal) ℓ) (d : Dev Cert.InProjReferenceIdeal.nD)

set_option maxHeartbeats 1600000 in
/-- Its rotated queries. -/
theorem ref_v145 (r : Fin 16384) (c : Fin 1024) :
    Cert.InProjReferenceIdeal.Value.res_main_v145 (F := Ideal) m d (ix2 r c) = laneQR (col (m ((d.tc : Thread _ Cert.InProjReferenceIdeal.τ).loc Cert.InProjReferenceIdeal.main_arg0)) (m ((d.tc : Thread _ Cert.InProjReferenceIdeal.τ).loc Cert.InProjReferenceIdeal.main_arg1)) (m ((d.tc : Thread _ Cert.InProjReferenceIdeal.τ).loc Cert.InProjReferenceIdeal.main_arg2)) r) (cosT (r.val % 8192)) (sinT (r.val % 8192)) c := by
  unfold Cert.InProjReferenceIdeal.Value.res_main_v145
  generalize hD : Host.dotGeneral (F := Ideal) Cert.InProjReferenceIdeal.dot_S16384x1024_S1024x1816_S16384x1816_1_0_0_1_n_n none _ _ = P
  have hP : ∀ (n : Fin 16384) (j : ℕ) (h : j < 1816), P (ix2 n ⟨j, h⟩) = col (m ((d.tc : Thread _ Cert.InProjReferenceIdeal.τ).loc Cert.InProjReferenceIdeal.main_arg0)) (m ((d.tc : Thread _ Cert.InProjReferenceIdeal.τ).loc Cert.InProjReferenceIdeal.main_arg1)) (m ((d.tc : Thread _ Cert.InProjReferenceIdeal.τ).loc Cert.InProjReferenceIdeal.main_arg2)) n j := by
    intro n j h
    rw [← hD]
    unfold col dotW wAt
    simp only [dif_pos h]
    pointwise []
    rfl
  clear hD
  pointwise []
  simp only [hP]
  have hC : ∀ s d : ℕ, Ideal.cos (FloatOps.sitofp (F := Ideal) FTy.f32 (BitVec.ofNat 32 s) *
    Ideal.pow (Ideal.ofBits FTy.f32 1223959552#32)
      (Ideal.div (-FloatOps.sitofp (F := Ideal) FTy.f32 (BitVec.ofNat 32 d)) (Ideal.ofBits FTy.f32 1090519040#32))) = cosT s d := fun _ _ => rfl
  have hS : ∀ s d : ℕ, Ideal.sin (FloatOps.sitofp (F := Ideal) FTy.f32 (BitVec.ofNat 32 s) *
    Ideal.pow (Ideal.ofBits FTy.f32 1223959552#32)
      (Ideal.div (-FloatOps.sitofp (F := Ideal) FTy.f32 (BitVec.ofNat 32 d)) (Ideal.ofBits FTy.f32 1090519040#32))) = sinT s d := fun _ _ => rfl
  simp only [hC, hS]
  generalize col _ _ _ r = f
  generalize cosT (r.val % 8192) = C
  generalize sinT (r.val % 8192) = S
  have hc := c.isLt
  unfold laneQR turn
  split_ifs <;> first | rfl | (exfalso; omega) | (congr 1; omega) | (congr! 3 <;> omega)

set_option maxHeartbeats 1600000 in
/-- Keys and values of a branch, in half precision. -/
theorem ref_v152 (r : Fin 16384) (c : Fin 256) :
    Cert.InProjReferenceIdeal.Value.res_main_v152 (F := Ideal) m d (ix2 r c) = laneKV (col (m ((d.tc : Thread _ Cert.InProjReferenceIdeal.τ).loc Cert.InProjReferenceIdeal.main_arg0)) (m ((d.tc : Thread _ Cert.InProjReferenceIdeal.τ).loc Cert.InProjReferenceIdeal.main_arg1)) (m ((d.tc : Thread _ Cert.InProjReferenceIdeal.τ).loc Cert.InProjReferenceIdeal.main_arg2)) r) (cosT (r.val % 8192)) (sinT (r.val % 8192)) 768 c := by
  unfold Cert.InProjReferenceIdeal.Value.res_main_v152
  generalize hD : Host.dotGeneral (F := Ideal) Cert.InProjReferenceIdeal.dot_S16384x1024_S1024x1816_S16384x1816_1_0_0_1_n_n none _ _ = P
  have hP : ∀ (n : Fin 16384) (j : ℕ) (h : j < 1816), P (ix2 n ⟨j, h⟩) = col (m ((d.tc : Thread _ Cert.InProjReferenceIdeal.τ).loc Cert.InProjReferenceIdeal.main_arg0)) (m ((d.tc : Thread _ Cert.InProjReferenceIdeal.τ).loc Cert.InProjReferenceIdeal.main_arg1)) (m ((d.tc : Thread _ Cert.InProjReferenceIdeal.τ).loc Cert.InProjReferenceIdeal.main_arg2)) n j := by
    intro n j h
    rw [← hD]
    unfold col dotW wAt
    simp only [dif_pos h]
    pointwise []
    rfl
  clear hD
  pointwise []
  simp only [hP]
  have hC : ∀ s d : ℕ, Ideal.cos (FloatOps.sitofp (F := Ideal) FTy.f32 (BitVec.ofNat 32 s) *
    Ideal.pow (Ideal.ofBits FTy.f32 1223959552#32)
      (Ideal.div (-FloatOps.sitofp (F := Ideal) FTy.f32 (BitVec.ofNat 32 d)) (Ideal.ofBits FTy.f32 1090519040#32))) = cosT s d := fun _ _ => rfl
  have hS : ∀ s d : ℕ, Ideal.sin (FloatOps.sitofp (F := Ideal) FTy.f32 (BitVec.ofNat 32 s) *
    Ideal.pow (Ideal.ofBits FTy.f32 1223959552#32)
      (Ideal.div (-FloatOps.sitofp (F := Ideal) FTy.f32 (BitVec.ofNat 32 d)) (Ideal.ofBits FTy.f32 1090519040#32))) = sinT s d := fun _ _ => rfl
  simp only [hC, hS]
  generalize col _ _ _ r = f
  generalize cosT (r.val % 8192) = C
  generalize sinT (r.val % 8192) = S
  have hc := c.isLt
  unfold laneKV turn
  split_ifs <;> first | rfl | (exfalso; omega) | (congr 1; omega) | (congr! 3 <;> omega)

set_option maxHeartbeats 1600000 in
/-- Keys and values of a branch, in half precision. -/
theorem ref_v153 (r : Fin 16384) (c : Fin 256) :
    Cert.InProjReferenceIdeal.Value.res_main_v153 (F := Ideal) m d (ix2 r c) = laneKV (col (m ((d.tc : Thread _ Cert.InProjReferenceIdeal.τ).loc Cert.InProjReferenceIdeal.main_arg0)) (m ((d.tc : Thread _ Cert.InProjReferenceIdeal.τ).loc Cert.InProjReferenceIdeal.main_arg1)) (m ((d.tc : Thread _ Cert.InProjReferenceIdeal.τ).loc Cert.InProjReferenceIdeal.main_arg2)) r) (cosT (r.val % 8192)) (sinT (r.val % 8192)) 1024 c := by
  unfold Cert.InProjReferenceIdeal.Value.res_main_v153
  generalize hD : Host.dotGeneral (F := Ideal) Cert.InProjReferenceIdeal.dot_S16384x1024_S1024x1816_S16384x1816_1_0_0_1_n_n none _ _ = P
  have hP : ∀ (n : Fin 16384) (j : ℕ) (h : j < 1816), P (ix2 n ⟨j, h⟩) = col (m ((d.tc : Thread _ Cert.InProjReferenceIdeal.τ).loc Cert.InProjReferenceIdeal.main_arg0)) (m ((d.tc : Thread _ Cert.InProjReferenceIdeal.τ).loc Cert.InProjReferenceIdeal.main_arg1)) (m ((d.tc : Thread _ Cert.InProjReferenceIdeal.τ).loc Cert.InProjReferenceIdeal.main_arg2)) n j := by
    intro n j h
    rw [← hD]
    unfold col dotW wAt
    simp only [dif_pos h]
    pointwise []
    rfl
  clear hD
  pointwise []
  simp only [hP]
  have hC : ∀ s d : ℕ, Ideal.cos (FloatOps.sitofp (F := Ideal) FTy.f32 (BitVec.ofNat 32 s) *
    Ideal.pow (Ideal.ofBits FTy.f32 1223959552#32)
      (Ideal.div (-FloatOps.sitofp (F := Ideal) FTy.f32 (BitVec.ofNat 32 d)) (Ideal.ofBits FTy.f32 1090519040#32))) = cosT s d := fun _ _ => rfl
  have hS : ∀ s d : ℕ, Ideal.sin (FloatOps.sitofp (F := Ideal) FTy.f32 (BitVec.ofNat 32 s) *
    Ideal.pow (Ideal.ofBits FTy.f32 1223959552#32)
      (Ideal.div (-FloatOps.sitofp (F := Ideal) FTy.f32 (BitVec.ofNat 32 d)) (Ideal.ofBits FTy.f32 1090519040#32))) = sinT s d := fun _ _ => rfl
  simp only [hC, hS]
  generalize col _ _ _ r = f
  generalize cosT (r.val % 8192) = C
  generalize sinT (r.val % 8192) = S
  have hc := c.isLt
  unfold laneKV turn
  split_ifs <;> first | rfl | (exfalso; omega) | (congr 1; omega) | (congr! 3 <;> omega)

/-- Rows last, read at an index. -/
theorem rows_last (h : _) (h' : _) (h'' : _) (Z : FVec Ideal Cert.InProjReferenceIdeal.S16384x256 .f32) (b : Fin 2) (c : Fin 256) (q : Fin 8192) (hr : 8192 * b.val + q.val < 16384) :
    transpose Cert.InProjReferenceIdeal.S2x256x8192 [0, 2, 1] (shapeCast Cert.InProjReferenceIdeal.S2x8192x256 Z h) h' (ix3 b c q) = truncf .bf16 Z h'' (ix2 ⟨8192 * b.val + q.val, hr⟩ c) := by
  pointwise []
  congr 2
  exact Fin.ext (by dsimp only; omega)
/-- Keys and values of a branch, rows last. -/
theorem ref_v149 (b : Fin 2) (c : Fin 256) (q : Fin 8192) (hr : 8192 * b.val + q.val < 16384) :
    Cert.InProjReferenceIdeal.Value.res_main_v149 (F := Ideal) m d (ix3 b c q)
      = Cert.InProjReferenceIdeal.Value.res_main_v152 (F := Ideal) m d (ix2 ⟨8192 * b.val + q.val, hr⟩ c) := by
  unfold Cert.InProjReferenceIdeal.Value.res_main_v149 Cert.InProjReferenceIdeal.Value.res_main_v152
  exact rows_last _ _ _ _ b c q hr
/-- Keys and values of a branch, rows last. -/
theorem ref_v151 (b : Fin 2) (c : Fin 256) (q : Fin 8192) (hr : 8192 * b.val + q.val < 16384) :
    Cert.InProjReferenceIdeal.Value.res_main_v151 (F := Ideal) m d (ix3 b c q)
      = Cert.InProjReferenceIdeal.Value.res_main_v153 (F := Ideal) m d (ix2 ⟨8192 * b.val + q.val, hr⟩ c) := by
  unfold Cert.InProjReferenceIdeal.Value.res_main_v151 Cert.InProjReferenceIdeal.Value.res_main_v153
  exact rows_last _ _ _ _ b c q hr
end
end Cert.InProjIdeal.Val
end
-- ==== Proof.InProjValue.lean ====
/- The values of the combined input projection: what the call stores, entry by entry, is the plain projection. -/
module
public import proofs.«01_k».proof.Proof.InProjPay
public import proofs.«01_k».proof.Proof.InProjW
public import proofs.«01_k».proof.Proof.InProjRef
public import proofs.«01_k».proof.Defs
public import Idealize.ShloMosaic.Lib.Pointwise
public import Idealize.ShloMosaic.Lib.Pipeline.ValueKit
public import Idealize.ShloMosaic.Lib.StableHlo.RunRead
@[expose] public section
set_option maxRecDepth 16384
noncomputable section
namespace Cert.InProjIdeal.Val
open Idealize.ShloMosaic Idealize.ShloMosaic.TcCoe Idealize.SL.Sem Cert.InProjIdeal Cert.InProjIdeal.Gen

/-- The token at position `q` of sequence `b`. -/
def row (b : Fin 2) (q : Fin 8192) : Fin 16384 := ⟨8192 * b.val + q.val, by omega⟩

section
variable (x : Vec Ideal S16384x1024 .f32) (g : Vec Ideal S1024 .f32) (w : Vec Ideal S1024x1816 .f32)
/-- The results: queries, rotated queries, -/
def outQ : Vec Ideal S16384x1024 .f32 := fun i => laneQ (col x g w (i 0)) (i 1).val
def outQR : Vec Ideal S16384x1024 .f32 := fun i =>
  laneQR (col x g w (i 0)) (cosT ((i 0).val % 8192)) (sinT ((i 0).val % 8192)) (i 1).val
/-- keys and values to compress, rows last, -/
def outC : Vec Ideal S2x256x8192 .f32 := fun i => col x g w (row (i 0) (i 2)) (512 + (i 1).val)
/-- keys and values of the branch at column `b`, rows last, and token by token in half precision, -/
def outF (b : ℕ) : Vec Ideal S2x256x8192 .f32 := fun i =>
  laneKV (col x g w (row (i 0) (i 2))) (cosT (i 2).val) (sinT (i 2).val) b (i 1).val
def outB (b : ℕ) : Vec Ideal S16384x256 .bf16 := fun i =>
  laneKV (col x g w (i 0)) (cosT ((i 0).val % 8192)) (sinT ((i 0).val % 8192)) b (i 1).val
/-- gates, pooled columns. -/
def outG : Vec Ideal S16384x128 .f32 := fun i => laneG (col x g w (i 0)) (i 1).val
def outP : Vec Ideal S16384x512 .f32 := fun i => col x g w (i 0) (1304 + (i 1).val)
end

section
variable (x0 : Vec Ideal S512x1024 .f32) (x1 : Vec Ideal S1x1024 .f32) (x2 : Vec Ideal S1024x2432 .bf16) (x3 x4 x5 : Vec Ideal S512x128 .f32)
    (r : Fin 512) (a : Fin 1024 → EReal) (w : Vec Ideal S1024x1816 .f32) (s : ℕ)
    (ha : ∀ k, k0_pay6 x0 x1 (ix2 r k) = a k)
    (hw : ∀ (k : Fin 1024) (l : Fin 2432), x2 (ix2 k l) = permuted (wAt w k) l)
    (h3 : ∀ l : Fin 128, x3 (ix2 r l) = cs s l) (h4 : ∀ l : Fin 128, x4 (ix2 r l) = sa s l) (h5 : ∀ l : Fin 128, x5 (ix2 r l) = sb s l)

include ha hw in
theorem sl4 (c : Fin 256) : ∑ k : Fin 1024, k0_pay6 x0 x1 (ix2 r k) * View.ld x2 r0_4 (ix2 k c) = dotW a w (512 + c) := by
  have h : ∀ k : Fin 1024, View.ld x2 r0_4 (ix2 k c) = permuted (wAt w k) (1024 + c.val) := by
    intro k
    pointwise [r0_4]
    exact hw _ _
  simp only [ha, h, sum_permuted]
  have hc := c.isLt
  unfold permuted
  rw [if_neg (by omega), if_pos (by omega)]
  congr 1
  omega
include ha hw in
theorem sl6 (c : Fin 256) : ∑ k : Fin 1024, k0_pay6 x0 x1 (ix2 r k) * View.ld x2 r0_6 (ix2 k c) = dotW a w (768 + c) := by
  have h : ∀ k : Fin 1024, View.ld x2 r0_6 (ix2 k c) = permuted (wAt w k) (1280 + c.val) := by
    intro k
    pointwise [r0_6]
    exact hw _ _
  simp only [ha, h, sum_permuted]
  have hc := c.isLt
  unfold permuted
  rw [if_neg (by omega), if_pos (by omega)]
  congr 1
  omega
include ha hw in
theorem sl8 (c : Fin 256) : ∑ k : Fin 1024, k0_pay6 x0 x1 (ix2 r k) * View.ld x2 r0_8 (ix2 k c) = dotW a w (1024 + c) := by
  have h : ∀ k : Fin 1024, View.ld x2 r0_8 (ix2 k c) = permuted (wAt w k) (1536 + c.val) := by
    intro k
    pointwise [r0_8]
    exact hw _ _
  simp only [ha, h, sum_permuted]
  have hc := c.isLt
  unfold permuted
  rw [if_neg (by omega), if_pos (by omega)]
  congr 1
  omega
include ha hw in
theorem sl9 (c : Fin 512) : ∑ k : Fin 1024, k0_pay6 x0 x1 (ix2 r k) * View.ld x2 r0_9 (ix2 k c) = dotW a w (1304 + c) := by
  have h : ∀ k : Fin 1024, View.ld x2 r0_9 (ix2 k c) = permuted (wAt w k) (1792 + c.val) := by
    intro k
    pointwise [r0_9]
    exact hw _ _
  simp only [ha, h, sum_permuted]
  have hc := c.isLt
  unfold permuted
  rw [if_neg (by omega), if_neg (by omega), if_pos (by omega)]
  congr 1
  omega
include ha hw in
theorem sl11 (c : Fin 128) : ∑ k : Fin 1024, k0_pay6 x0 x1 (ix2 r k) * View.ld x2 r0_11 (ix2 k c)
    = if c.val < 24 then dotW a w (1280 + c) else 0 := by
  have h : ∀ k : Fin 1024, View.ld x2 r0_11 (ix2 k c) = permuted (wAt w k) (2304 + c.val) := by
    intro k
    pointwise [r0_11]
    exact hw _ _
  simp only [ha, h, sum_permuted]
  have hc := c.isLt
  unfold permuted
  rw [if_neg (by omega), if_neg (by omega), if_neg (by omega)]
  by_cases h24 : c.val < 24
  · rw [if_pos h24, if_pos (by omega)]
    congr 1
    omega
  · rw [if_neg h24, if_neg (by omega)]

include hw in
theorem ld3 (k l : Fin 1024) : View.ld x2 r0_3 (ix2 k l) = permuted (wAt w k) l.val := by
  pointwise [r0_3]
  exact hw _ _

include ha hw in
theorem out6_row (c : Fin 1024) : out0_6 x0 x1 x2 x3 x4 x5 (ix2 r c) = laneQ (dotW a w) c := by
  unfold_out out0_6
  frame_out
  exact pay10_row _ _ _ r c a w ha (ld3 x2 w hw)
include ha hw h3 h4 h5 in
theorem out7_row (c : Fin 1024) : out0_7 x0 x1 x2 x3 x4 x5 (ix2 r c) = laneQR (dotW a w) (cosT s) (sinT s) c := by
  unfold_out out0_7
  frame_out
  exact pay11_row _ _ _ _ _ _ r c (dotW a w) s (fun c => pay10_row _ _ _ r c a w ha (ld3 x2 w hw)) h3 h4 h5
include ha hw in
theorem out8_row (c : Fin 256) : out0_8 x0 x1 x2 x3 x4 x5 (ix3 0 c r) = dotW a w (512 + c) := by
  unfold_out out0_8
  frame_out
  exact pay12_row _ _ r (dotW a w) 512 (sl4 x0 x1 x2 r a w ha hw) c
include ha hw h3 h4 h5 in
theorem out9_row (c : Fin 256) : out0_9 x0 x1 x2 x3 x4 x5 (ix3 0 c r) = laneKV (dotW a w) (cosT s) (sinT s) 768 c := by
  unfold_out out0_9
  frame_out
  exact pay14_row _ _ _ _ _ r (dotW a w) s 768 (sl6 x0 x1 x2 r a w ha hw)
    (fun l => by refine Eq.trans ?_ (h3 l); pointwise [k0_pay7]) (fun l => by refine Eq.trans ?_ (h4 l); pointwise [k0_pay8])
    (fun l => by refine Eq.trans ?_ (h5 l); pointwise [k0_pay9]) c
include ha hw h3 h4 h5 in
theorem out10_row (c : Fin 256) : out0_10 x0 x1 x2 x3 x4 x5 (ix3 0 c r) = laneKV (dotW a w) (cosT s) (sinT s) 1024 c := by
  unfold_out out0_10
  frame_out
  exact pay2_row _ _ _ _ _ r (dotW a w) s 1024 (fun c => by refine Eq.trans ?_ (sl8 x0 x1 x2 r a w ha hw c); pointwise [k0_pay16])
    (fun l => by refine Eq.trans ?_ (h3 l); pointwise [k0_pay7]) (fun l => by refine Eq.trans ?_ (h4 l); pointwise [k0_pay8])
    (fun l => by refine Eq.trans ?_ (h5 l); pointwise [k0_pay9]) c
include ha hw h3 h4 h5 in
theorem out11_row (c : Fin 256) : out0_11 x0 x1 x2 x3 x4 x5 (ix2 r c) = laneKV (dotW a w) (cosT s) (sinT s) 768 c := by
  unfold_out out0_11
  frame_out
  exact pay15_row _ _ _ _ _ r (dotW a w) s 768 (sl6 x0 x1 x2 r a w ha hw)
    (fun l => by refine Eq.trans ?_ (h3 l); pointwise [k0_pay7]) (fun l => by refine Eq.trans ?_ (h4 l); pointwise [k0_pay8])
    (fun l => by refine Eq.trans ?_ (h5 l); pointwise [k0_pay9]) c
include ha hw h3 h4 h5 in
theorem out12_row (c : Fin 256) : out0_12 x0 x1 x2 x3 x4 x5 (ix2 r c) = laneKV (dotW a w) (cosT s) (sinT s) 1024 c := by
  unfold_out out0_12
  frame_out
  exact pay3_row _ _ _ _ _ r (dotW a w) s 1024 (fun c => by refine Eq.trans ?_ (sl8 x0 x1 x2 r a w ha hw c); pointwise [k0_pay16])
    (fun l => by refine Eq.trans ?_ (h3 l); pointwise [k0_pay7]) (fun l => by refine Eq.trans ?_ (h4 l); pointwise [k0_pay8])
    (fun l => by refine Eq.trans ?_ (h5 l); pointwise [k0_pay9]) c
include ha hw in
theorem out13_row (c : Fin 128) : out0_13 x0 x1 x2 x3 x4 x5 (ix2 r c) = laneG (dotW a w) c := by
  unfold_out out0_13
  frame_out
  rw [pay5_row, sl11 x0 x1 x2 r a w ha hw]
  rfl
include ha hw in
theorem out14_row (c : Fin 512) : out0_14 x0 x1 x2 x3 x4 x5 (ix2 r c) = dotW a w (1304 + c) := by
  unfold_out out0_14
  frame_out
  rw [pay4_row, sl9 x0 x1 x2 r a w ha hw]
end

section
variable (m : (ℓ : Loc nD τ sig) → Buf (Elt Ideal) ℓ) (c : Dev nD)

/-- Where each window's block lies, at every grid point. -/
theorem idx : ∀ t : Fin grid0.N, win0_0.index t = ![t.val, 0] ∧ win0_1.index t = ![0, 0] ∧ win0_2.index t = ![0, 0]
    ∧ win0_3.index t = ![t.val % 16, 0] ∧ win0_4.index t = ![t.val % 16, 0] ∧ win0_5.index t = ![t.val % 16, 0]
    ∧ win0_6.index t = ![t.val, 0] ∧ win0_7.index t = ![t.val, 0] ∧ win0_8.index t = ![t.val / 16, 0, t.val % 16]
    ∧ win0_9.index t = ![t.val / 16, 0, t.val % 16] ∧ win0_10.index t = ![t.val / 16, 0, t.val % 16]
    ∧ win0_11.index t = ![t.val, 0] ∧ win0_12.index t = ![t.val, 0] ∧ win0_13.index t = ![t.val, 0] ∧ win0_14.index t = ![t.val, 0] := by
  decide +kernel

/-- The arguments. -/
def X : Vec Ideal S16384x1024 .f32 := m ((c.tc : Thread nD τ).loc main_arg0)
def G : Vec Ideal S1024 .f32 := m ((c.tc : Thread nD τ).loc main_arg1)
def W : Vec Ideal S1024x1816 .f32 := m ((c.tc : Thread nD τ).loc main_arg2)

theorem v0_at (l : Fin 1024) : V m c main_v0 (ix2 0 l) = G m c (ix1 l) := by
  show StableHlo.after hostOps0 (fun b => m (c, b)) main_v0 (ix2 0 l) = _
  after_reads_simp
  pointwise []
  rfl

section
variable (t : Fin cfg0.N) (r : Fin 512)

theorem e0 (hr : 512 * t.val + r.val < 16384) (k : Fin 1024) : iblk m c 0 t (ix2 r k) = m ((c.tc : Thread nD τ).loc main_arg0) (ix2 ⟨512 * t.val + r.val, hr⟩ k) := by
  blk_ext! [iblk, V, idx t]
theorem e1 (l : Fin 1024) : iblk m c 1 t (ix2 0 l) = V m c main_v0 (ix2 0 l) := by
  blk_ext [iblk, idx t]
theorem e2 (k : Fin 1024) (l : Fin 2432) : iblk m c 2 t (ix2 k l) = permuted (wAt (W m c) k) l := by
  refine Eq.trans ?_ (w_perm m c k l)
  blk_ext [iblk, idx t]
theorem e3 (l : Fin 128) : iblk m c 3 t (ix2 r l) = cs (512 * (t.val % 16) + r.val) l := by
  have hs : 512 * (t.val % 16) + r.val < 8192 := by omega
  refine Eq.trans ?_ (tab_cs m c ⟨512 * (t.val % 16) + r.val, hs⟩ l)
  blk_ext [iblk, idx t]
theorem e4 (l : Fin 128) : iblk m c 4 t (ix2 r l) = sa (512 * (t.val % 16) + r.val) l := by
  have hs : 512 * (t.val % 16) + r.val < 8192 := by omega
  refine Eq.trans ?_ (tab_sa m c ⟨512 * (t.val % 16) + r.val, hs⟩ l)
  blk_ext [iblk, idx t]
theorem e5 (l : Fin 128) : iblk m c 5 t (ix2 r l) = sb (512 * (t.val % 16) + r.val) l := by
  have hs : 512 * (t.val % 16) + r.val < 8192 := by omega
  refine Eq.trans ?_ (tab_sb m c ⟨512 * (t.val % 16) + r.val, hs⟩ l)
  blk_ext [iblk, idx t]
theorem e6 (hr : 512 * t.val + r.val < 16384) (k : Fin 1024) : k0_pay6 (iblk m c 0 t) (iblk m c 1 t) (ix2 r k)
    = rms (fun k => X m c (ix2 ⟨512 * t.val + r.val, hr⟩ k)) (fun k => G m c (ix1 k)) k := by
  refine (pay6_row _ _ r k).trans ?_
  exact congrArg₂ (fun f g => rms f g k) (funext fun k => e0 m c t r hr k) (funext fun k => (e1 m c t k).trans (v0_at m c k))
end

/-- Result 0 after the run. -/
theorem arr6 : (dats (F := Ideal) m 0 c).arrAt 6 cfg0.N = outQ (X m c) (G m c) (W m c) := by
  refine (dats m 0 c).arrAt_eq_of_covers 6 _ (by decide +kernel) fun t hf y => ?_
  blk_simp
  rw [after0_6]
  have hN : t.val < 32 := t.isLt
  obtain ⟨r, q, rfl⟩ : ∃ (r : Fin 512) (q : Fin 1024), y = ix2 r q := ⟨y 0, y 1, eq_ix2 y⟩
  have hr : 512 * t.val + r.val < 16384 := by omega
  refine (out6_row _ _ _ _ _ _ r _ (W m c) (e6 m c t r hr) (e2 m c t) q).trans ?_
  have he : ((View.whole main_v53_0).slice (win0_6.rect t)).emb (ix2 r q) = ix2 (n0 := 16384) (n1 := 1024) ⟨512 * t.val + r.val, hr⟩ q := by
    blk_ext [idx t]
  rw [he]
  rfl
/-- Result 1 after the run. -/
theorem arr7 : (dats (F := Ideal) m 0 c).arrAt 7 cfg0.N = outQR (X m c) (G m c) (W m c) := by
  refine (dats m 0 c).arrAt_eq_of_covers 7 _ (by decide +kernel) fun t hf y => ?_
  blk_simp
  rw [after0_7]
  have hN : t.val < 32 := t.isLt
  obtain ⟨r, q, rfl⟩ : ∃ (r : Fin 512) (q : Fin 1024), y = ix2 r q := ⟨y 0, y 1, eq_ix2 y⟩
  have hr : 512 * t.val + r.val < 16384 := by omega
  refine (out7_row _ _ _ _ _ _ r _ (W m c) (512 * (t.val % 16) + r.val) (e6 m c t r hr) (e2 m c t) (e3 m c t r) (e4 m c t r) (e5 m c t r) q).trans ?_
  have he : ((View.whole main_v53_1).slice (win0_7.rect t)).emb (ix2 r q) = ix2 (n0 := 16384) (n1 := 1024) ⟨512 * t.val + r.val, hr⟩ q := by
    blk_ext [idx t]
  rw [he]
  have hs : 512 * (t.val % 16) + r.val = (512 * t.val + r.val) % 8192 := by omega
  rw [hs]
  rfl
/-- Result 2 after the run. -/
theorem arr8 : (dats (F := Ideal) m 0 c).arrAt 8 cfg0.N = outC (X m c) (G m c) (W m c) := by
  refine (dats m 0 c).arrAt_eq_of_covers 8 _ (by decide +kernel) fun t hf y => ?_
  blk_simp
  rw [after0_8]
  have hN : t.val < 32 := t.isLt
  obtain ⟨z, q, r, rfl⟩ : ∃ (z : Fin 1) (q : Fin 256) (r : Fin 512), y = ix3 z q r := ⟨y 0, y 1, y 2, eq_ix3 y⟩
  obtain rfl : z = 0 := Subsingleton.elim _ _
  have hr : 512 * t.val + r.val < 16384 := by omega
  have hs : 512 * (t.val % 16) + r.val < 8192 := by omega
  refine (out8_row _ _ _ _ _ _ r _ (W m c) (e6 m c t r hr) (e2 m c t) q).trans ?_
  have he : ((View.whole main_v53_2).slice (win0_8.rect t)).emb (ix3 0 q r)
      = ix3 (n0 := 2) (n1 := 256) (n2 := 8192) ⟨t.val / 16, by omega⟩ q ⟨512 * (t.val % 16) + r.val, hs⟩ := by
    blk_ext [idx t]
  rw [he]
  have hrow : row ⟨t.val / 16, by omega⟩ ⟨512 * (t.val % 16) + r.val, hs⟩ = ⟨512 * t.val + r.val, hr⟩ :=
    Fin.ext (by show 8192 * (t.val / 16) + (512 * (t.val % 16) + r.val) = 512 * t.val + r.val; omega)
  unfold outC
  simp only [ix3_0, ix3_1, ix3_2, hrow]
  rfl
/-- Result 3 after the run. -/
theorem arr9 : (dats (F := Ideal) m 0 c).arrAt 9 cfg0.N = outF (X m c) (G m c) (W m c) 768 := by
  refine (dats m 0 c).arrAt_eq_of_covers 9 _ (by decide +kernel) fun t hf y => ?_
  blk_simp
  rw [after0_9]
  have hN : t.val < 32 := t.isLt
  obtain ⟨z, q, r, rfl⟩ : ∃ (z : Fin 1) (q : Fin 256) (r : Fin 512), y = ix3 z q r := ⟨y 0, y 1, y 2, eq_ix3 y⟩
  obtain rfl : z = 0 := Subsingleton.elim _ _
  have hr : 512 * t.val + r.val < 16384 := by omega
  have hs : 512 * (t.val % 16) + r.val < 8192 := by omega
  refine (out9_row _ _ _ _ _ _ r _ (W m c) (512 * (t.val % 16) + r.val) (e6 m c t r hr) (e2 m c t) (e3 m c t r) (e4 m c t r) (e5 m c t r) q).trans ?_
  have he : ((View.whole main_v53_3).slice (win0_9.rect t)).emb (ix3 0 q r)
      = ix3 (n0 := 2) (n1 := 256) (n2 := 8192) ⟨t.val / 16, by omega⟩ q ⟨512 * (t.val % 16) + r.val, hs⟩ := by
    blk_ext [idx t]
  rw [he]
  have hrow : row ⟨t.val / 16, by omega⟩ ⟨512 * (t.val % 16) + r.val, hs⟩ = ⟨512 * t.val + r.val, hr⟩ :=
    Fin.ext (by show 8192 * (t.val / 16) + (512 * (t.val % 16) + r.val) = 512 * t.val + r.val; omega)
  unfold outF
  simp only [ix3_0, ix3_1, ix3_2, hrow]
  rfl
/-- Result 4 after the run. -/
theorem arr10 : (dats (F := Ideal) m 0 c).arrAt 10 cfg0.N = outF (X m c) (G m c) (W m c) 1024 := by
  refine (dats m 0 c).arrAt_eq_of_covers 10 _ (by decide +kernel) fun t hf y => ?_
  blk_simp
  rw [after0_10]
  have hN : t.val < 32 := t.isLt
  obtain ⟨z, q, r, rfl⟩ : ∃ (z : Fin 1) (q : Fin 256) (r : Fin 512), y = ix3 z q r := ⟨y 0, y 1, y 2, eq_ix3 y⟩
  obtain rfl : z = 0 := Subsingleton.elim _ _
  have hr : 512 * t.val + r.val < 16384 := by omega
  have hs : 512 * (t.val % 16) + r.val < 8192 := by omega
  refine (out10_row _ _ _ _ _ _ r _ (W m c) (512 * (t.val % 16) + r.val) (e6 m c t r hr) (e2 m c t) (e3 m c t r) (e4 m c t r) (e5 m c t r) q).trans ?_
  have he : ((View.whole main_v53_4).slice (win0_10.rect t)).emb (ix3 0 q r)
      = ix3 (n0 := 2) (n1 := 256) (n2 := 8192) ⟨t.val / 16, by omega⟩ q ⟨512 * (t.val % 16) + r.val, hs⟩ := by
    blk_ext [idx t]
  rw [he]
  have hrow : row ⟨t.val / 16, by omega⟩ ⟨512 * (t.val % 16) + r.val, hs⟩ = ⟨512 * t.val + r.val, hr⟩ :=
    Fin.ext (by show 8192 * (t.val / 16) + (512 * (t.val % 16) + r.val) = 512 * t.val + r.val; omega)
  unfold outF
  simp only [ix3_0, ix3_1, ix3_2, hrow]
  rfl
/-- Result 5 after the run. -/
theorem arr11 : (dats (F := Ideal) m 0 c).arrAt 11 cfg0.N = outB (X m c) (G m c) (W m c) 768 := by
  refine (dats m 0 c).arrAt_eq_of_covers 11 _ (by decide +kernel) fun t hf y => ?_
  blk_simp
  rw [after0_11]
  have hN : t.val < 32 := t.isLt
  obtain ⟨r, q, rfl⟩ : ∃ (r : Fin 512) (q : Fin 256), y = ix2 r q := ⟨y 0, y 1, eq_ix2 y⟩
  have hr : 512 * t.val + r.val < 16384 := by omega
  refine (out11_row _ _ _ _ _ _ r _ (W m c) (512 * (t.val % 16) + r.val) (e6 m c t r hr) (e2 m c t) (e3 m c t r) (e4 m c t r) (e5 m c t r) q).trans ?_
  have he : ((View.whole main_v53_5).slice (win0_11.rect t)).emb (ix2 r q) = ix2 (n0 := 16384) (n1 := 256) ⟨512 * t.val + r.val, hr⟩ q := by
    blk_ext [idx t]
  rw [he]
  have hs : 512 * (t.val % 16) + r.val = (512 * t.val + r.val) % 8192 := by omega
  rw [hs]
  rfl
/-- Result 6 after the run. -/
theorem arr12 : (dats (F := Ideal) m 0 c).arrAt 12 cfg0.N = outB (X m c) (G m c) (W m c) 1024 := by
  refine (dats m 0 c).arrAt_eq_of_covers 12 _ (by decide +kernel) fun t hf y => ?_
  blk_simp
  rw [after0_12]
  have hN : t.val < 32 := t.isLt
  obtain ⟨r, q, rfl⟩ : ∃ (r : Fin 512) (q : Fin 256), y = ix2 r q := ⟨y 0, y 1, eq_ix2 y⟩
  have hr : 512 * t.val + r.val < 16384 := by omega
  refine (out12_row _ _ _ _ _ _ r _ (W m c) (512 * (t.val % 16) + r.val) (e6 m c t r hr) (e2 m c t) (e3 m c t r) (e4 m c t r) (e5 m c t r) q).trans ?_
  have he : ((View.whole main_v53_6).slice (win0_12.rect t)).emb (ix2 r q) = ix2 (n0 := 16384) (n1 := 256) ⟨512 * t.val + r.val, hr⟩ q := by
    blk_ext [idx t]
  rw [he]
  have hs : 512 * (t.val % 16) + r.val = (512 * t.val + r.val) % 8192 := by omega
  rw [hs]
  rfl
/-- Result 7 after the run. -/
theorem arr13 : (dats (F := Ideal) m 0 c).arrAt 13 cfg0.N = outG (X m c) (G m c) (W m c) := by
  refine (dats m 0 c).arrAt_eq_of_covers 13 _ (by decide +kernel) fun t hf y => ?_
  blk_simp
  rw [after0_13]
  have hN : t.val < 32 := t.isLt
  obtain ⟨r, q, rfl⟩ : ∃ (r : Fin 512) (q : Fin 128), y = ix2 r q := ⟨y 0, y 1, eq_ix2 y⟩
  have hr : 512 * t.val + r.val < 16384 := by omega
  refine (out13_row _ _ _ _ _ _ r _ (W m c) (e6 m c t r hr) (e2 m c t) q).trans ?_
  have he : ((View.whole main_v53_7).slice (win0_13.rect t)).emb (ix2 r q) = ix2 (n0 := 16384) (n1 := 128) ⟨512 * t.val + r.val, hr⟩ q := by
    blk_ext [idx t]
  rw [he]
  rfl
/-- Result 8 after the run. -/
theorem arr14 : (dats (F := Ideal) m 0 c).arrAt 14 cfg0.N = outP (X m c) (G m c) (W m c) := by
  refine (dats m 0 c).arrAt_eq_of_covers 14 _ (by decide +kernel) fun t hf y => ?_
  blk_simp
  rw [after0_14]
  have hN : t.val < 32 := t.isLt
  obtain ⟨r, q, rfl⟩ : ∃ (r : Fin 512) (q : Fin 512), y = ix2 r q := ⟨y 0, y 1, eq_ix2 y⟩
  have hr : 512 * t.val + r.val < 16384 := by omega
  refine (out14_row _ _ _ _ _ _ r _ (W m c) (e6 m c t r hr) (e2 m c t) q).trans ?_
  have he : ((View.whole main_v53_8).slice (win0_14.rect t)).emb (ix2 r q) = ix2 (n0 := 16384) (n1 := 512) ⟨512 * t.val + r.val, hr⟩ q := by
    blk_ext [idx t]
  rw [he]
  rfl
end

set_option maxHeartbeats 4000000 in
/-- At extended reals the call and its reference run and end with equal results, the arguments unchanged. -/
theorem equal : Cert.algebraic_InProjIdeal_InProjReferenceIdeal (hInProjIdeal := Cert.InProjIdeal.Gen.facts)
    (hInProjReferenceIdeal := Cert.InProjReferenceIdeal.Gen.facts) := by
  intro m ρ m' ρ' _ hagree
  refine ⟨fun c => outQ (X m c) (G m c) (W m c), fun c => outQR (X m c) (G m c) (W m c), fun c => outC (X m c) (G m c) (W m c), fun c => outF (X m c) (G m c) (W m c) 768, fun c => outF (X m c) (G m c) (W m c) 1024, fun c => outB (X m c) (G m c) (W m c) 768, fun c => outB (X m c) (G m c) (W m c) 1024, fun c => outG (X m c) (G m c) (W m c), fun c => outP (X m c) (G m c) (W m c),
    (θ_run defs _ _).mono (fun _ h c => ⟨((h c).1).trans (arr6 m c), ((h c).2.1).trans (arr7 m c), ((h c).2.2.1).trans (arr8 m c), ((h c).2.2.2.1).trans (arr9 m c), ((h c).2.2.2.2.1).trans (arr10 m c), ((h c).2.2.2.2.2.1).trans (arr11 m c), ((h c).2.2.2.2.2.2.1).trans (arr12 m c), ((h c).2.2.2.2.2.2.2.1).trans (arr13 m c), ((h c).2.2.2.2.2.2.2.2.1).trans (arr14 m c), (h c).2.2.2.2.2.2.2.2.2⟩) (Cert.InProjIdeal.Value.run_blocks m ρ), ?_⟩
  refine (θ_run Cert.InProjReferenceIdeal.defs _ _).mono (fun _ h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, (h c).2.2.2.2.2.2.2.2.2⟩)
    (Cert.InProjReferenceIdeal.Value.run (F := Ideal) m' ρ')
  · obtain ⟨h0, h1, h2⟩ := hagree c
    funext i
    obtain ⟨r, q, rfl⟩ : ∃ (r : Fin 16384) (q : Fin 1024), i = ix2 r q := ⟨i 0, i 1, eq_ix2 i⟩
    rw [h0, h1, h2]
    generalize hD : Host.dotGeneral (F := Ideal) Cert.InProjReferenceIdeal.dot_S16384x1024_S1024x1816_S16384x1816_1_0_0_1_n_n none _ _ = P
    have hP : ∀ (n : Fin 16384) (j : ℕ) (h : j < 1816), P (ix2 n ⟨j, h⟩) = col (X m c) (G m c) (W m c) n j := by
      intro n j h
      rw [← hD]
      unfold col dotW wAt
      simp only [dif_pos h]
      pointwise []
      rfl
    clear hD
    pointwise []
    simp only [hP]
    show _ = laneQ (col (X m c) (G m c) (W m c) r) q.val
    generalize col _ _ _ r = f
    have hq := q.isLt
    unfold laneQ
    split_ifs <;> first | rfl | (exfalso; omega) | (congr 1; omega)
  · obtain ⟨h0, h1, h2⟩ := hagree c
    funext i
    obtain ⟨r, q, rfl⟩ : ∃ (r : Fin 16384) (q : Fin 1024), i = ix2 r q := ⟨i 0, i 1, eq_ix2 i⟩
    rw [ref_v145, h0, h1, h2]
    rfl
  · obtain ⟨h0, h1, h2⟩ := hagree c
    funext i
    obtain ⟨b, q, r, rfl⟩ : ∃ (b : Fin 2) (q : Fin 256) (r : Fin 8192), i = ix3 b q r := ⟨i 0, i 1, i 2, eq_ix3 i⟩
    have hr : 8192 * b.val + r.val < 16384 := by omega
    rw [h0, h1, h2]
    generalize hD : Host.dotGeneral (F := Ideal) Cert.InProjReferenceIdeal.dot_S16384x1024_S1024x1816_S16384x1816_1_0_0_1_n_n none _ _ = P
    have hP : ∀ (n : Fin 16384) (j : ℕ) (h : j < 1816), P (ix2 n ⟨j, h⟩) = col (X m c) (G m c) (W m c) n j := by
      intro n j h
      rw [← hD]
      unfold col dotW wAt
      simp only [dif_pos h]
      pointwise []
      rfl
    clear hD
    pointwise []
    simp only [hP]
    show _ = col (X m c) (G m c) (W m c) (row b r) (512 + q.val)
    congr 1
    exact Fin.ext (by show b.val * 8192 + r.val = 8192 * b.val + r.val; omega)
  · obtain ⟨h0, h1, h2⟩ := hagree c
    funext i
    obtain ⟨b, q, r, rfl⟩ : ∃ (b : Fin 2) (q : Fin 256) (r : Fin 8192), i = ix3 b q r := ⟨i 0, i 1, i 2, eq_ix3 i⟩
    have hr : 8192 * b.val + r.val < 16384 := by omega
    rw [ref_v149 m' c b q r hr, ref_v152, h0, h1, h2]
    have e : (8192 * b.val + r.val) % 8192 = r.val := by omega
    simp only [e]
    rfl
  · obtain ⟨h0, h1, h2⟩ := hagree c
    funext i
    obtain ⟨b, q, r, rfl⟩ : ∃ (b : Fin 2) (q : Fin 256) (r : Fin 8192), i = ix3 b q r := ⟨i 0, i 1, i 2, eq_ix3 i⟩
    have hr : 8192 * b.val + r.val < 16384 := by omega
    rw [ref_v151 m' c b q r hr, ref_v153, h0, h1, h2]
    have e : (8192 * b.val + r.val) % 8192 = r.val := by omega
    simp only [e]
    rfl
  · obtain ⟨h0, h1, h2⟩ := hagree c
    funext i
    obtain ⟨r, q, rfl⟩ : ∃ (r : Fin 16384) (q : Fin 256), i = ix2 r q := ⟨i 0, i 1, eq_ix2 i⟩
    rw [ref_v152, h0, h1, h2]
    rfl
  · obtain ⟨h0, h1, h2⟩ := hagree c
    funext i
    obtain ⟨r, q, rfl⟩ : ∃ (r : Fin 16384) (q : Fin 256), i = ix2 r q := ⟨i 0, i 1, eq_ix2 i⟩
    rw [ref_v153, h0, h1, h2]
    rfl
  · obtain ⟨h0, h1, h2⟩ := hagree c
    funext i
    obtain ⟨r, q, rfl⟩ : ∃ (r : Fin 16384) (q : Fin 128), i = ix2 r q := ⟨i 0, i 1, eq_ix2 i⟩
    rw [h0, h1, h2]
    generalize hD : Host.dotGeneral (F := Ideal) Cert.InProjReferenceIdeal.dot_S16384x1024_S1024x1816_S16384x1816_1_0_0_1_n_n none _ _ = P
    have hP : ∀ (n : Fin 16384) (j : ℕ) (h : j < 1816), P (ix2 n ⟨j, h⟩) = col (X m c) (G m c) (W m c) n j := by
      intro n j h
      rw [← hD]
      unfold col dotW wAt
      simp only [dif_pos h]
      pointwise []
      rfl
    clear hD
    pointwise []
    simp only [hP]
    rfl
  · obtain ⟨h0, h1, h2⟩ := hagree c
    funext i
    obtain ⟨r, q, rfl⟩ : ∃ (r : Fin 16384) (q : Fin 512), i = ix2 r q := ⟨i 0, i 1, eq_ix2 i⟩
    rw [h0, h1, h2]
    generalize hD : Host.dotGeneral (F := Ideal) Cert.InProjReferenceIdeal.dot_S16384x1024_S1024x1816_S16384x1816_1_0_0_1_n_n none _ _ = P
    have hP : ∀ (n : Fin 16384) (j : ℕ) (h : j < 1816), P (ix2 n ⟨j, h⟩) = col (X m c) (G m c) (W m c) n j := by
      intro n j h
      rw [← hD]
      unfold col dotW wAt
      simp only [dif_pos h]
      pointwise []
      rfl
    clear hD
    pointwise []
    simp only [hP]
    rfl

/-- The reference's frame: it runs and leaves its arguments as they were. -/
theorem ref_frame : Cert.quiescent_InProjReferenceIdeal (hInProjReferenceIdeal := Cert.InProjReferenceIdeal.Gen.facts) := fun m ρ _ =>
  (θ_run Cert.InProjReferenceIdeal.defs _ _).mono (fun r h => ⟨fun c => (h c).2.2.2.2.2.2.2.2.2, Idealize.ShloMosaic.sem_eq_zero_of_no_sems (by decide) r.2⟩)
    (Cert.InProjReferenceIdeal.Value.run (F := Ideal) m ρ)
end Cert.InProjIdeal.Val
end
-- ==== Proof.MemKvValue.lean ====
/- The values of the memory tokens' call: its three results, entry by entry, are those of the plain reference. -/
module
public import proofs.«01_k».proof.Proof.Gen.MemKvIdeal.Value
public import proofs.«01_k».proof.Proof.Gen.MemKvReferenceIdeal.Run
public import proofs.«01_k».proof.Defs
public import Idealize.ShloMosaic.Lib.Pointwise
public import Idealize.ShloMosaic.Lib.Pipeline.ValueKit
@[expose] public section
set_option maxRecDepth 16384
noncomputable section
namespace Cert.MemKvIdeal.Val
open Idealize.ShloMosaic Idealize.ShloMosaic.TcCoe Idealize.SL.Sem Cert.MemKvIdeal Cert.MemKvIdeal.Gen

/-- An entry of keys and values: the token's row over its root mean square, times the gain, through the matrix's column. -/
def kvAt (x g w : Fin 1024 → EReal) : EReal :=
  ∑ k, x k * Ideal.rsqrt (Ideal.div (∑ k, x k * x k) (Ideal.ofBits FTy.f32 1149239296#32) + Ideal.ofBits FTy.f32 897988541#32) * g k * w k

section
variable (x : Vec Ideal S512x1024 .f32) (g : Vec Ideal S1024 .f32) (w : Vec Ideal S1024x1024 .f32)
/-- The keys and values of token `n`. -/
def tok (n : Fin 512) (c : Fin 1024) : EReal := kvAt (fun k => x (ix2 n k)) (fun k => g (ix1 k)) (fun k => w (ix2 k c))
/-- Feature `a` of head `h` over tokens: values above, below them a row of ones, then zeros. -/
def vtAt (f : Fin 1024 → EReal) (h a : ℕ) : EReal :=
  if hh : a < 128 ∧ h < 4 then f ⟨512 + 128 * h + a, by omega⟩
  else if a = 128 then 1 else 0
def out1 : Vec Ideal S512x1024 .f32 := fun i => tok x g w (i 0) (i 1)
def out2 : Vec Ideal S512x512 .bf16 := fun i => tok x g w (i 0) ⟨(i 1).val, Nat.lt_trans (i 1).isLt (by decide)⟩
def out3 : Vec Ideal S2x4x144x256 .bf16 := fun i =>
  vtAt (tok x g w ⟨256 * (i 0).val + (i 3).val, by have h0 : (i 0).val < 2 := (i 0).isLt; have h3 : (i 3).val < 256 := (i 3).isLt; omega⟩) (i 1).val (i 2).val
end

theorem pay2_row (v0 : Vec Ideal S256x1024 .f32) (v1 : Vec Ideal S1x1024 .f32) (v16 : Vec Ideal S1024x1024 .bf16) (r : Fin 256) (c : Fin 1024) :
    k0_pay2 v0 v1 v16 (ix2 r c) = kvAt (fun k => v0 (ix2 r k)) (fun k => v1 (ix2 0 k)) (fun k => v16 (ix2 k c)) := by
  pointwise [k0_pay2]
  rfl

theorem sel_ones (n : ℕ) (hn : n < 16) :
    Scalar.select (IntOp.cmpi CmpIPredicate.eq (BitVec.ofNat 32 n) 0#32) (1 : EReal) 0 = if n = 0 then 1 else 0 := by
  interval_cases n <;> rfl

theorem vt_rows (f : Fin 1024 → EReal) (h a : ℕ) (g : a < 128 → EReal) (ha : a < 144) (hh : h < 4)
    (hg : ∀ hl, g hl = f ⟨512 + 128 * h + a, by omega⟩) :
    (if hl : a < 128 then g hl
      else Scalar.select (IntOp.cmpi CmpIPredicate.eq (BitVec.ofNat 32 (a - 128)) 0#32) (1 : EReal) 0) = vtAt f h a := by
  unfold vtAt
  by_cases hl : a < 128
  · rw [dif_pos hl, dif_pos ⟨hl, hh⟩, hg hl]
  · rw [dif_neg hl, dif_neg (fun t => hl t.1), sel_ones _ (by omega)]
    by_cases h2 : a = 128
    · rw [if_pos (by omega), if_pos h2]
    · rw [if_neg (by omega), if_neg h2]

section
variable (v18 : FVec Ideal S256x1024 .f32) (a : Fin 144) (b : Fin 256)
theorem head1 : k0_pay6 v18 (ix4 0 0 a b) = vtAt (fun c => v18 (ix2 b c)) 1 a := by
  have ha := a.isLt
  pointwise [k0_pay6, k0_pay8]
  exact vt_rows _ 1 _ _ ha (by decide) (fun hl => congrArg (fun q => v18 (ix2 b q)) (Fin.ext (by simp only)))
theorem head2 : k0_pay7 v18 (ix4 0 0 a b) = vtAt (fun c => v18 (ix2 b c)) 2 a := by
  have ha := a.isLt
  pointwise [k0_pay7, k0_pay8]
  exact vt_rows _ 2 _ _ ha (by decide) (fun hl => congrArg (fun q => v18 (ix2 b q)) (Fin.ext (by simp only)))
theorem head3 : k0_pay1 (k0_pay8 v18) (ix4 0 0 a b) = vtAt (fun c => v18 (ix2 b c)) 3 a := by
  have ha := a.isLt
  pointwise [k0_pay1, k0_pay8]
  exact vt_rows _ 3 _ _ ha (by decide) (fun hl => congrArg (fun q => v18 (ix2 b q)) (Fin.ext (by simp only)))
end
theorem head0 (v0 : Vec Ideal S256x1024 .f32) (v1 : Vec Ideal S1x1024 .f32) (v16 : Vec Ideal S1024x1024 .bf16) (a : Fin 144) (b : Fin 256) :
    k0_pay5 (k0_pay4 v0 v1 v16) (ix4 0 0 a b) = vtAt (fun c => k0_pay2 v0 v1 v16 (ix2 b c)) 0 a := by
  have ha := a.isLt
  pointwise [k0_pay5, k0_pay4]
  exact vt_rows _ 0 _ _ ha (by decide) (fun hl => congrArg (fun q => k0_pay2 v0 v1 v16 (ix2 b q)) (Fin.ext (by simp only)))

section
variable (x0 : Vec Ideal S256x1024 .f32) (x1 : Vec Ideal S1x1024 .f32) (x2 : Vec Ideal S1024x1024 .bf16)
theorem out3_row (r : Fin 256) (c : Fin 1024) : out0_3 x0 x1 x2 (ix2 r c)
    = kvAt (fun k => x0 (ix2 r k)) (fun k => x1 (ix2 0 k)) (fun k => x2 (ix2 k c)) := by
  unfold_out out0_3
  frame_out
  exact pay2_row _ _ _ r c
theorem out4_row (r : Fin 256) (c : Fin 512) : out0_4 x0 x1 x2 (ix2 r c)
    = kvAt (fun k => x0 (ix2 r k)) (fun k => x1 (ix2 0 k)) (fun k => x2 (ix2 k ⟨c.val, by omega⟩)) := by
  unfold_out out0_4
  frame_out
  refine Eq.trans ?_ (pay2_row _ _ _ r ⟨c.val, by omega⟩)
  pointwise [k0_pay3]
theorem out5_row (h : Fin 4) (a : Fin 144) (b : Fin 256) : out0_5 x0 x1 x2 (ix4 0 h a b)
    = vtAt (fun c => kvAt (fun k => x0 (ix2 b k)) (fun k => x1 (ix2 0 k)) (fun k => x2 (ix2 k c))) h a := by
  have hb (x : S1x1x144x256.Idx) (h2 : a.val = (x 2).val) (h3 : b.val = (x 3).val) : x = ix4 0 0 a b := by
    have e0 : x 0 = (0 : Fin 1) := Subsingleton.elim (α := Fin 1) _ _
    have e1 : x 1 = (0 : Fin 1) := Subsingleton.elim (α := Fin 1) _ _
    have e2 : x 2 = a := Fin.ext h2.symm
    have e3 : x 3 = b := Fin.ext h3.symm
    rw [← e0, ← e2, ← e3]
    exact (eq_ix4 x).trans (by rw [e1, e0])
  have hk : (fun c => k0_pay9 x0 x1 x2 (ix2 b c))
      = fun c => kvAt (fun k => x0 (ix2 b k)) (fun k => x1 (ix2 0 k)) (fun k => x2 (ix2 k c)) := funext fun c => by
    refine Eq.trans ?_ (pay2_row _ _ _ b c)
    unfold k0_pay9
    frame_out
  have hk2 : (fun c => k0_pay2 (View.ld x0 r0_0) (View.ld x1 r0_1) (View.ld x2 r0_2) (ix2 b c))
      = fun c => kvAt (fun k => x0 (ix2 b k)) (fun k => x1 (ix2 0 k)) (fun k => x2 (ix2 k c)) := funext fun c => by
    refine Eq.trans ?_ (pay2_row _ _ _ b c)
    frame_out
  unfold out0_5
  canon_tiles x hx using cover0_5 _ _ _ _ _
  case piece0 =>
    have hh : h.val = 3 + (x 1).val := hx1
    obtain rfl : h = 3 := Fin.ext (by show h.val = 3; omega)
    rw [hb x hx2 hx3]
    exact (head3 _ a b).trans (congrArg (fun f => vtAt f 3 a) hk)
  case piece1 =>
    have hh : h.val = 2 + (x 1).val := hx1
    obtain rfl : h = 2 := Fin.ext (by show h.val = 2; omega)
    rw [hb x hx2 hx3]
    exact (head2 _ a b).trans (congrArg (fun f => vtAt f 2 a) hk)
  case piece2 =>
    have hh : h.val = 1 + (x 1).val := hx1
    obtain rfl : h = 1 := Fin.ext (by show h.val = 1; omega)
    rw [hb x hx2 hx3]
    exact (head1 _ a b).trans (congrArg (fun f => vtAt f 1 a) hk)
  case piece3 =>
    have hh : h.val = (x 1).val := hx1
    obtain rfl : h = 0 := Fin.ext (by show h.val = 0; omega)
    rw [hb x hx2 hx3]
    exact (head0 _ _ _ a b).trans (congrArg (fun f => vtAt f 0 a) hk2)
end

theorem idx : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0, 0, 0] := by decide +kernel

section
variable (m : (ℓ : Loc nD τ sig) → Buf (Elt Ideal) ℓ) (c : Dev nD)
/-- The call's first argument. -/
abbrev a0 : Vec Ideal S512x1024 .f32 := m ((c.tc : Thread nD τ).loc main_arg0)
/-- The call's second argument. -/
abbrev a1 : Vec Ideal S1024 .f32 := m ((c.tc : Thread nD τ).loc main_arg1)
/-- The call's third argument. -/
abbrev a2 : Vec Ideal S1024x1024 .f32 := m ((c.tc : Thread nD τ).loc main_arg2)

section
variable (t : Fin cfg0.N) (r : Fin 256) (hr : 256 * t.val + r.val < 512)
theorem e0 (k : Fin 1024) : iblk m c 0 t (ix2 r k) = a0 m c (ix2 ⟨256 * t.val + r.val, hr⟩ k) := by
  blk_ext! [iblk, V, idx t]
theorem e1 (k : Fin 1024) : iblk m c 1 t (ix2 0 k) = a1 m c (ix1 k) := by
  blk_ext! [iblk, V, idx t]
theorem e2 (k l : Fin 1024) : iblk m c 2 t (ix2 k l) = a2 m c (ix2 k l) := by
  blk_ext! [iblk, V, idx t]
theorem e3 (l : Fin 1024) : kvAt (fun k => iblk m c 0 t (ix2 r k)) (fun k => iblk m c 1 t (ix2 0 k)) (fun k => iblk m c 2 t (ix2 k l))
    = tok (a0 m c) (a1 m c) (a2 m c) ⟨256 * t.val + r.val, hr⟩ l := by
  simp only [e0 m c t r hr, e1, e2]
  rfl
end

theorem arr3 : (dats (F := Ideal) m 0 c).arrAt 3 cfg0.N = out1 (a0 m c) (a1 m c) (a2 m c) := by
  refine (dats m 0 c).arrAt_eq_of_covers 3 _ (by decide +kernel) fun t hf y => ?_
  blk_simp
  rw [after0_3]
  obtain ⟨r, q, rfl⟩ : ∃ (r : Fin 256) (q : Fin 1024), y = ix2 r q := ⟨y 0, y 1, eq_ix2 y⟩
  refine (out3_row _ _ _ r q).trans ?_
  have hN : t.val < 2 := t.isLt
  have hr : 256 * t.val + r.val < 512 := by omega
  have he : ((View.whole main_v2_0).slice (win0_3.rect t)).emb (ix2 r q) = ix2 (n0 := 512) (n1 := 1024) ⟨256 * t.val + r.val, hr⟩ q := by
    blk_ext [idx t]
  rw [he]
  exact e3 m c t r hr q

theorem arr4 : (dats (F := Ideal) m 0 c).arrAt 4 cfg0.N = out2 (a0 m c) (a1 m c) (a2 m c) := by
  refine (dats m 0 c).arrAt_eq_of_covers 4 _ (by decide +kernel) fun t hf y => ?_
  blk_simp
  rw [after0_4]
  obtain ⟨r, q, rfl⟩ : ∃ (r : Fin 256) (q : Fin 512), y = ix2 r q := ⟨y 0, y 1, eq_ix2 y⟩
  refine (out4_row _ _ _ r q).trans ?_
  have hN : t.val < 2 := t.isLt
  have hr : 256 * t.val + r.val < 512 := by omega
  have he : ((View.whole main_v2_1).slice (win0_4.rect t)).emb (ix2 r q) = ix2 (n0 := 512) (n1 := 512) ⟨256 * t.val + r.val, hr⟩ q := by
    blk_ext [idx t]
  rw [he]
  exact e3 m c t r hr ⟨q.val, by omega⟩

theorem arr5 : (dats (F := Ideal) m 0 c).arrAt 5 cfg0.N = out3 (a0 m c) (a1 m c) (a2 m c) := by
  refine (dats m 0 c).arrAt_eq_of_covers 5 _ (by decide +kernel) fun t hf y => ?_
  blk_simp
  rw [after0_5]
  obtain ⟨z, h, a, b, rfl⟩ : ∃ (z : Fin 1) (h : Fin 4) (a : Fin 144) (b : Fin 256), y = ix4 z h a b := ⟨y 0, y 1, y 2, y 3, eq_ix4 y⟩
  obtain rfl : z = 0 := Subsingleton.elim _ _
  refine (out5_row _ _ _ h a b).trans ?_
  have hN : t.val < 2 := t.isLt
  have hr : 256 * t.val + b.val < 512 := by omega
  have he : ((View.whole main_v2_2).slice (win0_5.rect t)).emb (ix4 0 h a b) = ix4 (n0 := 2) (n1 := 4) (n2 := 144) (n3 := 256) ⟨t.val, hN⟩ h a b := by
    blk_ext [idx t]
  rw [he]
  exact congrArg (fun f => vtAt f h a) (funext fun l => e3 m c t b hr l)
end

section
open Cert.MemKvReferenceIdeal
theorem vt_cat (f : Fin 1024 → EReal) (h a : ℕ) (ha : a < 144) (hh : h < 4) (g : a < 128 → EReal)
    (hg : ∀ hl, g hl = f ⟨512 + 128 * h + a, by omega⟩) :
    (if hl : a < 128 then g hl else if _hr : a - 128 < 1 then (1 : EReal) else 0) = vtAt f h a := by
  unfold vtAt
  by_cases hl : a < 128
  · rw [dif_pos hl, dif_pos ⟨hl, hh⟩, hg hl]
  · rw [dif_neg hl, dif_neg (c := a < 128 ∧ h < 4) (fun t => hl t.1)]
    by_cases h2 : a = 128
    · rw [dif_pos (by omega), if_pos h2]
    · rw [dif_neg (by omega), if_neg h2]
end

/-- At extended reals the call and its reference run and end with equal results, the arguments unchanged. -/
theorem equal : Cert.algebraic_MemKvIdeal_MemKvReferenceIdeal (hMemKvIdeal := Cert.MemKvIdeal.Gen.facts)
    (hMemKvReferenceIdeal := Cert.MemKvReferenceIdeal.Gen.facts) := by
  intro m ρ m' ρ' _ hagree
  refine ⟨fun c => out1 (a0 m c) (a1 m c) (a2 m c), fun c => out2 (a0 m c) (a1 m c) (a2 m c), fun c => out3 (a0 m c) (a1 m c) (a2 m c),
    (θ_run defs _ _).mono (fun _ h c => ⟨(h c).1.trans (arr3 m c), (h c).2.1.trans (arr4 m c), (h c).2.2.1.trans (arr5 m c), (h c).2.2.2⟩)
      (Cert.MemKvIdeal.Value.run_blocks m ρ), ?_⟩
  refine (θ_run Cert.MemKvReferenceIdeal.defs _ _).mono (fun _ h c => ⟨(h c).1.trans ?_, (h c).2.1.trans ?_, (h c).2.2.1.trans ?_, (h c).2.2.2⟩)
    (Cert.MemKvReferenceIdeal.Value.run (F := Ideal) m' ρ')
  · obtain ⟨h0, h1, h2⟩ := hagree c
    rw [h0, h1, h2]
    funext i
    obtain ⟨r, q, rfl⟩ : ∃ (r : Fin 512) (q : Fin 1024), i = ix2 r q := ⟨i 0, i 1, eq_ix2 i⟩
    pointwise []
    rfl
  · obtain ⟨h0, h1, h2⟩ := hagree c
    rw [h0, h1, h2]
    funext i
    obtain ⟨r, q, rfl⟩ : ∃ (r : Fin 512) (q : Fin 512), i = ix2 r q := ⟨i 0, i 1, eq_ix2 i⟩
    pointwise []
    rfl
  · obtain ⟨h0, h1, h2⟩ := hagree c
    rw [h0, h1, h2]
    funext i
    obtain ⟨z, h, a, b, rfl⟩ : ∃ (z : Fin 2) (h : Fin 4) (a : Fin 144) (b : Fin 256), i = ix4 z h a b := ⟨i 0, i 1, i 2, i 3, eq_ix4 i⟩
    generalize hD : Host.dotGeneral (F := Ideal) Cert.MemKvReferenceIdeal.dot_S512x1024_S1024x1024_S512x1024_1_0_0_1_n_n none _ _ = P
    have hP (r : Fin 512) (q : Fin 1024) : P (ix2 r q) = tok (a0 m c) (a1 m c) (a2 m c) r q := by
      rw [← hD]
      pointwise []
      rfl
    clear hD
    pointwise []
    exact vt_cat (tok (a0 m c) (a1 m c) (a2 m c) ⟨256 * z.val + b.val, by omega⟩) h.val a.val a.isLt h.isLt _
      (fun hl => (hP _ _).trans (congrArg₂ (tok (a0 m c) (a1 m c) (a2 m c)) (Fin.ext (by simp only; omega)) (Fin.ext (by simp only; omega))))

/-- The reference's frame: it runs and leaves its arguments as they were. -/
theorem ref_frame : Cert.quiescent_MemKvReferenceIdeal (hMemKvReferenceIdeal := Cert.MemKvReferenceIdeal.Gen.facts) := fun m ρ _ =>
  (θ_run Cert.MemKvReferenceIdeal.defs _ _).mono (fun r h => ⟨fun c => (h c).2.2.2, Idealize.ShloMosaic.sem_eq_zero_of_no_sems (by decide) r.2⟩)
    (Cert.MemKvReferenceIdeal.Value.run (F := Ideal) m ρ)
end Cert.MemKvIdeal.Val
end
-- ==== Proof.CompressRun.lean ====
/- The compression's body at the ideal numbers: what each of its steps leaves in memory. -/
module
public import proofs.«01_k».proof.Proof.Gen.CompressIdeal.Frame
@[expose] public section
namespace Cert.CompressIdeal.Val
open Idealize.ShloMosaic Idealize.ShloMosaic.TcCoe Idealize.ShloMosaic.Tactic Cert.CompressIdeal.Gen
variable {F : FTy → Type} [FloatOps F]

/-- A page of 128 tokens lies in the block. -/
theorem pageIn (k : Fin 64) : ∀ a : Fin S1x256x8192.rank, (![0, 0, 128 * k.val] : Fin 3 → ℕ) a + S1x256x128.size a ≤ S1x256x8192.size a := by
  revert k; decide +kernel

/-- Eight rows of a page's 128, at one of its two lane halves, lie in the page. -/
theorem rowsIn (c : Fin 2) (s : Fin 16) : S128x256.Slices ![8 * s.val, 128 * c.val] S8x128 := by
  revert c s; decide +kernel

/-- Sixty-four pieces of eight rows are the 512 rows. -/
theorem catRows {α : Type} (f : Fin 64 → S8x128.Idx → α) :
    Shape.Concatenates ((List.ofFn fun n : Fin 64 => (⟨S8x128, f n⟩ : (s : Shape) × (s.Idx → α))).map (·.1)) S512x128 0 := by
  rw [List.map_ofFn]
  show Shape.Concatenates (List.ofFn fun _ : Fin 64 => S8x128) S512x128 0
  decide +kernel

/-- Sixteen pieces of 128 lanes are the 2048 lanes. -/
theorem catLanes {α : Type} (f : Fin 16 → S512x128.Idx → α) :
    Shape.Concatenates ((List.ofFn fun n : Fin 16 => (⟨S512x128, f n⟩ : (s : Shape) × (s.Idx → α))).map (·.1)) S512x2048 1 := by
  rw [List.map_ofFn]
  show Shape.Concatenates (List.ofFn fun _ : Fin 16 => S512x128) S512x2048 1
  decide +kernel

/-- The first-layer weights of a half lie in their block. -/
theorem halfIn (c : Fin 2) : ∀ a : Fin S2x2048x256.rank, (![c.val, 0, 0] : Fin 3 → ℕ) a + S1x2048x256.size a ≤ S2x2048x256.size a := by
  revert c; decide +kernel

/-- The `k`-th page of 128 tokens, its rows put in the order of the pick matrix. -/
noncomputable def page (arg2 : Memref sig .tc .vmem S1x256x8192 .f32) (harg2 : arg2.IsWhole) (x0 : Vec F S1x256x8192 .f32)
    (k : Fin 64) : FVec F S128x256 .f32 :=
  k0_pay4 (View.readAt (Elt F) arg2.view (Rect.unit (s := S1x256x8192) ![0, 0, 128 * k.val] S1x256x128.size (pageIn k)).toLoadRect
    (harg2.unread x0))

/-- The tokens at place `s` of the blocks of 16, at the lanes of half `c`. -/
noncomputable def tok (arg2 : Memref sig .tc .vmem S1x256x8192 .f32) (harg2 : arg2.IsWhole) (x0 : Vec F S1x256x8192 .f32)
    (c : Fin 2) (s : Fin 16) : FVec F S512x128 .f32 :=
  concatenate S512x128 0 (List.ofFn fun k : Fin 64 =>
    ⟨S8x128, extractStridedSlice S8x128 ![8 * s.val, 128 * c.val] (page arg2 harg2 x0 k) (rowsIn c s)⟩) (catRows _)

/-- A half's blocks of 16 tokens times its first-layer weights. -/
noncomputable def prod (arg2 : Memref sig .tc .vmem S1x256x8192 .f32) (harg2 : arg2.IsWhole)
    (arg3 : Memref sig .tc .vmem S2x2048x256 .bf16) (harg3 : arg3.IsWhole) (x0 : Vec F S1x256x8192 .f32)
    (x1 : Vec F S2x2048x256 .bf16) (c : Fin 2) : FVec F S512x256 .f32 :=
  matmul dot_S512x2048_S2048x256_S512x256_1_0_0_1_n_n none
    (truncf .bf16 (concatenate S512x2048 1 (List.ofFn fun s : Fin 16 => ⟨S512x128, tok arg2 harg2 x0 c s⟩) (catLanes _)) bitsLt_bf16_f32)
    (shapeCast S2048x256 (View.readAt (Elt F) arg3.view (Rect.unit (s := S2x2048x256) ![c.val, 0, 0] S1x2048x256.size (halfIn c)).toLoadRect
      (harg3.unread x1)) shapeCasts_S1x2048x256_S2048x256)
    (constant S512x256 .f32 0x00000000#32)

variable (c : Dev nD) (arg2 : Memref sig .tc .vmem S1x256x8192 .f32) (harg2 : arg2.IsWhole)
    (arg3 : Memref sig .tc .vmem S2x2048x256 .bf16) (harg3 : arg3.IsWhole) (x0 : Vec F S1x256x8192 .f32)
    (x1 : Vec F S2x2048x256 .bf16)

variable (arg4 : Memref sig .tc .vmem S2x1x128 .f32) (harg4 : arg4.IsWhole) (arg5 : Memref sig .tc .vmem S2x128x128 .bf16) (harg5 : arg5.IsWhole)
    (arg7 : Memref sig .tc .vmem S8x256 .f32) (x2 : Vec F S2x1x128 .f32) (x3 : Vec F S2x128x128 .bf16)

/-- A half's products moved down by one block, a carried row first. -/
noncomputable def prev (cb : FVec F S1x128 .f32) (U : FVec F S512x256 .f32) : FVec F S512x128 .f32 :=
  select (cmpi .eq kernelRun0_A.sl.v273 (broadcast S512x128 0#32))
    (broadcastTo S512x128 (shapeCast S1x128 cb shapeCasts_S1x128_S1x128) broadcasts_S1x128_S512x128)
    (dynamicRotate 0 1#32 none (extractStridedSlice S512x128 ![0, 0] U slices_S512x256_o0_0_S512x128) rotates_S512x128_d0)

/-- The first half's hidden layer before its nonlinearity. -/
noncomputable def hid (cb : FVec F S1x128 .f32) (b : FVec F S1x1x128 .f32) (U : FVec F S512x256 .f32) : FVec F S512x128 .f32 :=
  addf (addf (prev cb U) (extractStridedSlice S512x128 ![0, 128] U slices_S512x256_o0_128_S512x128))
    (broadcastTo S512x128 (shapeCast S1x128 b shapeCasts_S1x1x128_S1x128) broadcasts_S1x128_S512x128)

theorem r107 : kernelRun0_A.sl.r_107 c arg2 harg2 arg3 harg3 x0 x1
    = extractStridedSlice S512x128 ![0, 0] (prod arg2 harg2 arg3 harg3 x0 x1 1) slices_S512x256_o0_0_S512x128 := by sl_kernel_rfl
theorem r108 : kernelRun0_A.sl.r_108 c arg2 harg2 arg3 harg3 x0 x1
    = extractStridedSlice S512x128 ![0, 128] (prod arg2 harg2 arg3 harg3 x0 x1 1) slices_S512x256_o0_128_S512x128 := by sl_kernel_rfl
theorem r109 : kernelRun0_A.sl.r_109 c arg2 harg2 arg3 harg3 arg7 x0 x1
    = prev (kernelRun0_A.sl.v2405 c arg2 harg2 arg3 harg3 arg7 x0 x1) (prod arg2 harg2 arg3 harg3 x0 x1 1) := by sl_kernel_rfl
/-- The first half's bias. -/
noncomputable def bias0 : FVec F S1x1x128 .f32 :=
  View.readAt (Elt F) arg4.view (Rect.unit (s := S2x1x128) ![0, 0, 0] S1x1x128.size inb_S2x1x128_S1x1x128_0_0_0).toLoadRect (harg4.unread x2)
/-- The second half's bias. -/
noncomputable def bias1 : FVec F S1x1x128 .f32 :=
  View.readAt (Elt F) arg4.view (Rect.unit (s := S2x1x128) ![1, 0, 0] S1x1x128.size inb_S2x1x128_S1x1x128_1_0_0).toLoadRect (harg4.unread x2)
/-- The first half's second-layer weights. -/
noncomputable def snd0 : FVec F S1x128x128 .bf16 :=
  View.readAt (Elt F) arg5.view (Rect.unit (s := S2x128x128) ![0, 0, 0] S1x128x128.size inb_S2x128x128_S1x128x128_0_0_0).toLoadRect (harg5.unread x3)
/-- The second half's second-layer weights. -/
noncomputable def snd1 : FVec F S1x128x128 .bf16 :=
  View.readAt (Elt F) arg5.view (Rect.unit (s := S2x128x128) ![1, 0, 0] S1x128x128.size inb_S2x128x128_S1x128x128_1_0_0).toLoadRect (harg5.unread x3)
theorem r68 : kernelRun0_A.sl.r_68 c arg2 harg2 arg3 harg3 arg4 harg4 arg7 x0 x1 x2
    = hid (kernelRun0_A.sl.v1323 (F := F) c arg7) (bias0 arg4 harg4 x2) (prod arg2 harg2 arg3 harg3 x0 x1 0) := by sl_kernel_rfl
theorem r69 : kernelRun0_A.sl.r_69 c arg2 harg2 arg3 harg3 arg4 harg4 arg7 x0 x1 x2
    = mulf (kernelRun0_A.sl.r_68 c arg2 harg2 arg3 harg3 arg4 harg4 arg7 x0 x1 x2)
      (kernelRun0_A.sl.r_68 c arg2 harg2 arg3 harg3 arg4 harg4 arg7 x0 x1 x2) := by sl_kernel_rfl
theorem r70 : kernelRun0_A.sl.r_70 c arg2 harg2 arg3 harg3 arg4 harg4 arg5 harg5 arg7 x0 x1 x2 x3
    = k0_pay692 (hid (kernelRun0_A.sl.v1323 (F := F) c arg7) (bias0 arg4 harg4 x2) (prod arg2 harg2 arg3 harg3 x0 x1 0))
      (mulf (hid (kernelRun0_A.sl.v1323 (F := F) c arg7) (bias0 arg4 harg4 x2) (prod arg2 harg2 arg3 harg3 x0 x1 0))
        (hid (kernelRun0_A.sl.v1323 (F := F) c arg7) (bias0 arg4 harg4 x2) (prod arg2 harg2 arg3 harg3 x0 x1 0)))
      (snd0 arg5 harg5 x3) := by
  unfold kernelRun0_A.sl.r_70
  rw [r69, r68]
  rfl

/-- The block's one store: the two halves' second layers side by side. -/
theorem run_eq (i : grid0.Coords) (arg6 : Memref sig .tc .vmem S1x512x256 .bf16) (harg6 : arg6.IsWhole) (harg7 : arg7.IsWhole) (hc0 : cond0_0 i) :
    (kernelRun0_A c i arg2 harg2 arg3 harg3 arg4 harg4 arg5 harg5 arg6 harg6 arg7 harg7 hc0 x0 x1 x2 x3).1
    = [⟨Rect.unit (s := S1x512x256) ![0, 0, 0] S1x512x256.size inb_S1x512x256_S1x512x256_0_0_0,
        k0_pay1 (kernelRun0_A.sl.r_70 c arg2 harg2 arg3 harg3 arg4 harg4 arg5 harg5 arg7 x0 x1 x2 x3)
          (kernelRun0_A.sl.r_108 c arg2 harg2 arg3 harg3 x0 x1) (kernelRun0_A.sl.r_109 c arg2 harg2 arg3 harg3 arg7 x0 x1)
          (bias1 arg4 harg4 x2) (snd1 arg5 harg5 x3)⟩] := by sl_kernel_rfl

/-- What the first half's carry reads: the cleared scratch. -/
theorem v1323_eq : kernelRun0_A.sl.v1323 (F := F) c arg7 = arg7.view.readCov
    [⟨Rect.unit (s := S8x256) ![0, 0] S8x256.size inb_S8x256_S8x256_0_0, k0_pay2⟩]
    (Rect.unit (s := S8x256) ![0, 0] S1x128.size inb_S8x256_S1x128_0_0).toLoadRect := by sl_kernel_rfl
/-- What the second half's carry reads: the scratch under the first half's store. -/
theorem v2405_eq : ∃ w, kernelRun0_A.sl.v2405 c arg2 harg2 arg3 harg3 arg7 x0 x1 = arg7.view.readCov
    [⟨Rect.unit (s := S8x256) ![0, 0] S8x128.size inb_S8x256_S8x128_0_0, w⟩,
      ⟨Rect.unit (s := S8x256) ![0, 0] S8x256.size inb_S8x256_S8x256_0_0, k0_pay2⟩]
    (Rect.unit (s := S8x256) ![0, 128] S1x128.size inb_S8x256_S1x128_0_128).toLoadRect := ⟨_, rfl⟩
end Cert.CompressIdeal.Val
-- ==== Proof.CompressVal.lean ====
/- The values of the compression's body, entry by entry. -/
module
public import proofs.«01_k».proof.Proof.CompressRun
public import proofs.«01_k».proof.Proof.Gen.CompressIdeal.Value
public import Idealize.ShloMosaic.Lib.Pointwise
public import Idealize.ShloMosaic.Lib.WholeRead
public import Idealize.ShloMosaic.Lib.Pipeline.ValueKit
@[expose] public section
set_option maxRecDepth 16384
noncomputable section
namespace Cert.CompressIdeal.Val
open Idealize.ShloMosaic Idealize.ShloMosaic.TcCoe Idealize.SL.Sem Cert.CompressIdeal Cert.CompressIdeal.Gen

theorem pick (r t : Fin 128) : (IntOp.cmpi CmpIPredicate.eq (BitVec.ofNat 32 t.val)
    (IntOp.addi (IntOp.muli 16#32 (IntOp.andi (BitVec.ofNat 32 r.val) 7#32)) (IntOp.shrui .vector (BitVec.ofNat 32 r.val) 3#32)) = 1#1) ↔ t.val = 16 * (r.val % 8) + r.val / 8 := by
  revert r t; decide +kernel

theorem pay4_row (v : Vec Ideal S1x256x128 .f32) (r : Fin 128) (q : Fin 256) :
    k0_pay4 v (ix2 r q) = v (ix3 0 q ⟨16 * (r.val % 8) + r.val / 8, by omega⟩) := by
  pointwise [k0_pay4, k0_pay3]
  refine (Finset.sum_eq_single (⟨16 * (r.val % 8) + r.val / 8, by omega⟩ : Fin 128) (fun t _ ht => ?_) (fun h => absurd (Finset.mem_univ _) h)).trans ?_
  · unfold Scalar.select
    exact if_neg fun h => ht (Fin.ext ((pick r t).1 h))
  · unfold Scalar.select
    exact if_pos ((pick r _).2 rfl)

section
variable (arg2 : Memref sig .tc .vmem S1x256x8192 .f32) (harg2 : arg2.IsWhole)
    (arg3 : Memref sig .tc .vmem S2x2048x256 .bf16) (harg3 : arg3.IsWhole) (x0 : Vec Ideal S1x256x8192 .f32)
    (x1 : Vec Ideal S2x2048x256 .bf16)
theorem page_row (k : Fin 64) (r : Fin 128) (q : Fin 256) : page arg2 harg2 x0 k (ix2 r q)
    = x0 (ix3 0 q ⟨128 * k.val + (16 * (r.val % 8) + r.val / 8), by omega⟩) := by
  refine (pay4_row _ r q).trans ((harg2.readAt_unread x0 _ _).trans (congrArg x0 ?_))
  funext a
  fin_cases a <;> refine Fin.ext ?_
  · rfl
  · show 0 + 1 * q.val = q.val
    omega
  · show 128 * k.val + 1 * (16 * (r.val % 8) + r.val / 8) = 128 * k.val + (16 * (r.val % 8) + r.val / 8)
    omega

theorem tok_row (c : Fin 2) (s : Fin 16) (j : Fin 512) (l : Fin 128) : tok arg2 harg2 x0 c s (ix2 j l)
    = x0 (ix3 0 ⟨128 * c.val + l.val, by omega⟩ ⟨16 * j.val + s.val, by omega⟩) := by
  unfold tok
  refine (concatenate_ofFn_apply (t := S512x128) (s₁ := S8x128) (0 : Fin 2) _ _ rfl 8 rfl (ix2 (n0 := 512) (n1 := 128) j l) ⟨j.val / 8, by omega⟩ rfl (ix2 (n0 := 8) (n1 := 128) ⟨j.val % 8, by omega⟩ l) rfl ?_).trans ?_
  · intro b hb
    fin_cases b
    · exact absurd rfl hb
    · rfl
  · refine (congrArg (page arg2 harg2 x0 _) (?_ : _ = ix2 ⟨8 * s.val + j.val % 8, by omega⟩ ⟨128 * c.val + l.val, by omega⟩)).trans
      ((page_row arg2 harg2 x0 _ _ _).trans (congrArg x0 ?_))
    · funext a; fin_cases a <;> rfl
    · refine congrArg (ix3 0 _) (Fin.ext ?_)
      simp only
      omega

/-- All the tokens of a half, a block of 16 a row. -/
def toks (c : Fin 2) : FVec Ideal S512x2048 .f32 :=
  concatenate S512x2048 1 (List.ofFn fun s : Fin 16 => ⟨S512x128, tok arg2 harg2 x0 c s⟩) (catLanes _)

/-- A half's first-layer weights. -/
def wts (c : Fin 2) : Vec Ideal S1x2048x256 .bf16 :=
  View.readAt (Elt Ideal) arg3.view (Rect.unit (s := S2x2048x256) ![c.val, 0, 0] S1x2048x256.size (halfIn c)).toLoadRect (harg3.unread x1)

theorem toks_row (c : Fin 2) (j : Fin 512) (k : Fin 2048) : toks arg2 harg2 x0 c (ix2 j k)
    = x0 (ix3 0 ⟨128 * c.val + k.val % 128, by omega⟩ ⟨16 * j.val + k.val / 128, by omega⟩) := by
  refine (concatenate_ofFn_apply (t := S512x2048) (s₁ := S512x128) (1 : Fin 2) _ _ rfl 128 rfl (ix2 (n0 := 512) (n1 := 2048) j k)
    ⟨k.val / 128, by omega⟩ rfl (ix2 (n0 := 512) (n1 := 128) j ⟨k.val % 128, by omega⟩) rfl ?_).trans ?_
  · intro b hb
    fin_cases b
    · rfl
    · exact absurd rfl hb
  · exact tok_row arg2 harg2 x0 c _ j _

theorem wts_row (c : Fin 2) (k : Fin 2048) (n : Fin 256) : wts arg3 harg3 x1 c (ix3 0 k n) = x1 (ix3 c k n) := by
  refine (harg3.readAt_unread x1 _ _).trans (congrArg x1 ?_)
  funext a
  fin_cases a <;> refine Fin.ext ?_
  · rfl
  · show 0 + 1 * k.val = k.val
    omega
  · show 0 + 1 * n.val = n.val
    omega

theorem mat_row (C : FVec Ideal S512x2048 .f32) (R : FVec Ideal S1x2048x256 .bf16) (j : Fin 512) (n : Fin 256) :
    matmul dot_S512x2048_S2048x256_S512x256_1_0_0_1_n_n none (truncf .bf16 C bitsLt_bf16_f32)
      (shapeCast S2048x256 R shapeCasts_S1x2048x256_S2048x256) (constant S512x256 .f32 0x00000000#32) (ix2 j n)
    = ∑ k : Fin 2048, C (ix2 j k) * R (ix3 0 k n) := by
  pointwise []

theorem prod_row (c : Fin 2) (j : Fin 512) (n : Fin 256) : prod arg2 harg2 arg3 harg3 x0 x1 c (ix2 j n)
    = ∑ k : Fin 2048, x0 (ix3 0 ⟨128 * c.val + k.val % 128, by omega⟩ ⟨16 * j.val + k.val / 128, by omega⟩) * x1 (ix3 c k n) :=
  (mat_row (toks arg2 harg2 x0 c) (wts arg3 harg3 x1 c) j n).trans
    (Finset.sum_congr rfl fun k _ => congrArg₂ (· * ·) (toks_row arg2 harg2 x0 c j k) (wts_row arg3 harg3 x1 c k n))
end
end Cert.CompressIdeal.Val
end
-- ==== Proof.CompressOut.lean ====
/- The output block of the compression, read as sums. -/
module
public import proofs.«01_k».proof.Proof.CompressVal
public import Idealize.ShloMosaic.Lib.KernelVsHost
@[expose] public section
set_option maxRecDepth 16384
noncomputable section
namespace Cert.CompressIdeal.Val
open Idealize.ShloMosaic Idealize.ShloMosaic.TcCoe Idealize.SL.Sem Cert.CompressIdeal Cert.CompressIdeal.Gen

theorem pay2_at (y : S8x256.Idx) : k0_pay2 (F := Ideal) y = (0 : EReal) := by
  obtain ⟨a, b, rfl⟩ : ∃ (a : Fin 8) (b : Fin 256), y = ix2 a b := ⟨y 0, y 1, eq_ix2 y⟩
  pointwise [k0_pay2]

/-- The nonlinearity. -/
def gel (h : EReal) : EReal :=
  h * (Ideal.ofBits FTy.f32 1056964608#32 * (1 + Ideal.tanh (Ideal.ofBits FTy.f32 1061962282#32 * (h + Ideal.ofBits FTy.f32 1027024659#32 * (h * (h * h))))))

theorem zero_test (j : Fin 512) : IntOp.cmpi CmpIPredicate.eq (BitVec.ofNat 32 j.val) 0#32 = 1#1 ↔ j.val = 0 := by
  revert j; decide +kernel

section
variable (c : Dev nD) (arg2 : Memref sig .tc .vmem S1x256x8192 .f32) (harg2 : arg2.IsWhole)
    (arg3 : Memref sig .tc .vmem S2x2048x256 .bf16) (harg3 : arg3.IsWhole) (x0 : Vec Ideal S1x256x8192 .f32)
    (x1 : Vec Ideal S2x2048x256 .bf16)
    (arg4 : Memref sig .tc .vmem S2x1x128 .f32) (harg4 : arg4.IsWhole) (arg5 : Memref sig .tc .vmem S2x128x128 .bf16) (harg5 : arg5.IsWhole)
    (arg7 : Memref sig .tc .vmem S8x256 .f32) (x2 : Vec Ideal S2x1x128 .f32) (x3 : Vec Ideal S2x128x128 .bf16)

theorem carry0 (n : Fin 128) : kernelRun0_A.sl.v1323 (F := Ideal) c arg7 (ix2 0 n) = (0 : EReal) := by
  rw [v1323_eq, View.readCov_eq_canon']
  show View.canon _ _ = _
  rw [View.canon_cons_unit_lit]
  · exact pay2_at _
  · decide

theorem carry1 (n : Fin 128) : kernelRun0_A.sl.v2405 (F := Ideal) c arg2 harg2 arg3 harg3 arg7 x0 x1 (ix2 0 n) = (0 : EReal) := by
  obtain ⟨w, hw⟩ := v2405_eq (F := Ideal) c arg2 harg2 arg3 harg3 x0 x1 arg7
  rw [hw, View.readCov_eq_canon']
  refine View.canon_eq_of_allAt _ _ _ ⟨_, List.mem_cons_of_mem _ List.mem_cons_self, ?_⟩ ?_
  · have hy : (Rect.unit (s := S8x256) ![0, 128] S1x128.size inb_S8x256_S1x128_0_128).toLoadRect.idx (ix2 (n0 := 1) (n1 := 128) 0 n)
        = (Rect.unit (s := S8x256) ![0, 0] S8x256.size inb_S8x256_S8x256_0_0).emb (ix2 (n0 := 8) (n1 := 256) 0 ⟨128 + n.val, by omega⟩) := by
      funext a
      fin_cases a <;> refine Fin.ext ?_
      · rfl
      · show 128 + 1 * n.val = 0 + 1 * (128 + n.val)
        omega
    rw [hy]
    exact LoadRect.idx_mem _ _
  · intro p hp x hx
    simp only [List.mem_cons, List.not_mem_nil, or_false] at hp
    rcases hp with rfl | rfl
    · exfalso
      have h1 := congrArg Fin.val (congrFun hx 1)
      have h2 : (x 1).val < 128 := (x 1).isLt
      have h3 : 0 + 1 * (x 1).val = 128 + 1 * n.val := h1
      omega
    · exact pay2_at x

theorem prev_row (cb : FVec Ideal S1x128 .f32) (hcb : ∀ n, cb (ix2 0 n) = (0 : EReal)) (U : FVec Ideal S512x256 .f32) (j : Fin 512) (n : Fin 128) :
    prev cb U (ix2 j n) = if j.val = 0 then (0 : EReal) else U (ix2 ⟨j.val - 1, by omega⟩ ⟨n.val, by omega⟩) := by
  unfold prev
  generalize hW : dynamicRotate (s := S512x128) _ _ _ _ _ = W
  have hr : W (ix2 j n) = U (ix2 ⟨(j.val + 511) % 512, by omega⟩ ⟨n.val, by omega⟩) := by
    rw [← hW]
    refine (dynamicRotate_apply (s := S512x128) (0 : Fin 2) 1#32 _ _ (ix2 j n) (ix2 (n0 := 512) (n1 := 128) ⟨(j.val + 511) % 512, by omega⟩ n) ?_).trans ?_
    · intro b
      fin_cases b <;> rfl
    · pointwise []
  clear hW
  pointwise [kernelRun0_A.sl.v273]
  rw [hr, hcb]
  have hj := j.isLt
  unfold Scalar.select
  by_cases h : j.val = 0
  · rw [if_pos h]
    exact if_pos ((zero_test j).2 h)
  · rw [if_neg h]
    refine (if_neg (fun h' => h ((zero_test j).1 h'))).trans ?_
    exact congrArg (fun t => U (ix2 t _)) (Fin.ext (by show (j.val + 511) % 512 = j.val - 1; omega))

theorem pay692_row (H G : FVec Ideal S512x128 .f32) (w : FVec Ideal S1x128x128 .bf16) (j : Fin 512) (q : Fin 128)
    (hG : ∀ n, G (ix2 j n) = H (ix2 j n) * H (ix2 j n)) :
    k0_pay692 H G w (ix2 j q) = ∑ n : Fin 128, gel (H (ix2 j n)) * w (ix3 0 n q) := by
  pointwise [k0_pay692]
  simp only [hG]
  rfl

theorem pay1_row (z u p : FVec Ideal S512x128 .f32) (b : FVec Ideal S1x1x128 .f32) (w : FVec Ideal S1x128x128 .bf16) (j : Fin 512) (q : Fin 256) :
    k0_pay1 z u p b w (ix3 0 j q) = if h : q.val < 128 then z (ix2 j ⟨q.val, h⟩)
      else ∑ n : Fin 128, gel (p (ix2 j n) + u (ix2 j n) + b (ix3 0 0 n)) * w (ix3 0 n ⟨q.val - 128, by omega⟩) := by
  pointwise [k0_pay1]
  rfl

theorem hid_row (cb : FVec Ideal S1x128 .f32) (b : FVec Ideal S1x1x128 .f32) (hcb : ∀ n, cb (ix2 0 n) = (0 : EReal)) (U : FVec Ideal S512x256 .f32) (j : Fin 512) (n : Fin 128) :
    hid cb b U (ix2 j n) = (if j.val = 0 then (0 : EReal) else U (ix2 ⟨j.val - 1, by omega⟩ ⟨n.val, by omega⟩))
      + U (ix2 j ⟨128 + n.val, by omega⟩) + b (ix3 0 0 n) := by
  rw [← prev_row cb hcb]
  pointwise [hid]

/-- A half's product of the block of 16 tokens at `j` with column `n` of its first-layer weights. -/
def uAt (c : Fin 2) (j : Fin 512) (n : Fin 256) : EReal :=
  ∑ k : Fin 2048, x0 (ix3 0 ⟨128 * c.val + k.val % 128, by omega⟩ ⟨16 * j.val + k.val / 128, by omega⟩) * x1 (ix3 c k n)

/-- A half's hidden layer before its nonlinearity. -/
def hAt (c : Fin 2) (j : Fin 512) (n : Fin 128) : EReal :=
  (if j.val = 0 then (0 : EReal) else uAt x0 x1 c ⟨j.val - 1, by omega⟩ ⟨n.val, by omega⟩) + uAt x0 x1 c j ⟨128 + n.val, by omega⟩ + x2 (ix3 c 0 n)

/-- A half's result. -/
def oAt (c : Fin 2) (j : Fin 512) (q : Fin 128) : EReal := ∑ n : Fin 128, gel (hAt x0 x1 x2 c j n) * x3 (ix3 c n q)

theorem bias0_row (n : Fin 128) : bias0 arg4 harg4 x2 (ix3 0 0 n) = x2 (ix3 0 0 n) := by
  refine (harg4.readAt_unread x2 _ _).trans (congrArg x2 ?_)
  funext a
  fin_cases a <;> refine Fin.ext ?_
  · rfl
  · rfl
  · show 0 + 1 * n.val = n.val
    omega
theorem bias1_row (n : Fin 128) : bias1 arg4 harg4 x2 (ix3 0 0 n) = x2 (ix3 1 0 n) := by
  refine (harg4.readAt_unread x2 _ _).trans (congrArg x2 ?_)
  funext a
  fin_cases a <;> refine Fin.ext ?_
  · rfl
  · rfl
  · show 0 + 1 * n.val = n.val
    omega
theorem snd0_row (n q : Fin 128) : snd0 arg5 harg5 x3 (ix3 0 n q) = x3 (ix3 0 n q) := by
  refine (harg5.readAt_unread x3 _ _).trans (congrArg x3 ?_)
  funext a
  fin_cases a <;> refine Fin.ext ?_
  · rfl
  · show 0 + 1 * n.val = n.val
    omega
  · show 0 + 1 * q.val = q.val
    omega
theorem snd1_row (n q : Fin 128) : snd1 arg5 harg5 x3 (ix3 0 n q) = x3 (ix3 1 n q) := by
  refine (harg5.readAt_unread x3 _ _).trans (congrArg x3 ?_)
  funext a
  fin_cases a <;> refine Fin.ext ?_
  · rfl
  · show 0 + 1 * n.val = n.val
    omega
  · show 0 + 1 * q.val = q.val
    omega

theorem hid0_row (j : Fin 512) (n : Fin 128) :
    hid (kernelRun0_A.sl.v1323 (F := Ideal) c arg7) (bias0 arg4 harg4 x2) (prod arg2 harg2 arg3 harg3 x0 x1 0) (ix2 j n) = hAt x0 x1 x2 0 j n := by
  refine (hid_row _ _ (carry0 c arg7) _ j n).trans ?_
  rw [prod_row, prod_row, bias0_row]
  rfl

theorem hid1_row (j : Fin 512) (n : Fin 128) :
    kernelRun0_A.sl.r_109 c arg2 harg2 arg3 harg3 arg7 x0 x1 (ix2 j n) + kernelRun0_A.sl.r_108 c arg2 harg2 arg3 harg3 x0 x1 (ix2 j n)
      + bias1 arg4 harg4 x2 (ix3 0 0 n) = hAt x0 x1 x2 1 j n := by
  rw [r109, r108, prev_row _ (carry1 c arg2 harg2 arg3 harg3 x0 x1 arg7), bias1_row]
  unfold hAt uAt
  rw [prod_row]
  refine congrArg₂ (fun a b : EReal => a + b) (congrArg₂ (fun a b : EReal => a + b) rfl ?_) rfl
  refine Eq.trans ?_ (prod_row arg2 harg2 arg3 harg3 x0 x1 1 j _)
  generalize prod arg2 harg2 arg3 harg3 x0 x1 1 = U
  pointwise []

theorem pay1_out (j : Fin 512) (q : Fin 256) :
    k0_pay1 (kernelRun0_A.sl.r_70 c arg2 harg2 arg3 harg3 arg4 harg4 arg5 harg5 arg7 x0 x1 x2 x3)
          (kernelRun0_A.sl.r_108 c arg2 harg2 arg3 harg3 x0 x1) (kernelRun0_A.sl.r_109 c arg2 harg2 arg3 harg3 arg7 x0 x1)
          (bias1 arg4 harg4 x2) (snd1 arg5 harg5 x3) (ix3 0 j q)
    = oAt x0 x1 x2 x3 ⟨q.val / 128, by omega⟩ j ⟨q.val % 128, by omega⟩ := by
  rw [pay1_row]
  have hq := q.isLt
  by_cases h : q.val < 128
  · rw [dif_pos h, r70, pay692_row _ _ _ _ _ (fun n => rfl)]
    have e1 : (⟨q.val / 128, by omega⟩ : Fin 2) = 0 := Fin.ext (by show q.val / 128 = 0; omega)
    have e2 : (⟨q.val % 128, by omega⟩ : Fin 128) = ⟨q.val, h⟩ := Fin.ext (by show q.val % 128 = q.val; omega)
    rw [e1, e2]
    exact Finset.sum_congr rfl fun n _ => congrArg₂ (fun a b => gel a * b) (hid0_row c arg2 harg2 arg3 harg3 x0 x1 arg4 harg4 arg7 x2 j n) (snd0_row arg5 harg5 x3 n _)
  · rw [dif_neg h]
    have e1 : (⟨q.val / 128, by omega⟩ : Fin 2) = 1 := Fin.ext (by show q.val / 128 = 1; omega)
    have e2 : (⟨q.val % 128, by omega⟩ : Fin 128) = ⟨q.val - 128, by omega⟩ := Fin.ext (by show q.val % 128 = q.val - 128; omega)
    rw [e1, e2]
    exact Finset.sum_congr rfl fun n _ => congrArg₂ (fun a b => gel a * b) (hid1_row c arg2 harg2 arg3 harg3 x0 x1 arg4 harg4 arg7 x2 j n) (snd1_row arg5 harg5 x3 n _)

theorem out_row (i : grid0.Coords) (arg6 : Memref sig .tc .vmem S1x512x256 .bf16) (harg6 : arg6.IsWhole) (harg7 : arg7.IsWhole) (hc0 : cond0_0 i)
    (j : Fin 512) (q : Fin 256) :
    out0_A_4 c i arg2 harg2 arg3 harg3 arg4 harg4 arg5 harg5 arg6 harg6 arg7 harg7 hc0 x0 x1 x2 x3 (ix3 0 j q)
    = oAt x0 x1 x2 x3 ⟨q.val / 128, by omega⟩ j ⟨q.val % 128, by omega⟩ := by
  unfold out0_A_4
  rw [run_eq, View.read_writes_eq_canon _ _ _ (by
    have := cover0_A_4 (F := Ideal) c i arg2 harg2 arg3 harg3 arg4 harg4 arg5 harg5 arg6 harg6 arg7 harg7 hc0 x0 x1 x2 x3
    rw [run_eq] at this
    exact this)]
  rw [View.canon_cons_unit_lit]
  · exact pay1_out c arg2 harg2 arg3 harg3 x0 x1 arg4 harg4 arg5 harg5 arg7 x2 x3 j q
  · decide
end
end Cert.CompressIdeal.Val
end
-- ==== Proof.CompressValue.lean ====
/- The values of the compression: entry by entry they are those of the plain reference. -/
module
public import proofs.«01_k».proof.Proof.CompressOut
public import proofs.«01_k».proof.Proof.Gen.CompressReferenceIdeal.Run
public import proofs.«01_k».proof.Defs
@[expose] public section
set_option maxRecDepth 16384
noncomputable section
namespace Cert.CompressIdeal.Val
open Idealize.ShloMosaic Idealize.ShloMosaic.TcCoe Idealize.SL.Sem Cert.CompressIdeal Cert.CompressIdeal.Gen

theorem idx : ∀ t : Fin grid0.N, win0_0.index t = ![t.val, 0, 0] ∧ win0_1.index t = ![0, 0, 0] ∧ win0_2.index t = ![0, 0, 0]
    ∧ win0_3.index t = ![0, 0, 0] ∧ win0_4.index t = ![t.val, 0, 0] := by decide +kernel

section
variable (m : (ℓ : Loc nD τ sig) → Buf (Elt Ideal) ℓ) (c : Dev nD)
/-- The call's first argument. -/
abbrev a0 : Vec Ideal S2x256x8192 .f32 := m ((c.tc : Thread nD τ).loc main_arg0)
/-- The call's second argument. -/
abbrev a1 : Vec Ideal S2x32x64 .f32 := m ((c.tc : Thread nD τ).loc main_arg1)
/-- The call's third argument. -/
abbrev a2 : Vec Ideal S2x2048x64 .f32 := m ((c.tc : Thread nD τ).loc main_arg2)
/-- The call's fourth argument. -/
abbrev a3 : Vec Ideal S2x64x64 .f32 := m ((c.tc : Thread nD τ).loc main_arg3)

theorem e0 (t : Fin cfg0.N) (p : Fin 256) (n : Fin 8192) : iblk m c 0 t (ix3 0 p n) = a0 m c (ix3 ⟨t.val, t.isLt⟩ p n) := by
  blk_ext! [iblk, V, idx t]
theorem eye (a b : ℕ) (ha : a < 2) (hb : b < 2) : FloatOps.uitofp (F := Ideal) FTy.f32
    (IntOp.cmpi CmpIPredicate.eq (IntOp.addi (BitVec.ofNat 32 a) 0#32) (BitVec.ofNat 32 b)) = (if a = b then 1 else 0 : EReal) := by
  have h1 : FloatOps.uitofp (F := Ideal) FTy.f32 1#1 = (1 : EReal) := by
    show (((1#1 : BitVec 1).toNat : ℝ) : EReal) = 1
    simp
  have h0 : FloatOps.uitofp (F := Ideal) FTy.f32 0#1 = (0 : EReal) := by
    show (((0#1 : BitVec 1).toNat : ℝ) : EReal) = 0
    simp
  interval_cases a <;> interval_cases b
  · exact h1
  · exact h0
  · exact h0
  · exact h1
theorem e1 (t : Fin cfg0.N) (h : Fin 2) (k : Fin 2048) (n : Fin 256) : iblk m c 1 t (ix3 h k n)
    = a2 m c (ix3 h ⟨1024 * (n.val / 128) + 64 * (k.val / 128) + k.val % 64, by omega⟩ ⟨n.val % 64, by omega⟩)
      * (if k.val / 64 % 2 = n.val / 64 % 2 then 1 else 0 : EReal) := by
  have hb : iblk m c 1 t (ix3 h k n) = V m c main_v27 (ix3 h k n) := by
    blk_ext [iblk, idx t]
  rw [hb]
  entry_read
  pointwise
  refine congrArg₂ (fun a b : EReal => a * b) (congrArg (a2 m c) ?_) (eye _ _ (by omega) (by omega))
  exact congrArg (fun q => ix3 h q _) (Fin.ext (by show _ = _; simp only; omega))
theorem e2 (t : Fin cfg0.N) (h : Fin 2) (n : Fin 128) : iblk m c 2 t (ix3 h 0 n)
    = ∑ x : Fin 64, ∑ y : Fin 32, a1 m c (ix3 h y x) * a2 m c (ix3 h ⟨y.val * 64 + x.val, by omega⟩ ⟨n.val % 64, by omega⟩) := by
  have hb : iblk m c 2 t (ix3 h 0 n) = V m c main_v19 (ix3 h 0 n) := by
    blk_ext [iblk, idx t]
  rw [hb]
  entry_read
  pointwise
theorem e3 (t : Fin cfg0.N) (h : Fin 2) (n q : Fin 128) : iblk m c 3 t (ix3 h n q)
    = a3 m c (ix3 h ⟨n.val % 64, by omega⟩ ⟨q.val % 64, by omega⟩) * (if n.val / 64 = q.val / 64 then 1 else 0 : EReal) := by
  have hb : iblk m c 3 t (ix3 h n q) = V m c main_v28 (ix3 h n q) := by
    blk_ext [iblk, idx t]
  rw [hb]
  entry_read
  pointwise
  exact congrArg₂ (fun a b : EReal => a * b) rfl (eye _ _ (by omega) (by omega))

theorem sum_u (f : Fin 2048 → EReal) (y : Fin 2) (g : Fin 16 → Fin 64 → EReal)
    (hf : ∀ (s : Fin 16) (z : Fin 2) (e : Fin 64), f ⟨128 * s.val + (64 * z.val + e.val), by omega⟩ = if z = y then g s e else 0) :
    ∑ k, f k = ∑ s, ∑ e, g s e := by
  rw [← (finProdFinEquiv (m := 16) (n := 128)).sum_comp f, Fintype.sum_prod_type]
  refine Finset.sum_congr rfl fun s _ => ?_
  rw [← (finProdFinEquiv (m := 2) (n := 64)).sum_comp, Fintype.sum_prod_type]
  have hz (z : Fin 2) (e : Fin 64) : f (finProdFinEquiv (m := 16) (n := 128) (s, finProdFinEquiv (m := 2) (n := 64) (z, e))) = if z = y then g s e else 0 := by
    rw [← hf]
    refine congrArg f (Fin.ext ?_)
    show e.val + 64 * z.val + 128 * s.val = 128 * s.val + (64 * z.val + e.val)
    omega
  refine (Finset.sum_congr rfl fun z _ => Finset.sum_congr rfl fun e _ => hz z e).trans ?_
  rw [Finset.sum_comm]
  exact Finset.sum_congr rfl fun e _ => by rw [Finset.sum_ite_eq', if_pos (Finset.mem_univ _)]

theorem sum_o (f : Fin 128 → EReal) (y : Fin 2) (g : Fin 64 → EReal)
    (hf : ∀ (z : Fin 2) (e : Fin 64), f ⟨64 * z.val + e.val, by omega⟩ = if z = y then g e else 0) :
    ∑ k, f k = ∑ e, g e := by
  rw [← (finProdFinEquiv (m := 2) (n := 64)).sum_comp f, Fintype.sum_prod_type]
  have hz (z : Fin 2) (e : Fin 64) : f (finProdFinEquiv (m := 2) (n := 64) (z, e)) = if z = y then g e else 0 := by
    rw [← hf]
    refine congrArg f (Fin.ext ?_)
    show e.val + 64 * z.val = 64 * z.val + e.val
    omega
  refine (Finset.sum_congr rfl fun z _ => Finset.sum_congr rfl fun e _ => hz z e).trans ?_
  rw [Finset.sum_comm]
  exact Finset.sum_congr rfl fun e _ => by rw [Finset.sum_ite_eq', if_pos (Finset.mem_univ _)]

/-- The block of 16 tokens at `j`, the lanes of group `g` of half `h`, through column `d` of weights half `r`. -/
def uS (b h g r : Fin 2) (j : Fin 512) (d : Fin 64) : EReal :=
  ∑ s : Fin 16, ∑ e : Fin 64, a0 m c (ix3 b ⟨128 * h.val + (64 * g.val + e.val), by omega⟩ ⟨16 * j.val + s.val, by omega⟩)
    * a2 m c (ix3 h ⟨1024 * r.val + 64 * s.val + e.val, by omega⟩ d)

/-- The bias: the position encoding through the weights. -/
def bS (h : Fin 2) (d : Fin 64) : EReal :=
  ∑ x : Fin 64, ∑ y : Fin 32, a1 m c (ix3 h y x) * a2 m c (ix3 h ⟨y.val * 64 + x.val, by omega⟩ d)

/-- The hidden layer before its nonlinearity: the block before, the block itself, the bias. -/
def hS (b h g : Fin 2) (j : Fin 512) (d : Fin 64) : EReal :=
  (if j.val = 0 then (0 : EReal) else uS m c b h g 0 ⟨j.val - 1, by omega⟩ d) + uS m c b h g 1 j d + bS m c h d

/-- The compressed tokens. -/
def oS (b h g : Fin 2) (j : Fin 512) (d : Fin 64) : EReal := ∑ e : Fin 64, gel (hS m c b h g j e) * a3 m c (ix3 h e d)

section
variable (t : Fin cfg0.N)
theorem uAt_eq (h g r : Fin 2) (j : Fin 512) (d : Fin 64) (n : Fin 256) (hn : n.val = 128 * r.val + (64 * g.val + d.val)) :
    uAt (iblk m c 0 t) (iblk m c 1 t) h j n = uS m c ⟨t.val, t.isLt⟩ h g r j d := by
  refine sum_u _ g _ fun s z e => ?_
  rw [e0, e1]
  have i1 : (⟨128 * h.val + (128 * s.val + (64 * z.val + e.val)) % 128, by omega⟩ : Fin 256) = ⟨128 * h.val + (64 * z.val + e.val), by omega⟩ := Fin.ext (by simp only; omega)
  have i2 : (⟨16 * j.val + (128 * s.val + (64 * z.val + e.val)) / 128, by omega⟩ : Fin 8192) = ⟨16 * j.val + s.val, by omega⟩ := Fin.ext (by simp only; omega)
  have i3 : (⟨1024 * (n.val / 128) + 64 * ((128 * s.val + (64 * z.val + e.val)) / 128) + (128 * s.val + (64 * z.val + e.val)) % 64, by omega⟩ : Fin 2048)
      = ⟨1024 * r.val + 64 * s.val + e.val, by omega⟩ := Fin.ext (by simp only; omega)
  have i4 : (⟨n.val % 64, by omega⟩ : Fin 64) = d := Fin.ext (by simp only; omega)
  have i5 : (128 * s.val + (64 * z.val + e.val)) / 64 % 2 = z.val := by omega
  have i6 : n.val / 64 % 2 = g.val := by omega
  simp only [i1, i2, i3, i4, i5, i6]
  by_cases hz : z = g
  · subst hz
    rw [if_pos rfl, if_pos rfl, mul_one]
  · rw [if_neg (fun h' => hz (Fin.ext h')), if_neg hz, mul_zero, mul_zero]

theorem hAt_eq (h g : Fin 2) (j : Fin 512) (d : Fin 64) (n : Fin 128) (hn : n.val = 64 * g.val + d.val) :
    hAt (iblk m c 0 t) (iblk m c 1 t) (iblk m c 2 t) h j n = hS m c ⟨t.val, t.isLt⟩ h g j d := by
  unfold hAt hS
  rw [uAt_eq m c t h g 1 j d _ (by show 128 + n.val = _; rw [hn]; rfl), e2]
  have hd : (⟨n.val % 64, by omega⟩ : Fin 64) = d := Fin.ext (by simp only; omega)
  rw [hd]
  refine congrArg₂ (fun a b : EReal => a + b) (congrArg₂ (fun a b : EReal => a + b) ?_ rfl) rfl
  by_cases hj : j.val = 0
  · rw [if_pos hj, if_pos hj]
  · rw [if_neg hj, if_neg hj, uAt_eq m c t h g 0 _ d _ (by show n.val = _; rw [hn]; simp)]

theorem oAt_eq (h g : Fin 2) (j : Fin 512) (d : Fin 64) (q : Fin 128) (hq : q.val = 64 * g.val + d.val) :
    oAt (iblk m c 0 t) (iblk m c 1 t) (iblk m c 2 t) (iblk m c 3 t) h j q = oS m c ⟨t.val, t.isLt⟩ h g j d := by
  refine sum_o _ g _ fun z e => ?_
  rw [hAt_eq m c t h z j e _ rfl, e3]
  have i1 : (⟨(64 * z.val + e.val) % 64, by omega⟩ : Fin 64) = e := Fin.ext (by simp only; omega)
  have i2 : (⟨q.val % 64, by omega⟩ : Fin 64) = d := Fin.ext (by simp only; omega)
  have i3 : (64 * z.val + e.val) / 64 = z.val := by omega
  have i4 : q.val / 64 = g.val := by omega
  simp only [i1, i2, i3, i4]
  by_cases hz : z = g
  · subst hz
    rw [if_pos rfl, if_pos rfl, mul_one]
  · rw [if_neg (fun h' => hz (Fin.ext h')), if_neg hz, mul_zero, mul_zero]
end

/-- The compressed tokens as the call's result holds them. -/
def out : Vec Ideal S2x512x256 .bf16 := fun i =>
  oS m c (i 0) ⟨(i 2).val / 128, by have h : (i 2).val < 256 := (i 2).isLt; omega⟩ ⟨(i 2).val / 64 % 2, by omega⟩ (i 1) ⟨(i 2).val % 64, by omega⟩

theorem arr4 : (dats (F := Ideal) m 0 c).arrAt 4 cfg0.N = out m c := by
  refine (dats m 0 c).arrAt_eq_of_covers 4 _ (by decide +kernel) fun t hf y => ?_
  blk_simp
  rw [after0_4]
  obtain ⟨z, j, q, rfl⟩ : ∃ (z : Fin 1) (j : Fin 512) (q : Fin 256), y = ix3 z j q := ⟨y 0, y 1, y 2, eq_ix3 y⟩
  obtain rfl : z = 0 := Subsingleton.elim _ _
  refine (out_row _ _ _ _ _ _ _ _ _ _ _ _ _ _ _ _ _ _ _ j q).trans ?_
  have he : ((View.whole main_v29).slice (win0_4.rect t)).emb (ix3 0 j q) = ix3 (n0 := 2) (n1 := 512) (n2 := 256) ⟨t.val, t.isLt⟩ j q := by
    blk_ext [idx t]
  rw [he]
  exact oAt_eq m c t _ ⟨q.val / 64 % 2, by omega⟩ j ⟨q.val % 64, by omega⟩ _ (by show q.val % 128 = 64 * (q.val / 64 % 2) + q.val % 64; omega)
end

theorem ref_w0 (w : FVec Ideal Cert.CompressReferenceIdeal.S2x2048x64 .f32) (h : Fin 2) (s : Fin 16) (e d : Fin 64) :
    shapeCast Cert.CompressReferenceIdeal.S2x16x64x64 (extractStridedSlice Cert.CompressReferenceIdeal.S2x1x16x64x64 ![0, 0, 0, 0, 0]
      (shapeCast Cert.CompressReferenceIdeal.S2x2x16x64x64 w Cert.CompressReferenceIdeal.Gen.shapeCasts_S2x2048x64_S2x2x16x64x64)
      Cert.CompressReferenceIdeal.Gen.slices_S2x2x16x64x64_S2x1x16x64x64_0_0_0_0_0) Cert.CompressReferenceIdeal.Gen.shapeCasts_S2x1x16x64x64_S2x16x64x64 (ix4 h s e d)
    = w (ix3 h ⟨1024 * (0 : Fin 2).val + 64 * s.val + e.val, by simp; omega⟩ d) := by
  pointwise []
  exact congrArg (fun q => w (ix3 h q d)) (Fin.ext (by simp; omega))

theorem ref_w1 (w : FVec Ideal Cert.CompressReferenceIdeal.S2x2048x64 .f32) (h : Fin 2) (s : Fin 16) (e d : Fin 64) :
    shapeCast Cert.CompressReferenceIdeal.S2x16x64x64 (extractStridedSlice Cert.CompressReferenceIdeal.S2x1x16x64x64 ![0, 1, 0, 0, 0]
      (shapeCast Cert.CompressReferenceIdeal.S2x2x16x64x64 w Cert.CompressReferenceIdeal.Gen.shapeCasts_S2x2048x64_S2x2x16x64x64)
      Cert.CompressReferenceIdeal.Gen.slices_S2x2x16x64x64_S2x1x16x64x64_0_1_0_0_0) Cert.CompressReferenceIdeal.Gen.shapeCasts_S2x1x16x64x64_S2x16x64x64 (ix4 h s e d)
    = w (ix3 h ⟨1024 * (1 : Fin 2).val + 64 * s.val + e.val, by simp; omega⟩ d) := by
  pointwise []
  exact congrArg (fun q => w (ix3 h q d)) (Fin.ext (by simp; omega))

theorem ref_b (p : FVec Ideal Cert.CompressReferenceIdeal.S2x32x64 .f32) (w : FVec Ideal Cert.CompressReferenceIdeal.S2x2048x64 .f32) (h : Fin 2) (d : Fin 64) :
    Host.dotGeneral (F := Ideal) (φ₁ := .f32) (φ₂ := .f32) Cert.CompressReferenceIdeal.dot_S2x32x64_S2x32x64x64_S2x64_21_21_n_3_0_0 none p
      (shapeCast Cert.CompressReferenceIdeal.S2x32x64x64 w Cert.CompressReferenceIdeal.Gen.shapeCasts_S2x2048x64_S2x32x64x64) (ix2 h d)
    = ∑ x : Fin 64, ∑ y : Fin 32, p (ix3 h y x) * w (ix3 h ⟨y.val * 64 + x.val, by omega⟩ d) := by
  pointwise []

section
open Cert.CompressReferenceIdeal Cert.CompressReferenceIdeal.Gen
variable (m : (ℓ : Loc Cert.CompressIdeal.nD Cert.CompressIdeal.τ Cert.CompressIdeal.sig) → Buf (Elt Ideal) ℓ) (c : Dev Cert.CompressIdeal.nD)
/-- The tokens below a block of 16 zero tokens, at the block `jj`. -/
def padded (b h g : Fin 2) (jj : Fin 513) (s : Fin 16) (e : Fin 64) : EReal :=
  if hj : jj.val = 0 then 0 else a0 m c (ix3 b ⟨128 * h.val + (64 * g.val + e.val), by omega⟩ ⟨16 * (jj.val - 1) + s.val, by omega⟩)

theorem ref_pad (b h g : Fin 2) (jj : Fin 513) (s : Fin 16) (e : Fin 64) :
    shapeCast Cert.CompressReferenceIdeal.S2x513x16x2x2x64 (concatenate Cert.CompressReferenceIdeal.S2x8208x256 1
      [⟨Cert.CompressReferenceIdeal.S2x16x256, broadcastInDim Cert.CompressReferenceIdeal.S2x16x256 ![] Cert.CompressReferenceIdeal.Gen.bcast_S_S2x16x256
          (constant (F := Ideal) Cert.CompressReferenceIdeal.S_ FTy.f32 0#32)⟩,
        ⟨Cert.CompressReferenceIdeal.S2x8192x256, transpose Cert.CompressReferenceIdeal.S2x8192x256 [0, 2, 1] (a0 m c)
          Cert.CompressReferenceIdeal.Gen.transposes_S2x256x8192_S2x8192x256_0_2_1⟩]
      Cert.CompressReferenceIdeal.Gen.concatenates_S2x16x256_S2x8192x256_S2x8208x256_d1)
      Cert.CompressReferenceIdeal.Gen.shapeCasts_S2x8208x256_S2x513x16x2x2x64 (ix6 b jj s h g e) = padded m c b h g jj s e := by
  have hs := s.isLt
  pointwise []
  unfold padded
  by_cases hj : jj.val = 0
  · rw [dif_pos hj, dif_pos (by omega)]
  · rw [dif_neg hj, dif_neg (by omega)]
    exact congrArg₂ (fun p q => a0 m c (ix3 b p q)) (Fin.ext (by simp only; omega)) (Fin.ext (by simp only; omega))

theorem ref_u (b h g r : Fin 2) (d : Fin 64) (jj : Fin 513) (A : FVec Ideal Cert.CompressReferenceIdeal.S2x16x64x64 .f32)
    (X : FVec Ideal Cert.CompressReferenceIdeal.S2x513x16x2x2x64 .f32)
    (hA : ∀ (h : Fin 2) (s : Fin 16) (e d : Fin 64), A (ix4 h s e d) = a2 m c (ix3 h ⟨1024 * r.val + 64 * s.val + e.val, by omega⟩ d))
    (hX : ∀ (s : Fin 16) (e : Fin 64), X (ix6 b jj s h g e) = padded m c b h g jj s e) :
    Host.dotGeneral (F := Ideal) (φ₁ := .f32) (φ₂ := .f32) Cert.CompressReferenceIdeal.dot_S2x16x64x64_S2x513x16x2x2x64_S2x64x2x513x2_21_52_3_014_0_3 none A X (ix5 h d b jj g)
    = if hj : jj.val = 0 then 0 else uS m c b h g r ⟨jj.val - 1, by omega⟩ d := by
  pointwise []
  simp only [hA, hX]
  unfold padded
  by_cases hj : jj.val = 0
  · simp only [dif_pos hj, mul_zero, Finset.sum_const_zero]
  · simp only [dif_neg hj]
    unfold uS
    rw [Finset.sum_comm]
    exact Finset.sum_congr rfl fun s _ => Finset.sum_congr rfl fun e _ => mul_comm _ _
end

/-- At extended reals the call and its reference run and end with equal results, the arguments unchanged. -/
theorem equal : Cert.algebraic_CompressIdeal_CompressReferenceIdeal (hCompressIdeal := Cert.CompressIdeal.Gen.facts)
    (hCompressReferenceIdeal := Cert.CompressReferenceIdeal.Gen.facts) := by
  intro m ρ m' ρ' _ hagree
  refine ⟨fun c => out m c,
    (θ_run defs _ _).mono (fun _ h c => ⟨(h c).1.trans (arr4 m c), (h c).2⟩)
      (Cert.CompressIdeal.Value.run_blocks m ρ), ?_⟩
  refine (θ_run Cert.CompressReferenceIdeal.defs _ _).mono (fun _ h c => ⟨(h c).1.trans ?_, (h c).2⟩)
    (Cert.CompressReferenceIdeal.Value.run (F := Ideal) m' ρ')
  obtain ⟨h0, h1, h2, h3⟩ := hagree c
  unfold Cert.CompressReferenceIdeal.Value.res_main_v37
  rw [h0, h1, h2, h3]
  funext i
  obtain ⟨b, j, q, rfl⟩ : ∃ (b : Fin 2) (j : Fin 512) (q : Fin 256), i = ix3 b j q := ⟨i 0, i 1, i 2, eq_ix3 i⟩
  generalize hX : shapeCast Cert.CompressReferenceIdeal.S2x513x16x2x2x64 _ _ = X
  have hXr (b h g : Fin 2) (jj : Fin 513) (s : Fin 16) (e : Fin 64) : X (ix6 b jj s h g e) = padded m c b h g jj s e := by
    rw [← hX]
    exact ref_pad m c b h g jj s e
  clear hX
  generalize hA : shapeCast Cert.CompressReferenceIdeal.S2x16x64x64 (extractStridedSlice (s := Cert.CompressReferenceIdeal.S2x2x16x64x64) _ ![0, 0, 0, 0, 0] _ _) _ = A
  have hAr (h : Fin 2) (s : Fin 16) (e d : Fin 64) : A (ix4 h s e d) = a2 m c (ix3 h ⟨1024 * (0 : Fin 2).val + 64 * s.val + e.val, by simp; omega⟩ d) := by
    rw [← hA]
    exact ref_w0 (a2 m c) h s e d
  clear hA
  generalize hA' : shapeCast Cert.CompressReferenceIdeal.S2x16x64x64 _ _ = A'
  have hAr' (h : Fin 2) (s : Fin 16) (e d : Fin 64) : A' (ix4 h s e d) = a2 m c (ix3 h ⟨1024 * (1 : Fin 2).val + 64 * s.val + e.val, by simp; omega⟩ d) := by
    rw [← hA']
    exact ref_w1 (a2 m c) h s e d
  clear hA'
  generalize hP : Host.dotGeneral (F := Ideal) Cert.CompressReferenceIdeal.dot_S2x16x64x64_S2x513x16x2x2x64_S2x64x2x513x2_21_52_3_014_0_3 none A X = P
  have hPr (b h g : Fin 2) (d : Fin 64) (jj : Fin 513) : P (ix5 h d b jj g) = if hj : jj.val = 0 then 0 else uS m c b h g 0 ⟨jj.val - 1, by omega⟩ d := by
    rw [← hP]
    exact ref_u m c b h g 0 d jj A X hAr (hXr b h g jj)
  clear hP
  generalize hQ : Host.dotGeneral (F := Ideal) Cert.CompressReferenceIdeal.dot_S2x16x64x64_S2x513x16x2x2x64_S2x64x2x513x2_21_52_3_014_0_3 none A' X = Q
  have hQr (b h g : Fin 2) (d : Fin 64) (jj : Fin 513) : Q (ix5 h d b jj g) = if hj : jj.val = 0 then 0 else uS m c b h g 1 ⟨jj.val - 1, by omega⟩ d := by
    rw [← hQ]
    exact ref_u m c b h g 1 d jj A' X hAr' (hXr b h g jj)
  clear hQ
  generalize hB : Host.dotGeneral (F := Ideal) Cert.CompressReferenceIdeal.dot_S2x32x64_S2x32x64x64_S2x64_21_21_n_3_0_0 none _ _ = B
  have hBr (h : Fin 2) (d : Fin 64) : B (ix2 h d) = bS m c h d := by
    rw [← hB]
    exact ref_b (a1 m c) (a2 m c) h d
  clear hB
  generalize hH : addf (F := Ideal) (addf _ _) _ = H
  have hHr (b h g : Fin 2) (j : Fin 512) (d : Fin 64) : H (ix5 b j h g d) = hS m c b h g j d := by
    rw [← hH]
    pointwise []
    have hQ1 : Q (ix5 h d b ⟨1 + j.val, by omega⟩ g) = uS m c b h g 1 j d := by
      rw [hQr, dif_neg (by show ¬ (1 + j.val = 0); omega)]
      exact congrArg (fun t : Fin 512 => uS m c b h g 1 t d) (Fin.ext (by show 1 + j.val - 1 = j.val; omega))
    have hP1 : P (ix5 h d b ⟨j.val, by omega⟩ g)
        = if j.val = 0 then (0 : EReal) else uS m c b h g 0 ⟨j.val - 1, by omega⟩ d := by
      rw [hPr]
      by_cases hj : j.val = 0
      · rw [dif_pos hj, if_pos hj]
      · rw [dif_neg hj, if_neg hj]
    rw [hBr, hP1, hQ1, add_assoc, add_comm]
    rfl
  clear hH
  pointwise []
  show _ = oS m c b ⟨q.val / 128, _⟩ ⟨q.val / 64 % 2, _⟩ j ⟨q.val % 64, _⟩
  unfold oS
  refine Finset.sum_congr rfl fun e _ => ?_
  rw [hHr, mul_comm]
  unfold gel
  rw [mul_assoc (hS m c b ⟨q.val / 128, by omega⟩ ⟨q.val / 64 % 2, by omega⟩ j e) (hS m c b _ _ j e) (hS m c b _ _ j e)]

/-- The reference's frame: it runs and leaves its arguments as they were. -/
theorem ref_frame : Cert.quiescent_CompressReferenceIdeal (hCompressReferenceIdeal := Cert.CompressReferenceIdeal.Gen.facts) := fun m ρ _ =>
  (θ_run Cert.CompressReferenceIdeal.defs _ _).mono (fun r h => ⟨fun c => (h c).2, Idealize.ShloMosaic.sem_eq_zero_of_no_sems (by decide) r.2⟩)
    (Cert.CompressReferenceIdeal.Value.run (F := Ideal) m ρ)
end Cert.CompressIdeal.Val
end
-- ==== Proof.lean ====
module

public import proofs.«01_k».proof.Defs
public import proofs.«01_k».proof.Proof.Launch
public import proofs.«01_k».proof.Proof.BitsLaunch
public import proofs.«01_k».proof.Proof.FfnValue
public import proofs.«01_k».proof.Proof.MixValue
public import proofs.«01_k».proof.Proof.InProjValue
public import proofs.«01_k».proof.Proof.MemKvValue
public import proofs.«01_k».proof.Proof.CompressValue
public import proofs.«01_k».proof.Proof.Gen.Kernel
public import proofs.«01_k».proof.Proof.Gen.KernelIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Value
public import proofs.«01_k».proof.Proof.Gen.MixIdeal.Value
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.FfnReferenceIdeal
public import proofs.«01_k».proof.Proof.Gen.FfnReferenceIdeal.Run
public import proofs.«01_k».proof.Proof.Gen.MixReferenceIdeal
public import proofs.«01_k».proof.Proof.Gen.MixReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CompressIdeal.Value
public import proofs.«01_k».proof.Proof.Gen.CompressReferenceIdeal
public import proofs.«01_k».proof.Proof.Gen.CompressReferenceIdeal.Run
public import Idealize.ShloMosaic.PureOps.IdealRules
public import Idealize.ShloMosaic.Adequacy
public import Idealize.ShloMosaic.Init

@[expose] public section

noncomputable section

namespace Cert.Proof

open Idealize.ShloMosaic Idealize.SL.Sem

/-- The two named constants are the literals they replace, up to the naming. -/
theorem preserves : Cert.preserves_Kernel_KernelIdeal :=
  ⟨IdealRules.named_const.statement Cert.KernelIdeal.κ "qs" .f32 0x3E38AA3B#32 _ rfl,
    IdealRules.named_const.statement Cert.KernelIdeal.κ "neg" .f32 0xF149F2CA#32 _ rfl⟩

theorem claim : Cert.Claim :=
  ⟨Cert.Kernel.Gen.facts, Cert.KernelIdeal.Gen.facts, Cert.Ffn.Gen.facts, Cert.FfnIdeal.Gen.facts, Cert.FfnReferenceIdeal.Gen.facts,
    Cert.Mix.Gen.facts, Cert.MixIdeal.Gen.facts, Cert.MixReferenceIdeal.Gen.facts,
    Cert.InProj.Gen.facts, Cert.InProjIdeal.Gen.facts, Cert.InProjReferenceIdeal.Gen.facts,
    Cert.MemKv.Gen.facts, Cert.MemKvIdeal.Gen.facts, Cert.MemKvReferenceIdeal.Gen.facts,
    Cert.Compress.Gen.facts, Cert.CompressIdeal.Gen.facts, Cert.CompressReferenceIdeal.Gen.facts,
    fun m ρ _ => Cert.Kernel.frame_call m ρ, fun m ρ _ => Cert.KernelIdeal.frame_call m ρ,
    fun m ρ _ => Cert.Ffn.Gen.frame m ρ, fun m ρ _ => Cert.FfnIdeal.Gen.frame m ρ, Cert.FfnIdeal.Val.ref_frame,
    fun m ρ _ => Cert.Mix.Gen.frame m ρ, fun m ρ _ => Cert.MixIdeal.Gen.frame m ρ, Cert.MixIdeal.Val.ref_frame,
    fun m ρ _ => Cert.InProj.Gen.frame m ρ, fun m ρ _ => Cert.InProjIdeal.Gen.frame m ρ, Cert.InProjIdeal.Val.ref_frame,
    fun m ρ _ => Cert.MemKv.Gen.frame m ρ, fun m ρ _ => Cert.MemKvIdeal.Gen.frame m ρ, Cert.MemKvIdeal.Val.ref_frame,
    fun m ρ _ => Cert.Compress.Gen.frame m ρ, fun m ρ _ => Cert.CompressIdeal.Gen.frame m ρ, Cert.CompressIdeal.Val.ref_frame,
    preserves, trivial, Cert.FfnIdeal.Val.equal, trivial, Cert.MixIdeal.Val.equal,
    trivial, Cert.InProjIdeal.Val.equal, trivial, Cert.MemKvIdeal.Val.equal, trivial, Cert.CompressIdeal.Val.equal⟩

end Cert.Proof

end
